-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_memory [hPre_finite_memory : Cert.Pre_finite_memory.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_memory.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_memory [hPre_finite_memory : Cert.Pre_finite_memory.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_memory.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 [hPre_tiles_in_range : Cert.Pre_tiles_in_range.Facts] (m : (ℓ : Loc Cert.Kernel5.nD Cert.Kernel5.τ Cert.Kernel5.sig) → Buf (Elt Bits) ℓ) : Prop :=
  ∀ c : Dev Cert.Kernel5.nD,
    (Cert.Pre_tiles_in_range.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8))) = (fun _ => 1#1)

def Pre_Kernel5Ideal [hPre_tiles_in_range : Cert.Pre_tiles_in_range.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_tiles_in_range.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_tiles_in_range [hPre_tiles_in_range : Cert.Pre_tiles_in_range.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_tiles_in_range.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_memory [hKernel4Ideal : Cert.Kernel4Ideal.Facts] [hPre_finite_memory : Cert.Pre_finite_memory.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_memory m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_memory [hReference4Ideal : Cert.Reference4Ideal.Facts] [hPre_finite_memory : Cert.Pre_finite_memory.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_memory m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] [hPre_tiles_in_range : Cert.Pre_tiles_in_range.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] [hPre_tiles_in_range : Cert.Pre_tiles_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_tiles_in_range [hReference5Ideal : Cert.Reference5Ideal.Facts] [hPre_tiles_in_range : Cert.Pre_tiles_in_range.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_tiles_in_range m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v54_0)) (v1 : (c : Dev Cert.Kernel2Ideal.nD) → Buf (Elt Ideal) ((c.tc : Thread Cert.Kernel2Ideal.nD Cert.Kernel2Ideal.τ).loc Cert.Kernel2Ideal.main_v54_1)) (v2 : (c : Dev Cert.Kernel2Ideal.nD) → Buf (Elt Ideal) ((c.tc : Thread Cert.Kernel2Ideal.nD Cert.Kernel2Ideal.τ).loc Cert.Kernel2Ideal.main_v54_2)) (v3 : (c : Dev Cert.Kernel2Ideal.nD) → Buf (Elt Ideal) ((c.tc : Thread Cert.Kernel2Ideal.nD Cert.Kernel2Ideal.τ).loc Cert.Kernel2Ideal.main_v54_3)) (v4 : (c : Dev Cert.Kernel2Ideal.nD) → Buf (Elt Ideal) ((c.tc : Thread Cert.Kernel2Ideal.nD Cert.Kernel2Ideal.τ).loc Cert.Kernel2Ideal.main_v54_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v54_0) = v0 c
          ∧ r.2.mem ((c.tc : Thread Cert.Kernel2Ideal.nD Cert.Kernel2Ideal.τ).loc Cert.Kernel2Ideal.main_v54_1) = v1 c
          ∧ r.2.mem ((c.tc : Thread Cert.Kernel2Ideal.nD Cert.Kernel2Ideal.τ).loc Cert.Kernel2Ideal.main_v54_2) = v2 c
          ∧ r.2.mem ((c.tc : Thread Cert.Kernel2Ideal.nD Cert.Kernel2Ideal.τ).loc Cert.Kernel2Ideal.main_v54_3) = v3 c
          ∧ r.2.mem ((c.tc : Thread Cert.Kernel2Ideal.nD Cert.Kernel2Ideal.τ).loc Cert.Kernel2Ideal.main_v54_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v147) = v0 c
          ∧ r.2.mem ((c.tc : Thread Cert.Reference2Ideal.nD Cert.Reference2Ideal.τ).loc Cert.Reference2Ideal.main_v149) = v1 c
          ∧ r.2.mem ((c.tc : Thread Cert.Reference2Ideal.nD Cert.Reference2Ideal.τ).loc Cert.Reference2Ideal.main_v151) = v2 c
          ∧ r.2.mem ((c.tc : Thread Cert.Reference2Ideal.nD Cert.Reference2Ideal.τ).loc Cert.Reference2Ideal.main_v152) = v3 c
          ∧ r.2.mem ((c.tc : Thread Cert.Reference2Ideal.nD Cert.Reference2Ideal.τ).loc Cert.Reference2Ideal.main_v153) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite_memory [hKernel4Ideal : Cert.Kernel4Ideal.Facts] [hReference4Ideal : Cert.Reference4Ideal.Facts] [hPre_finite_memory : Cert.Pre_finite_memory.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_memory m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] [hPre_tiles_in_range : Cert.Pre_tiles_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v75) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_inputs : Cert.Pre_finite_inputs.Facts) (hPre_finite_memory : Cert.Pre_finite_memory.Facts) (hPre_tiles_in_range : Cert.Pre_tiles_in_range.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_memory (hKernel4Ideal := hKernel4Ideal) (hPre_finite_memory := hPre_finite_memory)
    ∧ quiescent_Reference4Ideal (hReference4Ideal := hReference4Ideal)
    ∧ quiescent_Reference4Ideal_pre_finite_memory (hReference4Ideal := hReference4Ideal) (hPre_finite_memory := hPre_finite_memory)
    ∧ quiescent_Kernel5 (hKernel5 := hKernel5) (hPre_tiles_in_range := hPre_tiles_in_range)
    ∧ quiescent_Kernel5Ideal (hKernel5Ideal := hKernel5Ideal) (hPre_tiles_in_range := hPre_tiles_in_range)
    ∧ quiescent_Reference5Ideal (hReference5Ideal := hReference5Ideal)
    ∧ quiescent_Reference5Ideal_pre_tiles_in_range (hReference5Ideal := hReference5Ideal) (hPre_tiles_in_range := hPre_tiles_in_range)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_memory (hKernel4Ideal := hKernel4Ideal) (hReference4Ideal := hReference4Ideal) (hPre_finite_memory := hPre_finite_memory)
    ∧ preserves_Kernel5_Kernel5Ideal
    ∧ algebraic_Kernel5Ideal_Reference5Ideal (hKernel5Ideal := hKernel5Ideal) (hReference5Ideal := hReference5Ideal) (hPre_tiles_in_range := hPre_tiles_in_range)
-- ==== Pre_finite_inputs.lean ====
abbrev S32x2048x4x256 : Shape := ⟨4, ![32, 2048, 4, 256]⟩
abbrev S32x2048x4x64 : Shape := ⟨4, ![32, 2048, 4, 64]⟩
abbrev S32x2048x256 : Shape := ⟨3, ![32, 2048, 256]⟩
abbrev S32x2048x64 : Shape := ⟨3, ![32, 2048, 64]⟩
abbrev S32x2048x1024 : Shape := ⟨3, ![32, 2048, 1024]⟩
abbrev S32x2048x512 : Shape := ⟨3, ![32, 2048, 512]⟩
abbrev S1x256x1024 : Shape := ⟨3, ![1, 256, 1024]⟩
abbrev S1x512 : Shape := ⟨2, ![1, 512]⟩
abbrev S1x1024x1024 : Shape := ⟨3, ![1, 1024, 1024]⟩
abbrev S_ : Shape := ⟨0, ![]⟩

class Facts : Prop where
  bcast_S_S32x2048x4x256 : S_.BroadcastsInDim S32x2048x4x256 (![] : Fin 0 → Fin S32x2048x4x256.rank)
  reducesTo_S32x2048x4x256_S_d0_1_2_3 : S32x2048x4x256.ReducesTo [0, 1, 2, 3] S_
  h_S_ : 0 < S_.numel
  bcast_S_S32x2048x4x64 : S_.BroadcastsInDim S32x2048x4x64 (![] : Fin 0 → Fin S32x2048x4x64.rank)
  reducesTo_S32x2048x4x64_S_d0_1_2_3 : S32x2048x4x64.ReducesTo [0, 1, 2, 3] S_
  bcast_S_S32x2048x256 : S_.BroadcastsInDim S32x2048x256 (![] : Fin 0 → Fin S32x2048x256.rank)
  reducesTo_S32x2048x256_S_d0_1_2 : S32x2048x256.ReducesTo [0, 1, 2] S_
  bcast_S_S32x2048x64 : S_.BroadcastsInDim S32x2048x64 (![] : Fin 0 → Fin S32x2048x64.rank)
  reducesTo_S32x2048x64_S_d0_1_2 : S32x2048x64.ReducesTo [0, 1, 2] S_

variable [Facts]

def fn_part1 {F : FTy → Type} [FloatOps F] (main_v13 : IVec S_ 1) (main_v16 : IVec S32x2048x64 1) : IVec S_ 1 :=
  let main_c_5 : IVec S_ 1 := constantI S_ 1 1#1
  let main_v17 : IVec S_ 1 := (fun x v => Host.reduce IntOp.andi x v reducesTo_S32x2048x64_S_d0_1_2 h_S_) main_v16 main_c_5
  let main_v18 : IVec S_ 1 := andi main_v13 main_v17
  main_v18

def fn {F : FTy → Type} [FloatOps F] (main_arg0 : FVec F S32x2048x4x256 .f32) (main_arg1 : FVec F S32x2048x4x64 .f32) (main_arg2 : FVec F S32x2048x256 .f32) (main_arg3 : FVec F S32x2048x64 .f32) (main_arg4 : FVec F S32x2048x1024 .f32) (main_arg5 : FVec F S32x2048x512 .bf16) (main_arg6 : FVec F S1x256x1024 .f32) (main_arg7 : FVec F S1x512 .f32) (main_arg8 : FVec F S1x1024x1024 .f32) : IVec S_ 1 :=
  let main_v0 : FVec F S32x2048x4x256 .f32 := Host.absf main_arg0
  let main_cst : FVec F S_ .f32 := constant S_ .f32 0x7F800000#32
  let main_v1 : FVec F S32x2048x4x256 .f32 := broadcastInDim S32x2048x4x256 ![] bcast_S_S32x2048x4x256 main_cst
  let main_v2 : IVec S32x2048x4x256 1 := cmpf .olt main_v0 main_v1
  let main_c : IVec S_ 1 := constantI S_ 1 1#1
  let main_v3 : IVec S_ 1 := (fun x v => Host.reduce IntOp.andi x v reducesTo_S32x2048x4x256_S_d0_1_2_3 h_S_) main_v2 main_c
  let main_v4 : FVec F S32x2048x4x64 .f32 := Host.absf main_arg1
  let main_cst_0 : FVec F S_ .f32 := constant S_ .f32 0x7F800000#32
  let main_v5 : FVec F S32x2048x4x64 .f32 := broadcastInDim S32x2048x4x64 ![] bcast_S_S32x2048x4x64 main_cst_0
  let main_v6 : IVec S32x2048x4x64 1 := cmpf .olt main_v4 main_v5
  let main_c_1 : IVec S_ 1 := constantI S_ 1 1#1
  let main_v7 : IVec S_ 1 := (fun x v => Host.reduce IntOp.andi x v reducesTo_S32x2048x4x64_S_d0_1_2_3 h_S_) main_v6 main_c_1
  let main_v8 : IVec S_ 1 := andi main_v3 main_v7
  let main_v9 : FVec F S32x2048x256 .f32 := Host.absf main_arg2
  let main_cst_2 : FVec F S_ .f32 := constant S_ .f32 0x7F800000#32
  let main_v10 : FVec F S32x2048x256 .f32 := broadcastInDim S32x2048x256 ![] bcast_S_S32x2048x256 main_cst_2
  let main_v11 : IVec S32x2048x256 1 := cmpf .olt main_v9 main_v10
  let main_c_3 : IVec S_ 1 := constantI S_ 1 1#1
  let main_v12 : IVec S_ 1 := (fun x v => Host.reduce IntOp.andi x v reducesTo_S32x2048x256_S_d0_1_2 h_S_) main_v11 main_c_3
  let main_v13 : IVec S_ 1 := andi main_v8 main_v12
  let main_v14 : FVec F S32x2048x64 .f32 := Host.absf main_arg3
  let main_cst_4 : FVec F S_ .f32 := constant S_ .f32 0x7F800000#32
  let main_v15 : FVec F S32x2048x64 .f32 := broadcastInDim S32x2048x64 ![] bcast_S_S32x2048x64 main_cst_4
  let main_v16 : IVec S32x2048x64 1 := cmpf .olt main_v14 main_v15
  fn_part1 (F := F) main_v13 main_v16
-- ==== Pre_finite_memory.lean ====
abbrev S32x2048x1024 : Shape := ⟨3, ![32, 2048, 1024]⟩
abbrev S32x256x4x128 : Shape := ⟨4, ![32, 256, 4, 128]⟩
abbrev S1x1024 : Shape := ⟨2, ![1, 1024]⟩
abbrev S1x1024x512 : Shape := ⟨3, ![1, 1024, 512]⟩
abbrev S1x512x1024 : Shape := ⟨3, ![1, 512, 1024]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S32x256x4x128 : S_.BroadcastsInDim S32x256x4x128 (![] : Fin 0 → Fin S32x256x4x128.rank)
  reducesTo_S32x256x4x128_S_d0_1_2_3 : S32x256x4x128.ReducesTo [0, 1, 2, 3] S_
  bcast_S_S1x1024 : S_.BroadcastsInDim S1x1024 (![] : Fin 0 → Fin S1x1024.rank)
  reducesTo_S1x1024_S_d0_1 : S1x1024.ReducesTo [0, 1] S_
  bcast_S_S1x1024x512 : S_.BroadcastsInDim S1x1024x512 (![] : Fin 0 → Fin S1x1024x512.rank)
  reducesTo_S1x1024x512_S_d0_1_2 : S1x1024x512.ReducesTo [0, 1, 2] S_

variable [Facts]

def fn_part1 {F : FTy → Type} [FloatOps F] (main_v13 : IVec S_ 1) (main_v16 : IVec S1x1024x512 1) : IVec S_ 1 :=
  let main_c_5 : IVec S_ 1 := constantI S_ 1 1#1
  let main_v17 : IVec S_ 1 := (fun x v => Host.reduce IntOp.andi x v reducesTo_S1x1024x512_S_d0_1_2 h_S_) main_v16 main_c_5
  let main_v18 : IVec S_ 1 := andi main_v13 main_v17
  main_v18

def fn {F : FTy → Type} [FloatOps F] (main_arg0 : FVec F S32x2048x1024 .f32) (main_arg1 : FVec F S32x256x4x128 .f32) (main_arg2 : FVec F S32x256x4x128 .f32) (main_arg3 : FVec F S1x1024 .f32) (main_arg4 : FVec F S1x1024x512 .f32) (main_arg5 : FVec F S1x512x1024 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S32x256x4x128 .f32 := Host.absf main_arg1
  let main_cst_0 : FVec F S_ .f32 := constant S_ .f32 0x7F800000#32
  let main_v5 : FVec F S32x256x4x128 .f32 := broadcastInDim S32x256x4x128 ![] bcast_S_S32x256x4x128 main_cst_0
  let main_v6 : IVec S32x256x4x128 1 := cmpf .olt main_v4 main_v5
  let main_c_1 : IVec S_ 1 := constantI S_ 1 1#1
  let main_v7 : IVec S_ 1 := (fun x v => Host.reduce IntOp.andi x v reducesTo_S32x256x4x128_S_d0_1_2_3 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x512 .f32 := Host.absf main_arg4
  let main_cst_4 : FVec F S_ .f32 := constant S_ .f32 0x7F800000#32
  let main_v15 : FVec F S1x1024x512 .f32 := broadcastInDim S1x1024x512 ![] bcast_S_S1x1024x512 main_cst_4
  let main_v16 : IVec S1x1024x512 1 := cmpf .olt main_v14 main_v15
  fn_part1 (F := F) main_v13 main_v16
-- ==== Pre_tiles_in_range.lean ====
abbrev S544x512x1024 : Shape := ⟨3, ![544, 512, 1024]⟩
abbrev S544 : Shape := ⟨1, ![544]⟩
abbrev S1 : Shape := ⟨1, ![1]⟩
abbrev S32x1024x1024 : Shape := ⟨3, ![32, 1024, 1024]⟩
abbrev S32x1024 : Shape := ⟨2, ![32, 1024]⟩
abbrev S_ : Shape := ⟨0, ![]⟩

class Facts : Prop where
  bcast_S_S544 : S_.BroadcastsInDim S544 (![] : Fin 0 → Fin S544.rank)
  reducesTo_S544_S_d0 : S544.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S544x512x1024 .f32) (main_arg1 : IVec S544 32) (main_arg2 : IVec S1 32) (main_arg3 : FVec F S32x1024x1024 .f32) (main_arg4 : FVec F S32x1024 .f32) (main_arg5 : FVec F S32x1024x1024 .f32) (main_arg6 : FVec F S32x1024 .f32) (main_arg7 : FVec F S32x1024x1024 .f32) (main_arg8 : FVec F S32x1024 .f32) : IVec S_ 1 :=
  let main_c : IVec S_ 32 := constantI S_ 32 0#32
  let main_v0 : IVec S544 32 := broadcastInDim S544 ![] bcast_S_S544 main_c
  let main_v1 : IVec S544 1 := cmpi .sge main_arg1 main_v0
  let main_c_0 : IVec S_ 1 := constantI S_ 1 1#1
  let main_v2 : IVec S_ 1 := (fun x v => Host.reduce IntOp.andi x v reducesTo_S544_S_d0 h_S_) main_v1 main_c_0
  let main_c_1 : IVec S_ 32 := constantI S_ 32 32#32
  let main_v3 : IVec S544 32 := broadcastInDim S544 ![] bcast_S_S544 main_c_1
  let main_v4 : IVec S544 1 := cmpi .slt main_arg1 main_v3
  let main_c_2 : IVec S_ 1 := constantI S_ 1 1#1
  let main_v5 : IVec S_ 1 := (fun x v => Host.reduce IntOp.andi x v reducesTo_S544_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg2 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Kernel.lean ====
abbrev S32x2048x4x256 : Shape := ⟨4, ![32, 2048, 4, 256]⟩
abbrev S32x2048x4x64 : Shape := ⟨4, ![32, 2048, 4, 64]⟩
abbrev S32x2048x256 : Shape := ⟨3, ![32, 2048, 256]⟩
abbrev S32x2048x64 : Shape := ⟨3, ![32, 2048, 64]⟩
abbrev S32x2048x1024 : Shape := ⟨3, ![32, 2048, 1024]⟩
abbrev S32x2048x512 : Shape := ⟨3, ![32, 2048, 512]⟩
abbrev S1x256x1024 : Shape := ⟨3, ![1, 256, 1024]⟩
abbrev S1x512 : Shape := ⟨2, ![1, 512]⟩
abbrev S1x1024x1024 : Shape := ⟨3, ![1, 1024, 1024]⟩
abbrev S32x2048x4x32 : Shape := ⟨4, ![32, 2048, 4, 32]⟩
abbrev S_ : Shape := ⟨0, ![]⟩
abbrev S65536x1x128 : Shape := ⟨3, ![65536, 1, 128]⟩
abbrev S65536x4x128 : Shape := ⟨3, ![65536, 4, 128]⟩
abbrev S65536x4x256 : Shape := ⟨3, ![65536, 4, 256]⟩
abbrev S65536x4x512 : Shape := ⟨3, ![65536, 4, 512]⟩
abbrev S65536x2048 : Shape := ⟨2, ![65536, 2048]⟩
abbrev S32x2048x32 : Shape := ⟨3, ![32, 2048, 32]⟩
abbrev S1x32x1x2048x1x32 : Shape := ⟨6, ![1, 32, 1, 2048, 1, 32]⟩
abbrev S1x32x1x2048x4x32 : Shape := ⟨6, ![1, 32, 1, 2048, 4, 32]⟩
abbrev S32x2048x128 : Shape := ⟨3, ![32, 2048, 128]⟩
abbrev S256x1024 : Shape := ⟨2, ![256, 1024]⟩
abbrev S256x4x256 : Shape := ⟨3, ![256, 4, 256]⟩
abbrev S256x4x128 : Shape := ⟨3, ![256, 4, 128]⟩
abbrev S4x256x128 : Shape := ⟨3, ![4, 256, 128]⟩
abbrev S512 : Shape := ⟨1, ![512]⟩
abbrev S1024x1024 : Shape := ⟨2, ![1024, 1024]⟩
abbrev S65536x1024 : Shape := ⟨2, ![65536, 1024]⟩
abbrev S65536x512 : Shape := ⟨2, ![65536, 512]⟩
abbrev S256x2048 : Shape := ⟨2, ![256, 2048]⟩
abbrev S1x2048x512 : Shape := ⟨3, ![1, 2048, 512]⟩
abbrev S256x512 : Shape := ⟨2, ![256, 512]⟩
abbrev S4x256x256 : Shape := ⟨3, ![4, 256, 256]⟩
abbrev S4x256x1 : Shape := ⟨3, ![4, 256, 1]⟩
abbrev S1x512x512 : Shape := ⟨3, ![1, 512, 512]⟩
abbrev S512x512 : Shape := ⟨2, ![512, 512]⟩
abbrev S512x256 : Shape := ⟨2, ![512, 256]⟩
abbrev S1x256x1 : Shape := ⟨3, ![1, 256, 1]⟩
abbrev S256x1 : Shape := ⟨2, ![256, 1]⟩
abbrev S256 : Shape := ⟨1, ![256]⟩
abbrev S1x256x256 : Shape := ⟨3, ![1, 256, 256]⟩
abbrev S256x256 : Shape := ⟨2, ![256, 256]⟩
abbrev S1x256x128 : Shape := ⟨3, ![1, 256, 128]⟩
abbrev S256x128 : Shape := ⟨2, ![256, 128]⟩
abbrev S512x1024 : Shape := ⟨2, ![512, 1024]⟩

abbrev nBuf : Space → Nat
  | .hbm => 65
  | .vmem => 16
  | .smem => 0
  | _ => 0

abbrev bufTy : (tb : Table) → Fin (tcTables nBuf tb) → BufTy
  | .hbm, ⟨0, _⟩ => ⟨S32x2048x4x256, .f32⟩
  | .hbm, ⟨1, _⟩ => ⟨S32x2048x4x64, .f32⟩
  | .hbm, ⟨2, _⟩ => ⟨S32x2048x256, .f32⟩
  | .hbm, ⟨3, _⟩ => ⟨S32x2048x64, .f32⟩
  | .hbm, ⟨4, _⟩ => ⟨S32x2048x1024, .f32⟩
  | .hbm, ⟨5, _⟩ => ⟨S32x2048x512, .bf16⟩
  | .hbm, ⟨6, _⟩ => ⟨S1x256x1024, .f32⟩
  | .hbm, ⟨7, _⟩ => ⟨S1x512, .f32⟩
  | .hbm, ⟨8, _⟩ => ⟨S1x1024x1024, .f32⟩
  | .hbm, ⟨9, _⟩ => ⟨S32x2048x4x32, .f32⟩
  | .hbm, ⟨10, _⟩ => ⟨S_, .f32⟩
  | .hbm, ⟨11, _⟩ => ⟨S32x2048x4x32, .f32⟩
  | .hbm, ⟨12, _⟩ => ⟨S32x2048x4x32, .f32⟩
  | .hbm, ⟨13, _⟩ => ⟨S65536x1x128, .f32⟩
  | .hbm, ⟨14, _⟩ => ⟨S65536x4x128, .f32⟩
  | .hbm, ⟨15, _⟩ => ⟨S32x2048x4x32, .f32⟩
  | .hbm, ⟨16, _⟩ => ⟨S_, .f32⟩
  | .hbm, ⟨17, _⟩ => ⟨S32x2048x4x32, .f32⟩
  | .hbm, ⟨18, _⟩ => ⟨S32x2048x4x32, .f32⟩
  | .hbm, ⟨19, _⟩ => ⟨S65536x1x128, .f32⟩
  | .hbm, ⟨20, _⟩ => ⟨S65536x4x128, .f32⟩
  | .hbm, ⟨21, _⟩ => ⟨S_, .f32⟩
  | .hbm, ⟨22, _⟩ => ⟨S32x2048x4x256, .f32⟩
  | .hbm, ⟨23, _⟩ => ⟨S32x2048x4x256, .f32⟩
  | .hbm, ⟨24, _⟩ => ⟨S65536x4x256, .f32⟩
  | .hbm, ⟨25, _⟩ => ⟨S65536x4x128, .i32⟩
  | .hbm, ⟨26, _⟩ => ⟨S65536x4x128, .i32⟩
  | .hbm, ⟨27, _⟩ => ⟨S_, .i32⟩
  | .hbm, ⟨28, _⟩ => ⟨S65536x4x128, .i32⟩
  | .hbm, ⟨29, _⟩ => ⟨S65536x4x128, .i32⟩
  | .hbm, ⟨30, _⟩ => ⟨S65536x4x128, .i1⟩
  | .hbm, ⟨31, _⟩ => ⟨S_, .i32⟩
  | .hbm, ⟨32, _⟩ => ⟨S65536x4x128, .i32⟩
  | .hbm, ⟨33, _⟩ => ⟨S65536x4x128, .i32⟩
  | .hbm, ⟨34, _⟩ => ⟨S65536x4x128, .i1⟩
  | .hbm, ⟨35, _⟩ => ⟨S65536x4x128, .i1⟩
  | .hbm, ⟨36, _⟩ => ⟨S_, .f32⟩
  | .hbm, ⟨37, _⟩ => ⟨S65536x4x128, .f32⟩
  | .hbm, ⟨38, _⟩ => ⟨S65536x4x128, .f32⟩
  | .hbm, ⟨39, _⟩ => ⟨S65536x4x128, .f32⟩
  | .hbm, ⟨40, _⟩ => ⟨S65536x4x512, .f32⟩
  | .hbm, ⟨41, _⟩ => ⟨S65536x4x512, .bf16⟩
  | .hbm, ⟨42, _⟩ => ⟨S65536x2048, .bf16⟩
  | .hbm, ⟨43, _⟩ => ⟨S32x2048x32, .f32⟩
  | .hbm, ⟨44, _⟩ => ⟨S1x32x1x2048x1x32, .f32⟩
  | .hbm, ⟨45, _⟩ => ⟨S1x32x1x2048x4x32, .f32⟩
  | .hbm, ⟨46, _⟩ => ⟨S32x2048x128, .f32⟩
  | .hbm, ⟨47, _⟩ => ⟨S32x2048x32, .f32⟩
  | .hbm, ⟨48, _⟩ => ⟨S1x32x1x2048x1x32, .f32⟩
  | .hbm, ⟨49, _⟩ => ⟨S1x32x1x2048x4x32, .f32⟩
  | .hbm, ⟨50, _⟩ => ⟨S32x2048x128, .f32⟩
  | .hbm, ⟨51, _⟩ => ⟨S32x2048x512, .f32⟩
  | .hbm, ⟨52, _⟩ => ⟨S32x2048x512, .bf16⟩
  | .hbm, ⟨53, _⟩ => ⟨S256x1024, .f32⟩
  | .hbm, ⟨54, _⟩ => ⟨S256x4x256, .f32⟩
  | .hbm, ⟨55, _⟩ => ⟨S256x4x128, .f32⟩
  | .hbm, ⟨56, _⟩ => ⟨S4x256x128, .f32⟩
  | .hbm, ⟨57, _⟩ => ⟨S4x256x128, .bf16⟩
  | .hbm, ⟨58, _⟩ => ⟨S512, .f32⟩
  | .hbm, ⟨59, _⟩ => ⟨S1x512, .f32⟩
  | .hbm, ⟨60, _⟩ => ⟨S1024x1024, .f32⟩
  | .hbm, ⟨61, _⟩ => ⟨S1024x1024, .bf16⟩
  | .hbm, ⟨62, _⟩ => ⟨S65536x1024, .f32⟩
  | .hbm, ⟨63, _⟩ => ⟨S65536x512, .bf16⟩
  | .hbm, ⟨64, _⟩ => ⟨S65536x1024, .f32⟩
  | .local _ .vmem, ⟨0, _⟩ => ⟨S256x2048, .bf16⟩
  | .local _ .vmem, ⟨1, _⟩ => ⟨S256x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S256x1024, .f32⟩
  | .local _ .vmem, ⟨5, _⟩ => ⟨S256x1024, .f32⟩
  | .local _ .vmem, ⟨6, _⟩ => ⟨S256x512, .bf16⟩
  | .local _ .vmem, ⟨7, _⟩ => ⟨S256x512, .bf16⟩
  | .local _ .vmem, ⟨8, _⟩ => ⟨S4x256x128, .bf16⟩
  | .local _ .vmem, ⟨9, _⟩ => ⟨S1x512, .f32⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S4x256x256, .f32⟩
  | .local _ .vmem, ⟨14, _⟩ => ⟨S4x256x1, .f32⟩
  | .local _ .vmem, ⟨15, _⟩ => ⟨S4x256x1, .f32⟩
  | _, _ => ⟨S32x2048x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 8], ![false, false]⟩

@[reducible] def k0_t1_loop (i : grid0.Coords) : Scf.Loop 32 :=
  let c0_i32_19 : BitVec 32 := 0#32
  let arg1 : BitVec 32 := BitVec.ofNat 32 (i 1).val
  let c256_i32_10 : BitVec 32 := 256#32
  let v17 : BitVec 32 := Scalar.muli arg1 c256_i32_10
  let c256_i32_11 : BitVec 32 := 256#32
  let v18 : BitVec 32 := Scalar.addi v17 c256_i32_11
  let c512_i32 : BitVec 32 := 512#32
  let v19 : BitVec 32 := Scalar.addi v18 c512_i32
  let c1_i32 : BitVec 32 := 1#32
  let v20 : BitVec 32 := Scalar.subi v19 c1_i32
  let c0_i32 : BitVec 32 := 0#32
  let v22 : BitVec 1 := Scalar.cmpi .sgt v20 c0_i32
  let v23 : BitVec 32 := Scalar.extui v22
  let c0_i32_13 : BitVec 32 := 0#32
  let v24 : BitVec 1 := Scalar.cmpi .slt v20 c0_i32_13
  let v25 : BitVec 32 := Scalar.extui v24
  let v26 : BitVec 32 := Scalar.subi v23 v25
  let c512_i32_12 : BitVec 32 := 512#32
  let c0_i32_14 : BitVec 32 := 0#32
  let v27 : BitVec 1 := Scalar.cmpi .sgt c512_i32_12 c0_i32_14
  let v28 : BitVec 32 := Scalar.extui v27
  let c0_i32_15 : BitVec 32 := 0#32
  let v29 : BitVec 1 := Scalar.cmpi .slt c512_i32_12 c0_i32_15
  let v30 : BitVec 32 := Scalar.extui v29
  let v31 : BitVec 32 := Scalar.subi v28 v30
  let v32 : BitVec 1 := Scalar.cmpi .ne v26 v31
  let v33 : BitVec 32 := Scalar.remsi v20 c512_i32_12
  let c0_i32_16 : BitVec 32 := 0#32
  let v34 : BitVec 1 := Scalar.cmpi .ne v33 c0_i32_16
  let v35 : BitVec 1 := Scalar.andi v32 v34
  let v21 : BitVec 32 := Scalar.divsi v20 c512_i32_12
  let c1_i32_17 : BitVec 32 := 1#32
  let v36 : BitVec 32 := Scalar.subi v21 c1_i32_17
  let v37 : BitVec 32 := Scalar.select v35 v36 v21
  let v38 : BitVec 32 := Scalar.subi v37 c0_i32_19
  let c1_i32_20 : BitVec 32 := 1#32
  let v40 : BitVec 32 := Scalar.divsi v38 c1_i32_20
  let v41 : BitVec 32 := Scalar.muli v40 c1_i32_20
  let v42 : BitVec 32 := Scalar.addi c0_i32_19 v41
  let c1_i32_21 : BitVec 32 := 1#32
  ⟨c0_i32_19, v42, c1_i32_21⟩
def k0_mult1 (i : grid0.Coords) (k0_t1 : Fin (k0_t1_loop i).trips) : BitVec 32 :=
  let c0_i32_19 : BitVec 32 := 0#32
  let c1_i32_21 : BitVec 32 := 1#32
  let arg13 : BitVec 32 := Scf.iv c0_i32_19 c1_i32_21 k0_t1
  let c512_i32_76 : BitVec 32 := 512#32
  let v112 : BitVec 32 := Scalar.muli arg13 c512_i32_76
  v112
def k0_off1 (i : grid0.Coords) (k0_t1 : Fin (k0_t1_loop i).trips) : Fin 3 → Nat :=
  let c0_77 : Index := 0#32
  let c0_i32_19 : BitVec 32 := 0#32
  let c1_i32_21 : BitVec 32 := 1#32
  let arg13 : BitVec 32 := Scf.iv c0_i32_19 c1_i32_21 k0_t1
  let c512_i32_76 : BitVec 32 := 512#32
  let v112 : BitVec 32 := Scalar.muli arg13 c512_i32_76
  let v113 : BitVec 32 := v112
  let v114 : Index := Scalar.indexCast v113
  let c0_78 : Index := 0#32
  ![0, v114.toNat, 0]
@[reducible] def k0_t2_loop (i : grid0.Coords) : Scf.Loop 32 :=
  let c0_i32_19 : BitVec 32 := 0#32
  let arg1 : BitVec 32 := BitVec.ofNat 32 (i 1).val
  let c256_i32_10 : BitVec 32 := 256#32
  let v17 : BitVec 32 := Scalar.muli arg1 c256_i32_10
  let c256_i32_11 : BitVec 32 := 256#32
  let v18 : BitVec 32 := Scalar.addi v17 c256_i32_11
  let c512_i32 : BitVec 32 := 512#32
  let v19 : BitVec 32 := Scalar.addi v18 c512_i32
  let c1_i32 : BitVec 32 := 1#32
  let v20 : BitVec 32 := Scalar.subi v19 c1_i32
  let c0_i32 : BitVec 32 := 0#32
  let v22 : BitVec 1 := Scalar.cmpi .sgt v20 c0_i32
  let v23 : BitVec 32 := Scalar.extui v22
  let c0_i32_13 : BitVec 32 := 0#32
  let v24 : BitVec 1 := Scalar.cmpi .slt v20 c0_i32_13
  let v25 : BitVec 32 := Scalar.extui v24
  let v26 : BitVec 32 := Scalar.subi v23 v25
  let c512_i32_12 : BitVec 32 := 512#32
  let c0_i32_14 : BitVec 32 := 0#32
  let v27 : BitVec 1 := Scalar.cmpi .sgt c512_i32_12 c0_i32_14
  let v28 : BitVec 32 := Scalar.extui v27
  let c0_i32_15 : BitVec 32 := 0#32
  let v29 : BitVec 1 := Scalar.cmpi .slt c512_i32_12 c0_i32_15
  let v30 : BitVec 32 := Scalar.extui v29
  let v31 : BitVec 32 := Scalar.subi v28 v30
  let v32 : BitVec 1 := Scalar.cmpi .ne v26 v31
  let v33 : BitVec 32 := Scalar.remsi v20 c512_i32_12
  let c0_i32_16 : BitVec 32 := 0#32
  let v34 : BitVec 1 := Scalar.cmpi .ne v33 c0_i32_16
  let v35 : BitVec 1 := Scalar.andi v32 v34
  let v21 : BitVec 32 := Scalar.divsi v20 c512_i32_12
  let c1_i32_17 : BitVec 32 := 1#32
  let v36 : BitVec 32 := Scalar.subi v21 c1_i32_17
  let v37 : BitVec 32 := Scalar.select v35 v36 v21
  let v38 : BitVec 32 := Scalar.subi v37 c0_i32_19
  let c1_i32_20 : BitVec 32 := 1#32
  let v40 : BitVec 32 := Scalar.divsi v38 c1_i32_20
  let v41 : BitVec 32 := Scalar.muli v40 c1_i32_20
  let v42 : BitVec 32 := Scalar.addi c0_i32_19 v41
  let v39 : BitVec 32 := Scalar.addi c0_i32_19 v38
  let c1_i32_22 : BitVec 32 := 1#32
  ⟨v42, v39, c1_i32_22⟩
def k0_mult2 (i : grid0.Coords) (k0_t2 : Fin (k0_t2_loop i).trips) : BitVec 32 :=
  let c0_i32_19 : BitVec 32 := 0#32
  let arg1 : BitVec 32 := BitVec.ofNat 32 (i 1).val
  let c256_i32_10 : BitVec 32 := 256#32
  let v17 : BitVec 32 := Scalar.muli arg1 c256_i32_10
  let c256_i32_11 : BitVec 32 := 256#32
  let v18 : BitVec 32 := Scalar.addi v17 c256_i32_11
  let c512_i32 : BitVec 32 := 512#32
  let v19 : BitVec 32 := Scalar.addi v18 c512_i32
  let c1_i32 : BitVec 32 := 1#32
  let v20 : BitVec 32 := Scalar.subi v19 c1_i32
  let c0_i32 : BitVec 32 := 0#32
  let v22 : BitVec 1 := Scalar.cmpi .sgt v20 c0_i32
  let v23 : BitVec 32 := Scalar.extui v22
  let c0_i32_13 : BitVec 32 := 0#32
  let v24 : BitVec 1 := Scalar.cmpi .slt v20 c0_i32_13
  let v25 : BitVec 32 := Scalar.extui v24
  let v26 : BitVec 32 := Scalar.subi v23 v25
  let c512_i32_12 : BitVec 32 := 512#32
  let c0_i32_14 : BitVec 32 := 0#32
  let v27 : BitVec 1 := Scalar.cmpi .sgt c512_i32_12 c0_i32_14
  let v28 : BitVec 32 := Scalar.extui v27
  let c0_i32_15 : BitVec 32 := 0#32
  let v29 : BitVec 1 := Scalar.cmpi .slt c512_i32_12 c0_i32_15
  let v30 : BitVec 32 := Scalar.extui v29
  let v31 : BitVec 32 := Scalar.subi v28 v30
  let v32 : BitVec 1 := Scalar.cmpi .ne v26 v31
  let v33 : BitVec 32 := Scalar.remsi v20 c512_i32_12
  let c0_i32_16 : BitVec 32 := 0#32
  let v34 : BitVec 1 := Scalar.cmpi .ne v33 c0_i32_16
  let v35 : BitVec 1 := Scalar.andi v32 v34
  let v21 : BitVec 32 := Scalar.divsi v20 c512_i32_12
  let c1_i32_17 : BitVec 32 := 1#32
  let v36 : BitVec 32 := Scalar.subi v21 c1_i32_17
  let v37 : BitVec 32 := Scalar.select v35 v36 v21
  let v38 : BitVec 32 := Scalar.subi v37 c0_i32_19
  let c1_i32_20 : BitVec 32 := 1#32
  let v40 : BitVec 32 := Scalar.divsi v38 c1_i32_20
  let v41 : BitVec 32 := Scalar.muli v40 c1_i32_20
  let v42 : BitVec 32 := Scalar.addi c0_i32_19 v41
  let c1_i32_22 : BitVec 32 := 1#32
  let arg13 : BitVec 32 := Scf.iv v42 c1_i32_22 k0_t2
  let c512_i32_76 : BitVec 32 := 512#32
  let v112 : BitVec 32 := Scalar.muli arg13 c512_i32_76
  v112
def k0_off2 (i : grid0.Coords) (k0_t2 : Fin (k0_t2_loop i).trips) : Fin 3 → Nat :=
  let c0_77 : Index := 0#32
  let c0_i32_19 : BitVec 32 := 0#32
  let arg1 : BitVec 32 := BitVec.ofNat 32 (i 1).val
  let c256_i32_10 : BitVec 32 := 256#32
  let v17 : BitVec 32 := Scalar.muli arg1 c256_i32_10
  let c256_i32_11 : BitVec 32 := 256#32
  let v18 : BitVec 32 := Scalar.addi v17 c256_i32_11
  let c512_i32 : BitVec 32 := 512#32
  let v19 : BitVec 32 := Scalar.addi v18 c512_i32
  let c1_i32 : BitVec 32 := 1#32
  let v20 : BitVec 32 := Scalar.subi v19 c1_i32
  let c0_i32 : BitVec 32 := 0#32
  let v22 : BitVec 1 := Scalar.cmpi .sgt v20 c0_i32
  let v23 : BitVec 32 := Scalar.extui v22
  let c0_i32_13 : BitVec 32 := 0#32
  let v24 : BitVec 1 := Scalar.cmpi .slt v20 c0_i32_13
  let v25 : BitVec 32 := Scalar.extui v24
  let v26 : BitVec 32 := Scalar.subi v23 v25
  let c512_i32_12 : BitVec 32 := 512#32
  let c0_i32_14 : BitVec 32 := 0#32
  let v27 : BitVec 1 := Scalar.cmpi .sgt c512_i32_12 c0_i32_14
  let v28 : BitVec 32 := Scalar.extui v27
  let c0_i32_15 : BitVec 32 := 0#32
  let v29 : BitVec 1 := Scalar.cmpi .slt c512_i32_12 c0_i32_15
  let v30 : BitVec 32 := Scalar.extui v29
  let v31 : BitVec 32 := Scalar.subi v28 v30
  let v32 : BitVec 1 := Scalar.cmpi .ne v26 v31
  let v33 : BitVec 32 := Scalar.remsi v20 c512_i32_12
  let c0_i32_16 : BitVec 32 := 0#32
  let v34 : BitVec 1 := Scalar.cmpi .ne v33 c0_i32_16
  let v35 : BitVec 1 := Scalar.andi v32 v34
  let v21 : BitVec 32 := Scalar.divsi v20 c512_i32_12
  let c1_i32_17 : BitVec 32 := 1#32
  let v36 : BitVec 32 := Scalar.subi v21 c1_i32_17
  let v37 : BitVec 32 := Scalar.select v35 v36 v21
  let v38 : BitVec 32 := Scalar.subi v37 c0_i32_19
  let c1_i32_20 : BitVec 32 := 1#32
  let v40 : BitVec 32 := Scalar.divsi v38 c1_i32_20
  let v41 : BitVec 32 := Scalar.muli v40 c1_i32_20
  let v42 : BitVec 32 := Scalar.addi c0_i32_19 v41
  let c1_i32_22 : BitVec 32 := 1#32
  let arg13 : BitVec 32 := Scf.iv v42 c1_i32_22 k0_t2
  let c512_i32_76 : BitVec 32 := 512#32
  let v112 : BitVec 32 := Scalar.muli arg13 c512_i32_76
  let v113 : BitVec 32 := v112
  let v114 : Index := Scalar.indexCast v113
  let c0_78 : Index := 0#32
  ![0, v114.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32x2048x4x256 : Shape := ⟨4, ![32, 2048, 4, 256]⟩
abbrev S32x2048x4x64 : Shape := ⟨4, ![32, 2048, 4, 64]⟩
abbrev S32x2048x256 : Shape := ⟨3, ![32, 2048, 256]⟩
abbrev S32x2048x64 : Shape := ⟨3, ![32, 2048, 64]⟩
abbrev S32x2048x1024 : Shape := ⟨3, ![32, 2048, 1024]⟩
abbrev S32x2048x512 : Shape := ⟨3, ![32, 2048, 512]⟩
abbrev S1x256x1024 : Shape := ⟨3, ![1, 256, 1024]⟩
abbrev S1x512 : Shape := ⟨2, ![1, 512]⟩
abbrev S1x1024x1024 : Shape := ⟨3, ![1, 1024, 1024]⟩
abbrev S2048 : Shape := ⟨1, ![2048]⟩
abbrev S32x2048x2048x4 : Shape := ⟨4, ![32, 2048, 2048, 4]⟩
abbrev S32x4x2048x2048 : Shape := ⟨4, ![32, 4, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S32x4x2048 : Shape := ⟨3, ![32, 4, 2048]⟩
abbrev S32x4x2048x1 : Shape := ⟨4, ![32, 4, 2048, 1]⟩
abbrev S32x256x4x2048 : Shape := ⟨4, ![32, 256, 4, 2048]⟩
abbrev S256x1024 : Shape := ⟨2, ![256, 1024]⟩
abbrev S256x4x256 : Shape := ⟨3, ![256, 4, 256]⟩
abbrev S256x4x128 : Shape := ⟨3, ![256, 4, 128]⟩
abbrev S4x128x32x2048 : Shape := ⟨4, ![4, 128, 32, 2048]⟩
abbrev S32x2048x4x128 : Shape := ⟨4, ![32, 2048, 4, 128]⟩
abbrev S32x2048 : Shape := ⟨2, ![32, 2048]⟩
abbrev S32x2048x1 : Shape := ⟨3, ![32, 2048, 1]⟩
abbrev S512 : Shape := ⟨1, ![512]⟩
abbrev S1x1x512 : Shape := ⟨3, ![1, 1, 512]⟩
abbrev S1024x1024 : Shape := ⟨2, ![1024, 1024]⟩
abbrev S65536x1024 : Shape := ⟨2, ![65536, 1024]⟩

abbrev nBuf : Space → Nat
  | .hbm => 73
  | .vmem => 0
  | .smem => 0
  | _ => 0

abbrev bufTy : (tb : Table) → Fin (tcTables nBuf tb) → BufTy
  | .hbm, ⟨0, _⟩ => ⟨S32x2048x4x256, .f32⟩
  | .hbm, ⟨1, _⟩ => ⟨S32x2048x4x64, .f32⟩
  | .hbm, ⟨2, _⟩ => ⟨S32x2048x256, .f32⟩
  | .hbm, ⟨3, _⟩ => ⟨S32x2048x64, .f32⟩
  | .hbm, ⟨4, _⟩ => ⟨S32x2048x1024, .f32⟩
  | .hbm, ⟨5, _⟩ => ⟨S32x2048x512, .bf16⟩
  | .hbm, ⟨6, _⟩ => ⟨S1x256x1024, .f32⟩
  | .hbm, ⟨7, _⟩ => ⟨S1x512, .f32⟩
  | .hbm, ⟨8, _⟩ => ⟨S1x1024x1024, .f32⟩
  | .hbm, ⟨9, _⟩ => ⟨S2048, .i32⟩
  | .hbm, ⟨10, _⟩ => ⟨S32x2048x2048x4, .f32⟩
  | .hbm, ⟨11, _⟩ => ⟨S32x4x2048x2048, .f32⟩
  | .hbm, ⟨12, _⟩ => ⟨S32x2048x2048x4, .f32⟩
  | .hbm, ⟨13, _⟩ => ⟨S32x4x2048x2048, .f32⟩
  | .hbm, ⟨14, _⟩ => ⟨S32x4x2048x2048, .f32⟩
  | .hbm, ⟨15, _⟩ => ⟨S_, .f32⟩
  | .hbm, ⟨16, _⟩ => ⟨S32x4x2048x2048, .f32⟩
  | .hbm, ⟨17, _⟩ => ⟨S32x4x2048x2048, .f32⟩
  | .hbm, ⟨18, _⟩ => ⟨S1x2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S_, .f32⟩
  | .hbm, ⟨24, _⟩ => ⟨S_, .f32⟩
  | .hbm, ⟨25, _⟩ => ⟨S32x4x2048x2048, .i1⟩
  | .hbm, ⟨26, _⟩ => ⟨S32x4x2048x2048, .f32⟩
  | .hbm, ⟨27, _⟩ => ⟨S32x4x2048x2048, .f32⟩
  | .hbm, ⟨28, _⟩ => ⟨S_, .f32⟩
  | .hbm, ⟨29, _⟩ => ⟨S32x4x2048, .f32⟩
  | .hbm, ⟨30, _⟩ => ⟨S_, .f32⟩
  | .hbm, ⟨31, _⟩ => ⟨S32x4x2048, .f32⟩
  | .hbm, ⟨32, _⟩ => ⟨S32x4x2048, .f32⟩
  | .hbm, ⟨33, _⟩ => ⟨S32x4x2048x1, .f32⟩
  | .hbm, ⟨34, _⟩ => ⟨S32x4x2048x2048, .f32⟩
  | .hbm, ⟨35, _⟩ => ⟨S32x4x2048x2048, .f32⟩
  | .hbm, ⟨36, _⟩ => ⟨S32x4x2048x2048, .f32⟩
  | .hbm, ⟨37, _⟩ => ⟨S_, .f32⟩
  | .hbm, ⟨38, _⟩ => ⟨S32x4x2048, .f32⟩
  | .hbm, ⟨39, _⟩ => ⟨S32x4x2048x1, .f32⟩
  | .hbm, ⟨40, _⟩ => ⟨S32x4x2048x2048, .f32⟩
  | .hbm, ⟨41, _⟩ => ⟨S32x4x2048x2048, .f32⟩
  | .hbm, ⟨42, _⟩ => ⟨S32x256x4x2048, .f32⟩
  | .hbm, ⟨43, _⟩ => ⟨S32x2048x4x256, .f32⟩
  | .hbm, ⟨44, _⟩ => ⟨S256x1024, .f32⟩
  | .hbm, ⟨45, _⟩ => ⟨S256x4x256, .f32⟩
  | .hbm, ⟨46, _⟩ => ⟨S256x4x128, .f32⟩
  | .hbm, ⟨47, _⟩ => ⟨S4x128x32x2048, .f32⟩
  | .hbm, ⟨48, _⟩ => ⟨S32x2048x4x128, .f32⟩
  | .hbm, ⟨49, _⟩ => ⟨S32x2048x512, .f32⟩
  | .hbm, ⟨50, _⟩ => ⟨S32x2048x512, .f32⟩
  | .hbm, ⟨51, _⟩ => ⟨S_, .f32⟩
  | .hbm, ⟨52, _⟩ => ⟨S32x2048, .f32⟩
  | .hbm, ⟨53, _⟩ => ⟨S32x2048x1, .f32⟩
  | .hbm, ⟨54, _⟩ => ⟨S_, .f32⟩
  | .hbm, ⟨55, _⟩ => ⟨S32x2048x1, .f32⟩
  | .hbm, ⟨56, _⟩ => ⟨S32x2048x1, .f32⟩
  | .hbm, ⟨57, _⟩ => ⟨S_, .f32⟩
  | .hbm, ⟨58, _⟩ => ⟨S32x2048x1, .f32⟩
  | .hbm, ⟨59, _⟩ => ⟨S32x2048x1, .f32⟩
  | .hbm, ⟨60, _⟩ => ⟨S32x2048x1, .f32⟩
  | .hbm, ⟨61, _⟩ => ⟨S32x2048x512, .f32⟩
  | .hbm, ⟨62, _⟩ => ⟨S32x2048x512, .f32⟩
  | .hbm, ⟨63, _⟩ => ⟨S512, .f32⟩
  | .hbm, ⟨64, _⟩ => ⟨S1x1x512, .f32⟩
  | .hbm, ⟨65, _⟩ => ⟨S32x2048x512, .f32⟩
  | .hbm, ⟨66, _⟩ => ⟨S32x2048x512, .f32⟩
  | .hbm, ⟨67, _⟩ => ⟨S32x2048x512, .f32⟩
  | .hbm, ⟨68, _⟩ => ⟨S32x2048x1024, .f32⟩
  | .hbm, ⟨69, _⟩ => ⟨S1024x1024, .f32⟩
  | .hbm, ⟨70, _⟩ => ⟨S32x2048x1024, .f32⟩
  | .hbm, ⟨71, _⟩ => ⟨S32x2048x1024, .f32⟩
  | .hbm, ⟨72, _⟩ => ⟨S65536x1024, .f32⟩
  | _, _ => ⟨S32x2048x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel2.lean ====
abbrev S32x2048x1024 : Shape := ⟨3, ![32, 2048, 1024]⟩
abbrev S1024 : Shape := ⟨1, ![1024]⟩
abbrev S1024x2496 : Shape := ⟨2, ![1024, 2496]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S1024x704 : Shape := ⟨2, ![1024, 704]⟩
abbrev S384x4x192 : Shape := ⟨3, ![384, 4, 192]⟩
abbrev S256x4x256 : Shape := ⟨3, ![256, 4, 256]⟩
abbrev S1x1024 : Shape := ⟨2, ![1, 1024]⟩
abbrev S1024x1792 : Shape := ⟨2, ![1024, 1792]⟩
abbrev S1024x640 : Shape := ⟨2, ![1024, 640]⟩
abbrev S1024x32 : Shape := ⟨2, ![1024, 32]⟩
abbrev S1x1024x1x32 : Shape := ⟨4, ![1, 1024, 1, 32]⟩
abbrev S1x1024x4x32 : Shape := ⟨4, ![1, 1024, 4, 32]⟩
abbrev S1024x128 : Shape := ⟨2, ![1024, 128]⟩
abbrev S1024x896 : Shape := ⟨2, ![1024, 896]⟩
abbrev S1x384 : Shape := ⟨2, ![1, 384]⟩
abbrev S384x4x128 : Shape := ⟨3, ![384, 4, 128]⟩
abbrev S384x512 : Shape := ⟨2, ![384, 512]⟩
abbrev S384x4x32 : Shape := ⟨3, ![384, 4, 32]⟩
abbrev S384x128 : Shape := ⟨2, ![384, 128]⟩
abbrev S1x256 : Shape := ⟨2, ![1, 256]⟩
abbrev S256x4x128 : Shape := ⟨3, ![256, 4, 128]⟩
abbrev S4x128x256 : Shape := ⟨3, ![4, 128, 256]⟩
abbrev S65536x1024 : Shape := ⟨2, ![65536, 1024]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S65536x1792 : Shape := ⟨2, ![65536, 1792]⟩
abbrev S65536x2048 : Shape := ⟨2, ![65536, 2048]⟩
abbrev S65536x512 : Shape := ⟨2, ![65536, 512]⟩
abbrev S65536x256 : Shape := ⟨2, ![65536, 256]⟩
abbrev S65536x64 : Shape := ⟨2, ![65536, 64]⟩
abbrev S256x128 : Shape := ⟨2, ![256, 128]⟩
abbrev S256x1792 : Shape := ⟨2, ![256, 1792]⟩
abbrev S256x2048 : Shape := ⟨2, ![256, 2048]⟩
abbrev S256x512 : Shape := ⟨2, ![256, 512]⟩
abbrev S256x256 : Shape := ⟨2, ![256, 256]⟩
abbrev S256x64 : Shape := ⟨2, ![256, 64]⟩
abbrev S256x1 : Shape := ⟨2, ![256, 1]⟩
abbrev S256x896 : Shape := ⟨2, ![256, 896]⟩
abbrev S256x384 : Shape := ⟨2, ![256, 384]⟩
abbrev S256x32 : Shape := ⟨2, ![256, 32]⟩
abbrev S256x768 : Shape := ⟨2, ![256, 768]⟩
abbrev S1x128x256 : Shape := ⟨3, ![1, 128, 256]⟩
abbrev S128x256 : Shape := ⟨2, ![128, 256]⟩

abbrev nBuf : Space → Nat
  | .hbm => 69
  | .vmem => 23
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x2496, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S1024x704, .f32⟩
  | .hbm, ⟨8, _⟩ => ⟨S384x4x192, .f32⟩
  | .hbm, ⟨9, _⟩ => ⟨S256x4x256, .f32⟩
  | .hbm, ⟨10, _⟩ => ⟨S1x1024, .f32⟩
  | .hbm, ⟨11, _⟩ => ⟨S1024x1792, .f32⟩
  | .hbm, ⟨12, _⟩ => ⟨S1024x1792, .bf16⟩
  | .hbm, ⟨13, _⟩ => ⟨S1024x640, .f32⟩
  | .hbm, ⟨14, _⟩ => ⟨S1024x32, .f32⟩
  | .hbm, ⟨15, _⟩ => ⟨S1x1024x1x32, .f32⟩
  | .hbm, ⟨16, _⟩ => ⟨S1x1024x4x32, .f32⟩
  | .hbm, ⟨17, _⟩ => ⟨S1024x128, .f32⟩
  | .hbm, ⟨18, _⟩ => ⟨S1024x32, .f32⟩
  | .hbm, ⟨19, _⟩ => ⟨S1x1024x1x32, .f32⟩
  | .hbm, ⟨20, _⟩ => ⟨S1x1024x4x32, .f32⟩
  | .hbm, ⟨21, _⟩ => ⟨S1024x128, .f32⟩
  | .hbm, ⟨22, _⟩ => ⟨S1024x896, .f32⟩
  | .hbm, ⟨23, _⟩ => ⟨S1024x896, .bf16⟩
  | .hbm, ⟨24, _⟩ => ⟨S1x384, .f32⟩
  | .hbm, ⟨25, _⟩ => ⟨S384x4x128, .f32⟩
  | .hbm, ⟨26, _⟩ => ⟨S384x512, .f32⟩
  | .hbm, ⟨27, _⟩ => ⟨S384x4x32, .f32⟩
  | .hbm, ⟨28, _⟩ => ⟨S384x128, .f32⟩
  | .hbm, ⟨29, _⟩ => ⟨S384x4x32, .f32⟩
  | .hbm, ⟨30, _⟩ => ⟨S384x128, .f32⟩
  | .hbm, ⟨31, _⟩ => ⟨S384x768, .f32⟩
  | .hbm, ⟨32, _⟩ => ⟨S384x768, .bf16⟩
  | .hbm, ⟨33, _⟩ => ⟨S1x256, .f32⟩
  | .hbm, ⟨34, _⟩ => ⟨S256x4x128, .f32⟩
  | .hbm, ⟨35, _⟩ => ⟨S4x128x256, .f32⟩
  | .hbm, ⟨36, _⟩ => ⟨S4x128x256, .bf16⟩
  | .hbm, ⟨37, _⟩ => ⟨S65536x1024, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S2048, .i32⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .f32⟩
  | .hbm, ⟨51, _⟩ => ⟨S2048x1, .f32⟩
  | .hbm, ⟨52, _⟩ => ⟨S1x32, .f32⟩
  | .hbm, ⟨53, _⟩ => ⟨S2048x32, .f32⟩
  | .hbm, ⟨54, _⟩ => ⟨S2048x32, .f32⟩
  | .hbm, ⟨55, _⟩ => ⟨S2048x32, .f32⟩
  | .hbm, ⟨56, _⟩ => ⟨S2048x32, .f32⟩
  | .hbm, ⟨57, _⟩ => ⟨S1x2048x1x32, .f32⟩
  | .hbm, ⟨58, _⟩ => ⟨S1x2048x4x32, .f32⟩
  | .hbm, ⟨59, _⟩ => ⟨S2048x128, .f32⟩
  | .hbm, ⟨60, _⟩ => ⟨S2048x32, .f32⟩
  | .hbm, ⟨61, _⟩ => ⟨S1x2048x1x32, .f32⟩
  | .hbm, ⟨62, _⟩ => ⟨S1x2048x4x32, .f32⟩
  | .hbm, ⟨63, _⟩ => ⟨S2048x128, .f32⟩
  | .hbm, ⟨64, _⟩ => ⟨S65536x1792, .f32⟩
  | .hbm, ⟨65, _⟩ => ⟨S65536x2048, .bf16⟩
  | .hbm, ⟨66, _⟩ => ⟨S65536x512, .bf16⟩
  | .hbm, ⟨67, _⟩ => ⟨S65536x256, .f32⟩
  | .hbm, ⟨68, _⟩ => ⟨S65536x64, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1792, .bf16⟩
  | .local _ .vmem, ⟨4, _⟩ => ⟨S1024x896, .bf16⟩
  | .local _ .vmem, ⟨5, _⟩ => ⟨S1x384, .f32⟩
  | .local _ .vmem, ⟨6, _⟩ => ⟨S384x768, .bf16⟩
  | .local _ .vmem, ⟨7, _⟩ => ⟨S1x256, .f32⟩
  | .local _ .vmem, ⟨8, _⟩ => ⟨S4x128x256, .bf16⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x1792, .f32⟩
  | .local _ .vmem, ⟨14, _⟩ => ⟨S256x1792, .f32⟩
  | .local _ .vmem, ⟨15, _⟩ => ⟨S256x2048, .bf16⟩
  | .local _ .vmem, ⟨16, _⟩ => ⟨S256x2048, .bf16⟩
  | .local _ .vmem, ⟨17, _⟩ => ⟨S256x512, .bf16⟩
  | .local _ .vmem, ⟨18, _⟩ => ⟨S256x512, .bf16⟩
  | .local _ .vmem, ⟨19, _⟩ => ⟨S256x256, .f32⟩
  | .local _ .vmem, ⟨20, _⟩ => ⟨S256x256, .f32⟩
  | .local _ .vmem, ⟨21, _⟩ => ⟨S256x64, .f32⟩
  | .local _ .vmem, ⟨22, _⟩ => ⟨S256x64, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst : Ref sig .tc := ⟨.hbm, 40, rfl⟩
abbrev main_v33 : Ref sig .tc := ⟨.hbm, 41, rfl⟩
abbrev main_v34 : Ref sig .tc := ⟨.hbm, 42, rfl⟩
abbrev main_cst_0 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54_0 : Ref sig .tc := ⟨.hbm, 64, rfl⟩
abbrev main_v54_1 : Ref sig .tc := ⟨.hbm, 65, rfl⟩
abbrev main_v54_2 : Ref sig .tc := ⟨.hbm, 66, rfl⟩
abbrev main_v54_3 : Ref sig .tc := ⟨.hbm, 67, rfl⟩
abbrev main_v54_4 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1792 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S32x2048x1024 : Shape := ⟨3, ![32, 2048, 1024]⟩
abbrev S1024 : Shape := ⟨1, ![1024]⟩
abbrev S1024x2496 : Shape := ⟨2, ![1024, 2496]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S2048 : Shape := ⟨1, ![2048]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2496 : Shape := ⟨3, ![32, 2048, 2496]⟩
abbrev S32x2048x704 : Shape := ⟨3, ![32, 2048, 704]⟩
abbrev S32x2048x256 : Shape := ⟨3, ![32, 2048, 256]⟩
abbrev S1x1x256 : Shape := ⟨3, ![1, 1, 256]⟩
abbrev S32x2048x64 : Shape := ⟨3, ![32, 2048, 64]⟩
abbrev S32x2048x1x64 : Shape := ⟨4, ![32, 2048, 1, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S32x2048x1x32 : Shape := ⟨4, ![32, 2048, 1, 32]⟩
abbrev S32x2048x384 : Shape := ⟨3, ![32, 2048, 384]⟩
abbrev S1x1x384 : Shape := ⟨3, ![1, 1, 384]⟩
abbrev S32x2048x768 : Shape := ⟨3, ![32, 2048, 768]⟩
abbrev S32x2048x4x192 : Shape := ⟨4, ![32, 2048, 4, 192]⟩
abbrev S32x2048x4x64 : Shape := ⟨4, ![32, 2048, 4, 64]⟩
abbrev S32x2048x4x32 : Shape := ⟨4, ![32, 2048, 4, 32]⟩
abbrev S256x4x256 : Shape := ⟨3, ![256, 4, 256]⟩
abbrev S32x2048x4x128 : Shape := ⟨4, ![32, 2048, 4, 128]⟩
abbrev S256x4x128 : Shape := ⟨3, ![256, 4, 128]⟩
abbrev S4x256x32x2048 : Shape := ⟨4, ![4, 256, 32, 2048]⟩
abbrev S32x2048x4x256 : Shape := ⟨4, ![32, 2048, 4, 256]⟩
abbrev S4x4 : Shape := ⟨2, ![4, 4]⟩
abbrev S4x4x1 : Shape := ⟨3, ![4, 4, 1]⟩
abbrev S32x2048x4x1x32 : Shape := ⟨5, ![32, 2048, 4, 1, 32]⟩
abbrev S1x1x4x4x1 : Shape := ⟨5, ![1, 1, 4, 4, 1]⟩
abbrev S32x2048x4x4x32 : Shape := ⟨5, ![32, 2048, 4, 4, 32]⟩
abbrev S32x2048x4x512 : Shape := ⟨4, ![32, 2048, 4, 512]⟩
abbrev S32x2048x32 : Shape := ⟨3, ![32, 2048, 32]⟩
abbrev S1x32x1x2048x1x32 : Shape := ⟨6, ![1, 32, 1, 2048, 1, 32]⟩
abbrev S1x32x1x2048x4x32 : Shape := ⟨6, ![1, 32, 1, 2048, 4, 32]⟩
abbrev S32x2048x128 : Shape := ⟨3, ![32, 2048, 128]⟩
abbrev S32x2048x512 : Shape := ⟨3, ![32, 2048, 512]⟩
abbrev S32x2048x1792 : Shape := ⟨3, ![32, 2048, 1792]⟩
abbrev S65536x1792 : Shape := ⟨2, ![65536, 1792]⟩
abbrev S65536x2048 : Shape := ⟨2, ![65536, 2048]⟩
abbrev S65536x512 : Shape := ⟨2, ![65536, 512]⟩
abbrev S65536x256 : Shape := ⟨2, ![65536, 256]⟩
abbrev S65536x64 : Shape := ⟨2, ![65536, 64]⟩

abbrev nBuf : Space → Nat
  | .hbm => 176
  | .vmem => 0
  | .smem => 0
  | _ => 0

abbrev hbmTy0_0 (i : Nat) : BufTy := match i % 128 with
  | 0 => ⟨S32x2048x1024, .f32⟩
  | 1 => ⟨S1024, .f32⟩
  | 2 => ⟨S1024x2496, .f32⟩
  | 3 => ⟨S384, .f32⟩
  | 4 => ⟨S384x768, .f32⟩
  | 5 => ⟨S256, .f32⟩
  | 6 => ⟨S256x1024, .f32⟩
  | 7 => ⟨S2048, .i32⟩
  | 8 => ⟨S32x2048x1024, .f32⟩
  | 9 => ⟨S_, .f32⟩
  | 10 => ⟨S32x2048, .f32⟩
  | 11 => ⟨S32x2048x1, .f32⟩
  | 12 => ⟨S_, .f32⟩
  | 13 => ⟨S32x2048x1, .f32⟩
  | 14 => ⟨S32x2048x1, .f32⟩
  | 15 => ⟨S_, .f32⟩
  | 16 => ⟨S32x2048x1, .f32⟩
  | 17 => ⟨S32x2048x1, .f32⟩
  | 18 => ⟨S32x2048x1, .f32⟩
  | 19 => ⟨S32x2048x1024, .f32⟩
  | 20 => ⟨S32x2048x1024, .f32⟩
  | 21 => ⟨S1x1x1024, .f32⟩
  | 22 => ⟨S32x2048x1024, .f32⟩
  | 23 => ⟨S32x2048x1024, .f32⟩
  | 24 => ⟨S32x2048x2496, .f32⟩
  | 25 => ⟨S32x2048x704, .f32⟩
  | 26 => ⟨S32x2048x256, .f32⟩
  | 27 => ⟨S32x2048x256, .f32⟩
  | 28 => ⟨S_, .f32⟩
  | 29 => ⟨S32x2048, .f32⟩
  | 30 => ⟨S32x2048x1, .f32⟩
  | 31 => ⟨S_, .f32⟩
  | 32 => ⟨S32x2048x1, .f32⟩
  | 33 => ⟨S32x2048x1, .f32⟩
  | 34 => ⟨S_, .f32⟩
  | 35 => ⟨S32x2048x1, .f32⟩
  | 36 => ⟨S32x2048x1, .f32⟩
  | 37 => ⟨S32x2048x1, .f32⟩
  | 38 => ⟨S32x2048x256, .f32⟩
  | 39 => ⟨S32x2048x256, .f32⟩
  | 40 => ⟨S1x1x256, .f32⟩
  | 41 => ⟨S32x2048x256, .f32⟩
  | 42 => ⟨S32x2048x256, .f32⟩
  | 43 => ⟨S32x2048x64, .f32⟩
  | 44 => ⟨S32x2048x1x64, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S2048, .f32⟩
  | 54 => ⟨S2048x1, .f32⟩
  | 55 => ⟨S1x32, .f32⟩
  | 56 => ⟨S2048x32, .f32⟩
  | 57 => ⟨S2048x32, .f32⟩
  | 58 => ⟨S2048x32, .f32⟩
  | 59 => ⟨S2048x32, .f32⟩
  | 60 => ⟨S1x2048x1x32, .f32⟩
  | 61 => ⟨S2048x32, .f32⟩
  | 62 => ⟨S1x2048x1x32, .f32⟩
  | 63 => ⟨S32x2048x1x32, .f32⟩
  | 64 => ⟨S32x2048x1x32, .f32⟩
  | 65 => ⟨S32x2048x1x32, .f32⟩
  | 66 => ⟨S32x2048x1x32, .f32⟩
  | 67 => ⟨S32x2048x1x32, .f32⟩
  | 68 => ⟨S32x2048x1x32, .f32⟩
  | 69 => ⟨S32x2048x1x32, .f32⟩
  | 70 => ⟨S32x2048x1x32, .f32⟩
  | 71 => ⟨S32x2048x1x32, .f32⟩
  | 72 => ⟨S32x2048x1x32, .f32⟩
  | 73 => ⟨S32x2048x1x32, .f32⟩
  | 74 => ⟨S32x2048x1x32, .f32⟩
  | 75 => ⟨S32x2048x1x64, .f32⟩
  | 76 => ⟨S32x2048x64, .f32⟩
  | 77 => ⟨S32x2048x384, .f32⟩
  | 78 => ⟨S32x2048x384, .f32⟩
  | 79 => ⟨S_, .f32⟩
  | 80 => ⟨S32x2048, .f32⟩
  | 81 => ⟨S32x2048x1, .f32⟩
  | 82 => ⟨S_, .f32⟩
  | 83 => ⟨S32x2048x1, .f32⟩
  | 84 => ⟨S32x2048x1, .f32⟩
  | 85 => ⟨S_, .f32⟩
  | 86 => ⟨S32x2048x1, .f32⟩
  | 87 => ⟨S32x2048x1, .f32⟩
  | 88 => ⟨S32x2048x1, .f32⟩
  | 89 => ⟨S32x2048x384, .f32⟩
  | 90 => ⟨S32x2048x384, .f32⟩
  | 91 => ⟨S1x1x384, .f32⟩
  | 92 => ⟨S32x2048x384, .f32⟩
  | 93 => ⟨S32x2048x384, .f32⟩
  | 94 => ⟨S32x2048x768, .f32⟩
  | 95 => ⟨S32x2048x4x192, .f32⟩
  | 96 => ⟨S32x2048x4x64, .f32⟩
  | 97 => ⟨S32, .f32⟩
  | 98 => ⟨S32, .f32⟩
  | 99 => ⟨S_, .f32⟩
  | 100 => ⟨S32, .f32⟩
  | 101 => ⟨S32, .f32⟩
  | 102 => ⟨S_, .f32⟩
  | 103 => ⟨S32, .f32⟩
  | 104 => ⟨S32, .f32⟩
  | 105 => ⟨S2048, .f32⟩
  | 106 => ⟨S2048x1, .f32⟩
  | 107 => ⟨S1x32, .f32⟩
  | 108 => ⟨S2048x32, .f32⟩
  | 109 => ⟨S2048x32, .f32⟩
  | 110 => ⟨S2048x32, .f32⟩
  | 111 => ⟨S2048x32, .f32⟩
  | 112 => ⟨S1x2048x1x32, .f32⟩
  | 113 => ⟨S2048x32, .f32⟩
  | 114 => ⟨S1x2048x1x32, .f32⟩
  | 115 => ⟨S32x2048x4x32, .f32⟩
  | 116 => ⟨S32x2048x4x32, .f32⟩
  | 117 => ⟨S32x2048x4x32, .f32⟩
  | 118 => ⟨S32x2048x4x32, .f32⟩
  | 119 => ⟨S32x2048x4x32, .f32⟩
  | 120 => ⟨S32x2048x4x32, .f32⟩
  | 121 => ⟨S32x2048x4x32, .f32⟩
  | 122 => ⟨S32x2048x4x32, .f32⟩
  | 123 => ⟨S32x2048x4x32, .f32⟩
  | 124 => ⟨S32x2048x4x32, .f32⟩
  | 125 => ⟨S32x2048x4x32, .f32⟩
  | 126 => ⟨S32x2048x4x32, .f32⟩
  | 127 => ⟨S32x2048x4x64, .f32⟩
  | _ => ⟨S32x2048x1024, .f32⟩

abbrev hbmTy0_1 (i : Nat) : BufTy := match i % 128 with
  | 0 => ⟨S256x4x256, .f32⟩
  | 1 => ⟨S32x2048x4x128, .f32⟩
  | 2 => ⟨S256x4x128, .f32⟩
  | 3 => ⟨S4x256x32x2048, .f32⟩
  | 4 => ⟨S32x2048x4x256, .f32⟩
  | 5 => ⟨S4x4, .i32⟩
  | 6 => ⟨S4x4, .i32⟩
  | 7 => ⟨S_, .i32⟩
  | 8 => ⟨S4x4, .i32⟩
  | 9 => ⟨S4x4, .i32⟩
  | 10 => ⟨S4x4, .i1⟩
  | 11 => ⟨S4x4, .f32⟩
  | 12 => ⟨S4x4x1, .f32⟩
  | 13 => ⟨S32x2048x4x32, .f32⟩
  | 14 => ⟨S32x2048x4x1x32, .f32⟩
  | 15 => ⟨S1x1x4x4x1, .f32⟩
  | 16 => ⟨S32x2048x4x4x32, .f32⟩
  | 17 => ⟨S32x2048x4x4x32, .f32⟩
  | 18 => ⟨S32x2048x4x4x32, .f32⟩
  | 19 => ⟨S32x2048x4x128, .f32⟩
  | 20 => ⟨S32x2048x4x32, .f32⟩
  | 21 => ⟨S32x2048x4x1x32, .f32⟩
  | 22 => ⟨S1x1x4x4x1, .f32⟩
  | 23 => ⟨S32x2048x4x4x32, .f32⟩
  | 24 => ⟨S32x2048x4x4x32, .f32⟩
  | 25 => ⟨S32x2048x4x4x32, .f32⟩
  | 26 => ⟨S32x2048x4x128, .f32⟩
  | 27 => ⟨S32x2048x4x512, .f32⟩
  | 28 => ⟨S_, .f32⟩
  | 29 => ⟨S32x2048x4x512, .f32⟩
  | 30 => ⟨S32x2048x4x512, .f32⟩
  | 31 => ⟨S32x2048x32, .f32⟩
  | 32 => ⟨S1x32x1x2048x1x32, .f32⟩
  | 33 => ⟨S1x32x1x2048x4x32, .f32⟩
  | 34 => ⟨S32x2048x128, .f32⟩
  | 35 => ⟨S32x2048x32, .f32⟩
  | 36 => ⟨S1x32x1x2048x1x32, .f32⟩
  | 37 => ⟨S1x32x1x2048x4x32, .f32⟩
  | 38 => ⟨S32x2048x128, .f32⟩
  | 39 => ⟨S32x2048x512, .f32⟩
  | 40 => ⟨S32x2048x1792, .f32⟩
  | 41 => ⟨S65536x1792, .f32⟩
  | 42 => ⟨S32x2048x4x512, .bf16⟩
  | 43 => ⟨S65536x2048, .bf16⟩
  | 44 => ⟨S32x2048x512, .bf16⟩
  | 45 => ⟨S65536x512, .bf16⟩
  | 46 => ⟨S65536x256, .f32⟩
  | 47 => ⟨S65536x64, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_7 : Ref sig .tc := ⟨.hbm, 79, rfl⟩
abbrev main_v64 : Ref sig .tc := ⟨.hbm, 80, rfl⟩
abbrev main_v65 : Ref sig .tc := ⟨.hbm, 81, rfl⟩
abbrev main_cst_8 : Ref sig .tc := ⟨.hbm, 82, rfl⟩
abbrev main_v66 : Ref sig .tc := ⟨.hbm, 83, rfl⟩
abbrev main_v67 : Ref sig .tc := ⟨.hbm, 84, rfl⟩
abbrev main_cst_9 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_10 : Ref sig .tc := ⟨.hbm, 99, rfl⟩
abbrev main_v81 : Ref sig .tc := ⟨.hbm, 100, rfl⟩
abbrev main_v82 : Ref sig .tc := ⟨.hbm, 101, rfl⟩
abbrev main_cst_11 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_c : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_cst_12 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩

abbrev nD : Nat := 1
abbrev τ : Topo := Topo.v7x

variable {F : FTy → Type} [FloatOps F]
-- ==== Kernel3.lean ====
abbrev S32x256x1024 : Shape := ⟨3, ![32, 256, 1024]⟩
abbrev S1x1024 : Shape := ⟨2, ![1, 1024]⟩
abbrev S1x1024x512 : Shape := ⟨3, ![1, 1024, 512]⟩
abbrev S1024 : Shape := ⟨1, ![1024]⟩
abbrev S1024x512 : Shape := ⟨2, ![1024, 512]⟩
abbrev S8192x1024 : Shape := ⟨2, ![8192, 1024]⟩
abbrev S8192x512 : Shape := ⟨2, ![8192, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 9
  | .smem => 0
  | _ => 0

abbrev bufTy : (tb : Table) → Fin (tcTables nBuf tb) → BufTy
  | .hbm, ⟨0, _⟩ => ⟨S32x256x1024, .f32⟩
  | .hbm, ⟨1, _⟩ => ⟨S1x1024, .f32⟩
  | .hbm, ⟨2, _⟩ => ⟨S1x1024x512, .f32⟩
  | .hbm, ⟨3, _⟩ => ⟨S1x1024x512, .f32⟩
  | .hbm, ⟨4, _⟩ => ⟨S1024, .f32⟩
  | .hbm, ⟨5, _⟩ => ⟨S1x1024, .f32⟩
  | .hbm, ⟨6, _⟩ => ⟨S1024x512, .f32⟩
  | .hbm, ⟨7, _⟩ => ⟨S1024x512, .bf16⟩
  | .hbm, ⟨8, _⟩ => ⟨S1024x512, .f32⟩
  | .hbm, ⟨9, _⟩ => ⟨S1024x512, .bf16⟩
  | .hbm, ⟨10, _⟩ => ⟨S8192x1024, .f32⟩
  | .hbm, ⟨11, _⟩ => ⟨S8192x512, .f32⟩
  | .hbm, ⟨12, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32x256x1024 : Shape := ⟨3, ![32, 256, 1024]⟩
abbrev S1x1024 : Shape := ⟨2, ![1, 1024]⟩
abbrev S1x1024x512 : Shape := ⟨3, ![1, 1024, 512]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1024x512 : Shape := ⟨2, ![1024, 512]⟩
abbrev S32x256x512 : Shape := ⟨3, ![32, 256, 512]⟩
abbrev S8192x512 : Shape := ⟨2, ![8192, 512]⟩

abbrev nBuf : Space → Nat
  | .hbm => 27
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x1024, .f32⟩
  | .hbm, ⟨2, _⟩ => ⟨S1x1024x512, .f32⟩
  | .hbm, ⟨3, _⟩ => ⟨S1x1024x512, .f32⟩
  | .hbm, ⟨4, _⟩ => ⟨S1024, .f32⟩
  | .hbm, ⟨5, _⟩ => ⟨S32x256x1024, .f32⟩
  | .hbm, ⟨6, _⟩ => ⟨S_, .f32⟩
  | .hbm, ⟨7, _⟩ => ⟨S32x256, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S32x256x1, .f32⟩
  | .hbm, ⟨16, _⟩ => ⟨S32x256x1024, .f32⟩
  | .hbm, ⟨17, _⟩ => ⟨S32x256x1024, .f32⟩
  | .hbm, ⟨18, _⟩ => ⟨S1x1x1024, .f32⟩
  | .hbm, ⟨19, _⟩ => ⟨S32x256x1024, .f32⟩
  | .hbm, ⟨20, _⟩ => ⟨S32x256x1024, .f32⟩
  | .hbm, ⟨21, _⟩ => ⟨S1024x512, .f32⟩
  | .hbm, ⟨22, _⟩ => ⟨S32x256x512, .f32⟩
  | .hbm, ⟨23, _⟩ => ⟨S8192x512, .f32⟩
  | .hbm, ⟨24, _⟩ => ⟨S1024x512, .f32⟩
  | .hbm, ⟨25, _⟩ => ⟨S32x256x512, .f32⟩
  | .hbm, ⟨26, _⟩ => ⟨S8192x512, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel4.lean ====
abbrev S32x2048x1024 : Shape := ⟨3, ![32, 2048, 1024]⟩
abbrev S32x256x4x128 : Shape := ⟨4, ![32, 256, 4, 128]⟩
abbrev S1x1024 : Shape := ⟨2, ![1, 1024]⟩
abbrev S1x1024x512 : Shape := ⟨3, ![1, 1024, 512]⟩
abbrev S1x512x1024 : Shape := ⟨3, ![1, 512, 1024]⟩
abbrev S1024 : Shape := ⟨1, ![1024]⟩
abbrev S1024x512 : Shape := ⟨2, ![1024, 512]⟩
abbrev S512x1024 : Shape := ⟨2, ![512, 1024]⟩
abbrev S65536x1024 : Shape := ⟨2, ![65536, 1024]⟩
abbrev S32x256x512 : Shape := ⟨3, ![32, 256, 512]⟩
abbrev S1x256x512 : Shape := ⟨3, ![1, 256, 512]⟩
abbrev S512 : Shape := ⟨1, ![512]⟩
abbrev S512x1 : Shape := ⟨2, ![512, 1]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩

abbrev nBuf : Space → Nat
  | .hbm => 16
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S32x256x4x128, .f32⟩
  | .hbm, ⟨2, _⟩ => ⟨S32x256x4x128, .f32⟩
  | .hbm, ⟨3, _⟩ => ⟨S1x1024, .f32⟩
  | .hbm, ⟨4, _⟩ => ⟨S1x1024x512, .f32⟩
  | .hbm, ⟨5, _⟩ => ⟨S1x512x1024, .f32⟩
  | .hbm, ⟨6, _⟩ => ⟨S1024, .f32⟩
  | .hbm, ⟨7, _⟩ => ⟨S1x1024, .f32⟩
  | .hbm, ⟨8, _⟩ => ⟨S1024x512, .f32⟩
  | .hbm, ⟨9, _⟩ => ⟨S1024x512, .bf16⟩
  | .hbm, ⟨10, _⟩ => ⟨S512x1024, .f32⟩
  | .hbm, ⟨11, _⟩ => ⟨S512x1024, .bf16⟩
  | .hbm, ⟨12, _⟩ => ⟨S65536x1024, .f32⟩
  | .hbm, ⟨13, _⟩ => ⟨S32x256x512, .f32⟩
  | .hbm, ⟨14, _⟩ => ⟨S32x256x512, .f32⟩
  | .hbm, ⟨15, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x1024, .f32⟩
  | .local _ .vmem, ⟨7, _⟩ => ⟨S1024x512, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S32x2048x1024 : Shape := ⟨3, ![32, 2048, 1024]⟩
abbrev S32x256x4x128 : Shape := ⟨4, ![32, 256, 4, 128]⟩
abbrev S1x1024 : Shape := ⟨2, ![1, 1024]⟩
abbrev S1x1024x512 : Shape := ⟨3, ![1, 1024, 512]⟩
abbrev S1x512x1024 : Shape := ⟨3, ![1, 512, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x512 : Shape := ⟨2, ![1024, 512]⟩
abbrev S32x2048x512 : Shape := ⟨3, ![32, 2048, 512]⟩
abbrev S32x2048x4x128 : Shape := ⟨4, ![32, 2048, 4, 128]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x128x2048 : Shape := ⟨4, ![32, 4, 128, 2048]⟩
abbrev S512x1024 : Shape := ⟨2, ![512, 1024]⟩
abbrev S65536x1024 : Shape := ⟨2, ![65536, 1024]⟩

abbrev nBuf : Space → Nat
  | .hbm => 51
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x256x4x128, .f32⟩
  | .hbm, ⟨2, _⟩ => ⟨S32x256x4x128, .f32⟩
  | .hbm, ⟨3, _⟩ => ⟨S1x1024, .f32⟩
  | .hbm, ⟨4, _⟩ => ⟨S1x1024x512, .f32⟩
  | .hbm, ⟨5, _⟩ => ⟨S1x512x1024, .f32⟩
  | .hbm, ⟨6, _⟩ => ⟨S1024, .f32⟩
  | .hbm, ⟨7, _⟩ => ⟨S32x2048x1024, .f32⟩
  | .hbm, ⟨8, _⟩ => ⟨S_, .f32⟩
  | .hbm, ⟨9, _⟩ => ⟨S32x2048, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S_, .f32⟩
  | .hbm, ⟨15, _⟩ => ⟨S32x2048x1, .f32⟩
  | .hbm, ⟨16, _⟩ => ⟨S32x2048x1, .f32⟩
  | .hbm, ⟨17, _⟩ => ⟨S32x2048x1, .f32⟩
  | .hbm, ⟨18, _⟩ => ⟨S32x2048x1024, .f32⟩
  | .hbm, ⟨19, _⟩ => ⟨S32x2048x1024, .f32⟩
  | .hbm, ⟨20, _⟩ => ⟨S1x1x1024, .f32⟩
  | .hbm, ⟨21, _⟩ => ⟨S32x2048x1024, .f32⟩
  | .hbm, ⟨22, _⟩ => ⟨S32x2048x1024, .f32⟩
  | .hbm, ⟨23, _⟩ => ⟨S1024x512, .f32⟩
  | .hbm, ⟨24, _⟩ => ⟨S32x2048x512, .f32⟩
  | .hbm, ⟨25, _⟩ => ⟨S32x2048x4x128, .f32⟩
  | .hbm, ⟨26, _⟩ => ⟨S32x4x2048x256, .f32⟩
  | .hbm, ⟨27, _⟩ => ⟨S_, .f32⟩
  | .hbm, ⟨28, _⟩ => ⟨S32x4x2048x256, .f32⟩
  | .hbm, ⟨29, _⟩ => ⟨S32x4x2048x256, .f32⟩
  | .hbm, ⟨30, _⟩ => ⟨S_, .f32⟩
  | .hbm, ⟨31, _⟩ => ⟨S32x4x2048, .f32⟩
  | .hbm, ⟨32, _⟩ => ⟨S_, .f32⟩
  | .hbm, ⟨33, _⟩ => ⟨S32x4x2048, .f32⟩
  | .hbm, ⟨34, _⟩ => ⟨S32x4x2048, .f32⟩
  | .hbm, ⟨35, _⟩ => ⟨S32x4x2048x1, .f32⟩
  | .hbm, ⟨36, _⟩ => ⟨S32x4x2048x256, .f32⟩
  | .hbm, ⟨37, _⟩ => ⟨S32x4x2048x256, .f32⟩
  | .hbm, ⟨38, _⟩ => ⟨S32x4x2048x256, .f32⟩
  | .hbm, ⟨39, _⟩ => ⟨S_, .f32⟩
  | .hbm, ⟨40, _⟩ => ⟨S32x4x2048, .f32⟩
  | .hbm, ⟨41, _⟩ => ⟨S32x4x2048x1, .f32⟩
  | .hbm, ⟨42, _⟩ => ⟨S32x4x2048x256, .f32⟩
  | .hbm, ⟨43, _⟩ => ⟨S32x4x2048x256, .f32⟩
  | .hbm, ⟨44, _⟩ => ⟨S32x4x128x2048, .f32⟩
  | .hbm, ⟨45, _⟩ => ⟨S32x2048x4x128, .f32⟩
  | .hbm, ⟨46, _⟩ => ⟨S32x2048x512, .f32⟩
  | .hbm, ⟨47, _⟩ => ⟨S512x1024, .f32⟩
  | .hbm, ⟨48, _⟩ => ⟨S32x2048x1024, .f32⟩
  | .hbm, ⟨49, _⟩ => ⟨S32x2048x1024, .f32⟩
  | .hbm, ⟨50, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel5.lean ====
abbrev S544x512x1024 : Shape := ⟨3, ![544, 512, 1024]⟩
abbrev S544 : Shape := ⟨1, ![544]⟩
abbrev S1 : Shape := ⟨1, ![1]⟩
abbrev S32x1024x1024 : Shape := ⟨3, ![32, 1024, 1024]⟩
abbrev S32x1024 : Shape := ⟨2, ![32, 1024]⟩
abbrev S32x1x1024 : Shape := ⟨3, ![32, 1, 1024]⟩
abbrev S_ : Shape := ⟨0, ![]⟩
abbrev S544x1x1 : Shape := ⟨3, ![544, 1, 1]⟩
abbrev S544x4096x128 : Shape := ⟨3, ![544, 4096, 128]⟩
abbrev S2228224x128 : Shape := ⟨2, ![2228224, 128]⟩
abbrev S4096x128 : Shape := ⟨2, ![4096, 128]⟩
abbrev S1x1024x1024 : Shape := ⟨3, ![1, 1024, 1024]⟩
abbrev S1x1x1024 : Shape := ⟨3, ![1, 1, 1024]⟩
abbrev S512x128 : Shape := ⟨2, ![512, 128]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 25
  | .vmem => 16
  | .smem => 2
  | _ => 0

abbrev bufTy : (tb : Table) → Fin (tcTables nBuf tb) → BufTy
  | .hbm, ⟨0, _⟩ => ⟨S544x512x1024, .f32⟩
  | .hbm, ⟨1, _⟩ => ⟨S32x1024x1024, .f32⟩
  | .hbm, ⟨2, _⟩ => ⟨S32x1024, .f32⟩
  | .hbm, ⟨3, _⟩ => ⟨S32x1024x1024, .f32⟩
  | .hbm, ⟨4, _⟩ => ⟨S32x1024, .f32⟩
  | .hbm, ⟨5, _⟩ => ⟨S32x1024x1024, .f32⟩
  | .hbm, ⟨6, _⟩ => ⟨S32x1024, .f32⟩
  | .hbm, ⟨7, _⟩ => ⟨S32x1024x1024, .bf16⟩
  | .hbm, ⟨8, _⟩ => ⟨S32x1x1024, .f32⟩
  | .hbm, ⟨9, _⟩ => ⟨S32x1024x1024, .bf16⟩
  | .hbm, ⟨10, _⟩ => ⟨S32x1x1024, .f32⟩
  | .hbm, ⟨11, _⟩ => ⟨S32x1024x1024, .bf16⟩
  | .hbm, ⟨12, _⟩ => ⟨S32x1x1024, .f32⟩
  | .hbm, ⟨13, _⟩ => ⟨S544, .i32⟩
  | .hbm, ⟨14, _⟩ => ⟨S_, .i32⟩
  | .hbm, ⟨15, _⟩ => ⟨S544, .i32⟩
  | .hbm, ⟨16, _⟩ => ⟨S544, .i1⟩
  | .hbm, ⟨17, _⟩ => ⟨S544x1x1, .i1⟩
  | .hbm, ⟨18, _⟩ => ⟨S544x4096x128, .i1⟩
  | .hbm, ⟨19, _⟩ => ⟨S2228224x128, .f32⟩
  | .hbm, ⟨20, _⟩ => ⟨S2228224x128, .f32⟩
  | .hbm, ⟨21, _⟩ => ⟨S544x4096x128, .f32⟩
  | .hbm, ⟨22, _⟩ => ⟨S_, .f32⟩
  | .hbm, ⟨23, _⟩ => ⟨S544x4096x128, .f32⟩
  | .hbm, ⟨24, _⟩ => ⟨S544x4096x128, .f32⟩
  | .local _ .vmem, ⟨0, _⟩ => ⟨S4096x128, .f32⟩
  | .local _ .vmem, ⟨1, _⟩ => ⟨S4096x128, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S4096x128, .f32⟩
  | .local _ .vmem, ⟨15, _⟩ => ⟨S4096x128, .f32⟩
  | .local _ .smem, ⟨0, _⟩ => ⟨S544, .i32⟩
  | .local _ .smem, ⟨1, _⟩ => ⟨S1, .i32⟩
  | _, _ => ⟨S544x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S544x512x1024 : Shape := ⟨3, ![544, 512, 1024]⟩
abbrev S544 : Shape := ⟨1, ![544]⟩
abbrev S1 : Shape := ⟨1, ![1]⟩
abbrev S32x1024x1024 : Shape := ⟨3, ![32, 1024, 1024]⟩
abbrev S32x1024 : Shape := ⟨2, ![32, 1024]⟩
abbrev S_ : Shape := ⟨0, ![]⟩
abbrev S544x1 : Shape := ⟨2, ![544, 1]⟩
abbrev S544x1024x1024 : Shape := ⟨3, ![544, 1024, 1024]⟩
abbrev S544x1024 : Shape := ⟨2, ![544, 1024]⟩
abbrev S544x1x1024 : Shape := ⟨3, ![544, 1, 1024]⟩
abbrev S544x1x1 : Shape := ⟨3, ![544, 1, 1]⟩
abbrev S544x4096x128 : Shape := ⟨3, ![544, 4096, 128]⟩

abbrev nBuf : Space → Nat
  | .hbm => 113
  | .vmem => 0
  | .smem => 0
  | _ => 0

abbrev bufTy : (tb : Table) → Fin (tcTables nBuf tb) → BufTy
  | .hbm, ⟨0, _⟩ => ⟨S544x512x1024, .f32⟩
  | .hbm, ⟨1, _⟩ => ⟨S544, .i32⟩
  | .hbm, ⟨2, _⟩ => ⟨S1, .i32⟩
  | .hbm, ⟨3, _⟩ => ⟨S32x1024x1024, .f32⟩
  | .hbm, ⟨4, _⟩ => ⟨S32x1024, .f32⟩
  | .hbm, ⟨5, _⟩ => ⟨S32x1024x1024, .f32⟩
  | .hbm, ⟨6, _⟩ => ⟨S32x1024, .f32⟩
  | .hbm, ⟨7, _⟩ => ⟨S32x1024x1024, .f32⟩
  | .hbm, ⟨8, _⟩ => ⟨S32x1024, .f32⟩
  | .hbm, ⟨9, _⟩ => ⟨S_, .i32⟩
  | .hbm, ⟨10, _⟩ => ⟨S544, .i32⟩
  | .hbm, ⟨11, _⟩ => ⟨S544, .i1⟩
  | .hbm, ⟨12, _⟩ => ⟨S_, .i32⟩
  | .hbm, ⟨13, _⟩ => ⟨S544, .i32⟩
  | .hbm, ⟨14, _⟩ => ⟨S544, .i32⟩
  | .hbm, ⟨15, _⟩ => ⟨S544, .i32⟩
  | .hbm, ⟨16, _⟩ => ⟨S544x1, .i32⟩
  | .hbm, ⟨17, _⟩ => ⟨S544x1024x1024, .f32⟩
  | .hbm, ⟨18, _⟩ => ⟨S544x512x1024, .f32⟩
  | .hbm, ⟨19, _⟩ => ⟨S_, .i32⟩
  | .hbm, ⟨20, _⟩ => ⟨S544, .i32⟩
  | .hbm, ⟨21, _⟩ => ⟨S544, .i1⟩
  | .hbm, ⟨22, _⟩ => ⟨S_, .i32⟩
  | .hbm, ⟨23, _⟩ => ⟨S544, .i32⟩
  | .hbm, ⟨24, _⟩ => ⟨S544, .i32⟩
  | .hbm, ⟨25, _⟩ => ⟨S544, .i32⟩
  | .hbm, ⟨26, _⟩ => ⟨S544x1, .i32⟩
  | .hbm, ⟨27, _⟩ => ⟨S544x1024, .f32⟩
  | .hbm, ⟨28, _⟩ => ⟨S544x1x1024, .f32⟩
  | .hbm, ⟨29, _⟩ => ⟨S544x512x1024, .f32⟩
  | .hbm, ⟨30, _⟩ => ⟨S544x512x1024, .f32⟩
  | .hbm, ⟨31, _⟩ => ⟨S_, .f32⟩
  | .hbm, ⟨32, _⟩ => ⟨S544x512x1024, .f32⟩
  | .hbm, ⟨33, _⟩ => ⟨S544x512x1024, .f32⟩
  | .hbm, ⟨34, _⟩ => ⟨S_, .i32⟩
  | .hbm, ⟨35, _⟩ => ⟨S544, .i32⟩
  | .hbm, ⟨36, _⟩ => ⟨S544, .i1⟩
  | .hbm, ⟨37, _⟩ => ⟨S_, .i32⟩
  | .hbm, ⟨38, _⟩ => ⟨S544, .i32⟩
  | .hbm, ⟨39, _⟩ => ⟨S544, .i32⟩
  | .hbm, ⟨40, _⟩ => ⟨S544, .i32⟩
  | .hbm, ⟨41, _⟩ => ⟨S544x1, .i32⟩
  | .hbm, ⟨42, _⟩ => ⟨S544x1024x1024, .f32⟩
  | .hbm, ⟨43, _⟩ => ⟨S544x512x1024, .f32⟩
  | .hbm, ⟨44, _⟩ => ⟨S_, .i32⟩
  | .hbm, ⟨45, _⟩ => ⟨S544, .i32⟩
  | .hbm, ⟨46, _⟩ => ⟨S544, .i1⟩
  | .hbm, ⟨47, _⟩ => ⟨S_, .i32⟩
  | .hbm, ⟨48, _⟩ => ⟨S544, .i32⟩
  | .hbm, ⟨49, _⟩ => ⟨S544, .i32⟩
  | .hbm, ⟨50, _⟩ => ⟨S544, .i32⟩
  | .hbm, ⟨51, _⟩ => ⟨S544x1, .i32⟩
  | .hbm, ⟨52, _⟩ => ⟨S544x1024, .f32⟩
  | .hbm, ⟨53, _⟩ => ⟨S544x1x1024, .f32⟩
  | .hbm, ⟨54, _⟩ => ⟨S544x512x1024, .f32⟩
  | .hbm, ⟨55, _⟩ => ⟨S544x512x1024, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S544x512x1024, .f32⟩
  | .hbm, ⟨60, _⟩ => ⟨S544x512x1024, .f32⟩
  | .hbm, ⟨61, _⟩ => ⟨S_, .f32⟩
  | .hbm, ⟨62, _⟩ => ⟨S544x512x1024, .f32⟩
  | .hbm, ⟨63, _⟩ => ⟨S544x512x1024, .f32⟩
  | .hbm, ⟨64, _⟩ => ⟨S_, .f32⟩
  | .hbm, ⟨65, _⟩ => ⟨S544x512x1024, .f32⟩
  | .hbm, ⟨66, _⟩ => ⟨S544x512x1024, .f32⟩
  | .hbm, ⟨67, _⟩ => ⟨S_, .f32⟩
  | .hbm, ⟨68, _⟩ => ⟨S544x512x1024, .f32⟩
  | .hbm, ⟨69, _⟩ => ⟨S544x512x1024, .f32⟩
  | .hbm, ⟨70, _⟩ => ⟨S544x512x1024, .f32⟩
  | .hbm, ⟨71, _⟩ => ⟨S544x512x1024, .f32⟩
  | .hbm, ⟨72, _⟩ => ⟨S_, .f32⟩
  | .hbm, ⟨73, _⟩ => ⟨S544x512x1024, .f32⟩
  | .hbm, ⟨74, _⟩ => ⟨S544x512x1024, .f32⟩
  | .hbm, ⟨75, _⟩ => ⟨S_, .f32⟩
  | .hbm, ⟨76, _⟩ => ⟨S544x512x1024, .f32⟩
  | .hbm, ⟨77, _⟩ => ⟨S544x512x1024, .f32⟩
  | .hbm, ⟨78, _⟩ => ⟨S544x512x1024, .f32⟩
  | .hbm, ⟨79, _⟩ => ⟨S544x512x1024, .f32⟩
  | .hbm, ⟨80, _⟩ => ⟨S_, .i32⟩
  | .hbm, ⟨81, _⟩ => ⟨S544, .i32⟩
  | .hbm, ⟨82, _⟩ => ⟨S544, .i1⟩
  | .hbm, ⟨83, _⟩ => ⟨S_, .i32⟩
  | .hbm, ⟨84, _⟩ => ⟨S544, .i32⟩
  | .hbm, ⟨85, _⟩ => ⟨S544, .i32⟩
  | .hbm, ⟨86, _⟩ => ⟨S544, .i32⟩
  | .hbm, ⟨87, _⟩ => ⟨S544x1, .i32⟩
  | .hbm, ⟨88, _⟩ => ⟨S544x1024x1024, .f32⟩
  | .hbm, ⟨89, _⟩ => ⟨S544x512x1024, .f32⟩
  | .hbm, ⟨90, _⟩ => ⟨S_, .i32⟩
  | .hbm, ⟨91, _⟩ => ⟨S544, .i32⟩
  | .hbm, ⟨92, _⟩ => ⟨S544, .i1⟩
  | .hbm, ⟨93, _⟩ => ⟨S_, .i32⟩
  | .hbm, ⟨94, _⟩ => ⟨S544, .i32⟩
  | .hbm, ⟨95, _⟩ => ⟨S544, .i32⟩
  | .hbm, ⟨96, _⟩ => ⟨S544, .i32⟩
  | .hbm, ⟨97, _⟩ => ⟨S544x1, .i32⟩
  | .hbm, ⟨98, _⟩ => ⟨S544x1024, .f32⟩
  | .hbm, ⟨99, _⟩ => ⟨S544x1x1024, .f32⟩
  | .hbm, ⟨100, _⟩ => ⟨S544x512x1024, .f32⟩
  | .hbm, ⟨101, _⟩ => ⟨S544x512x1024, .f32⟩
  | .hbm, ⟨102, _⟩ => ⟨S544, .i32⟩
  | .hbm, ⟨103, _⟩ => ⟨S_, .i32⟩
  | .hbm, ⟨104, _⟩ => ⟨S544, .i32⟩
  | .hbm, ⟨105, _⟩ => ⟨S544, .i1⟩
  | .hbm, ⟨106, _⟩ => ⟨S544x1x1, .i1⟩
  | .hbm, ⟨107, _⟩ => ⟨S_, .f32⟩
  | .hbm, ⟨108, _⟩ => ⟨S_, .f32⟩
  | .hbm, ⟨109, _⟩ => ⟨S544x512x1024, .i1⟩
  | .hbm, ⟨110, _⟩ => ⟨S544x512x1024, .f32⟩
  | .hbm, ⟨111, _⟩ => ⟨S544x512x1024, .f32⟩
  | .hbm, ⟨112, _⟩ => ⟨S544x4096x128, .f32⟩
  | _, _ => ⟨S544x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_cst_8 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_v40 : Ref sig .tc := ⟨.hbm, 66, rfl⟩
abbrev main_cst_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_v46 : Ref sig .tc := ⟨.hbm, 74, rfl⟩
abbrev main_cst_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_13 : Ref sig .tc := ⟨.hbm, 80, rfl⟩
abbrev main_v51 : Ref sig .tc := ⟨.hbm, 81, rfl⟩
abbrev main_v52 : Ref sig .tc := ⟨.hbm, 82, rfl⟩
abbrev main_c_14 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_15 : Ref sig .tc := ⟨.hbm, 90, rfl⟩
abbrev main_v59 : Ref sig .tc := ⟨.hbm, 91, rfl⟩
abbrev main_v60 : Ref sig .tc := ⟨.hbm, 92, rfl⟩
abbrev main_c_16 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_17 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_v74 : Ref sig .tc := ⟨.hbm, 111, rfl⟩
abbrev main_v75 : Ref sig .tc := ⟨.hbm, 112, rfl⟩

abbrev nD : Nat := 1
abbrev τ : Topo := Topo.v7x

variable {F : FTy → Type} [FloatOps F]
-- ==== Proof.Softmax.lean ====
module
public import Idealize.ShloMosaic.Lib.Pointwise
@[expose] public section
noncomputable section

/-!
# One row of a softmax, taken block by block

For a row of scores `s` and values `v` (both over the extended reals), the largest score, the sum of the
exponentials and the weighted sum of the values over the first `n` positions, and how the three change when a block
of positions is appended: the running sums are rescaled by the exponential of the change of the maximum.
-/
namespace Cert.Attn
open Idealize.ShloMosaic

theorem exp_nonneg (x : EReal) : 0 ≤ Ideal.exp x := by
  induction x using EReal.rec with
  | bot => simp
  | top => simp
  | coe r => simpa using (Real.exp_pos r).le

theorem exp_pos_of_ne_bot {x : EReal} (h : x ≠ ⊥) : 0 < Ideal.exp x := by
  induction x using EReal.rec with
  | bot => exact absurd rfl h
  | top => simp
  | coe r => simpa using Real.exp_pos r

/-- The exponential of a difference that is not positive is no more than one, so it is finite. -/
theorem exp_sub_ne_top {a b : EReal} (h : a ≤ b) : Ideal.exp (a - b) ≠ ⊤ := by
  induction b using EReal.rec with
  | bot => rw [le_bot_iff.1 h]; simp
  | top => simp
  | coe r =>
    induction a using EReal.rec with
    | bot => simp
    | top => exact absurd h (by simp)
    | coe q => rw [← EReal.coe_sub, Ideal.exp_coe]; exact EReal.coe_ne_top _

/-- Changing the maximum from `a` to `b` rescales an exponential. -/
theorem exp_rescale {s a b : EReal} (hs : s ≤ a) (h : a ≤ b) :
    Ideal.exp (s - a) * Ideal.exp (a - b) = Ideal.exp (s - b) := by
  induction b using EReal.rec with
  | bot => rw [le_bot_iff.1 h] at hs ⊢; rw [le_bot_iff.1 hs]; simp
  | top => simp
  | coe r =>
    induction a using EReal.rec with
    | bot => rw [le_bot_iff.1 hs]; simp
    | top => exact absurd h (by simp)
    | coe q =>
      induction s using EReal.rec with
      | bot => simp
      | top => exact absurd hs (by simp)
      | coe p =>
        rw [← EReal.coe_sub, ← EReal.coe_sub, ← EReal.coe_sub, Ideal.exp_coe, Ideal.exp_coe, Ideal.exp_coe,
          ← EReal.coe_mul, ← Real.exp_add]
        congr 2; ring

/-- A factor that is finite and not negative passes into a sum. -/
theorem sum_mul_of_finite {ι : Type*} (S : Finset ι) (f : ι → EReal) {c : EReal} (h0 : 0 ≤ c) (ht : c ≠ ⊤) :
    (∑ j ∈ S, f j) * c = ∑ j ∈ S, f j * c := by
  classical
  induction S using Finset.induction_on with
  | empty => simp
  | insert a S ha ih =>
    rw [Finset.sum_insert ha, Finset.sum_insert ha, EReal.right_distrib_of_nonneg_of_ne_top h0 ht, ih]

/-- The largest of the first `n` scores. -/
def mx (s : ℕ → EReal) (n : ℕ) : EReal := (Finset.range n).sup s

/-- The sum of the exponentials of the first `n` scores, relative to `m`. -/
def den (s : ℕ → EReal) (n : ℕ) (m : EReal) : EReal := ∑ j ∈ Finset.range n, Ideal.exp (s j - m)

/-- The sum of the first `n` values, each weighted by its score's exponential. -/
def num (s v : ℕ → EReal) (n : ℕ) (m : EReal) : EReal := ∑ j ∈ Finset.range n, Ideal.exp (s j - m) * v j

theorem le_mx {s : ℕ → EReal} {n j : ℕ} (h : j < n) : s j ≤ mx s n := Finset.le_sup (f := s) (Finset.mem_range.2 h)

theorem mx_mono (s : ℕ → EReal) {n n' : ℕ} (h : n ≤ n') : mx s n ≤ mx s n' :=
  Finset.sup_mono (Finset.range_mono h)

theorem fold_max_eq_sup {ι : Type*} (S : Finset ι) (f : ι → EReal) : S.fold max ⊥ f = S.sup f := rfl

theorem mx_add (s : ℕ → EReal) (n B : ℕ) :
    mx s (n + B) = max (mx s n) (Finset.univ.fold max ⊥ fun x : Fin B => s (n + x.val)) := by
  rw [fold_max_eq_sup]
  apply le_antisymm
  · refine Finset.sup_le fun j hj => ?_
    have hj := Finset.mem_range.1 hj
    by_cases h : j < n
    · exact le_max_of_le_left (le_mx h)
    · refine le_max_of_le_right ?_
      have : s j = (fun x : Fin B => s (n + x.val)) ⟨j - n, by omega⟩ := by simp; congr 1; omega
      rw [this]
      exact Finset.le_sup (f := fun x : Fin B => s (n + x.val)) (Finset.mem_univ _)
  · refine max_le (mx_mono s (by omega)) (Finset.sup_le fun x _ => le_mx (by omega))

theorem sum_range_add_fin {M : Type*} [AddCommMonoid M] (f : ℕ → M) (n B : ℕ) :
    ∑ j ∈ Finset.range (n + B), f j = ∑ j ∈ Finset.range n, f j + ∑ x : Fin B, f (n + x.val) := by
  rw [Finset.sum_range_add, Finset.sum_range (fun x => f (n + x))]

theorem den_rescale (s : ℕ → EReal) {n : ℕ} {a b : EReal} (ha : ∀ j < n, s j ≤ a) (h : a ≤ b) :
    den s n a * Ideal.exp (a - b) = den s n b := by
  unfold den
  rw [sum_mul_of_finite _ _ (exp_nonneg _) (exp_sub_ne_top h)]
  exact Finset.sum_congr rfl fun j hj => exp_rescale (ha j (Finset.mem_range.1 hj)) h

theorem num_rescale (s v : ℕ → EReal) {n : ℕ} {a b : EReal} (ha : ∀ j < n, s j ≤ a) (h : a ≤ b) :
    num s v n a * Ideal.exp (a - b) = num s v n b := by
  unfold num
  rw [sum_mul_of_finite _ _ (exp_nonneg _) (exp_sub_ne_top h)]
  refine Finset.sum_congr rfl fun j hj => ?_
  rw [mul_right_comm, exp_rescale (ha j (Finset.mem_range.1 hj)) h]

theorem den_add (s : ℕ → EReal) (n B : ℕ) :
    den s (n + B) (mx s (n + B)) = den s n (mx s n) * Ideal.exp (mx s n - mx s (n + B))
      + ∑ x : Fin B, Ideal.exp (s (n + x.val) - mx s (n + B)) := by
  rw [den_rescale s (fun j hj => le_mx hj) (mx_mono s (by omega))]
  exact sum_range_add_fin _ n B

theorem num_add (s v : ℕ → EReal) (n B : ℕ) :
    num s v (n + B) (mx s (n + B)) = num s v n (mx s n) * Ideal.exp (mx s n - mx s (n + B))
      + ∑ x : Fin B, Ideal.exp (s (n + x.val) - mx s (n + B)) * v (n + x.val) := by
  rw [num_rescale s v (fun j hj => le_mx hj) (mx_mono s (by omega))]
  exact sum_range_add_fin _ n B

/-- Positions whose scores are `-∞` change nothing: the row over `n` positions is the row over the first `n'`. -/
theorem mx_masked (s : ℕ → EReal) {n n' : ℕ} (h : n ≤ n') (hm : ∀ j, n ≤ j → j < n' → s j = ⊥) : mx s n' = mx s n := by
  refine le_antisymm (Finset.sup_le fun j hj => ?_) (mx_mono s h)
  by_cases hj' : j < n
  · exact le_mx hj'
  · rw [hm j (by omega) (Finset.mem_range.1 hj)]; exact bot_le

theorem den_masked (s : ℕ → EReal) {n n' : ℕ} (h : n ≤ n') (hm : ∀ j, n ≤ j → j < n' → s j = ⊥) (m : EReal) :
    den s n' m = den s n m := by
  unfold den
  refine (Finset.sum_subset (Finset.range_mono h) fun j hj hj' => ?_).symm
  rw [hm j (by simpa using hj') (Finset.mem_range.1 hj)]; simp

theorem num_masked (s v : ℕ → EReal) {n n' : ℕ} (h : n ≤ n') (hm : ∀ j, n ≤ j → j < n' → s j = ⊥) (m : EReal) :
    num s v n' m = num s v n m := by
  unfold num
  refine (Finset.sum_subset (Finset.range_mono h) fun j hj hj' => ?_).symm
  rw [hm j (by simpa using hj') (Finset.mem_range.1 hj)]; simp

/-- A row with no infinite score that has at least one finite one: the sum of the exponentials is a positive real. -/
theorem den_real (s : ℕ → EReal) (n : ℕ) (ht : ∀ j < n, s j ≠ ⊤) (hb : ∃ j < n, s j ≠ ⊥) :
    ∃ L : ℝ, 0 < L ∧ den s n (mx s n) = (L : EReal) := by
  obtain ⟨j0, hj0, hj0b⟩ := hb
  have hmt : mx s n ≠ ⊤ := by
    obtain ⟨j, hj, hje⟩ := Finset.exists_mem_eq_sup (Finset.range n) ⟨j0, Finset.mem_range.2 hj0⟩ s
    unfold mx; rw [hje]; exact ht j (Finset.mem_range.1 hj)
  have hmb : mx s n ≠ ⊥ := fun h => hj0b (le_bot_iff.1 (h ▸ le_mx hj0))
  have hd0 : 0 < den s n (mx s n) := by
    unfold den
    refine lt_of_lt_of_le ?_ (Finset.single_le_sum (f := fun j => Ideal.exp (s j - mx s n))
      (fun j _ => exp_nonneg _) (Finset.mem_range.2 hj0))
    refine exp_pos_of_ne_bot ?_
    lift mx s n to ℝ using ⟨hmt, hmb⟩ with m
    lift s j0 to ℝ using ⟨ht j0 hj0, hj0b⟩ with q
    rw [← EReal.coe_sub]; exact EReal.coe_ne_bot _
  have hdt : den s n (mx s n) ≠ ⊤ := by
    unfold den
    have : ∀ S : Finset ℕ, S ⊆ Finset.range n → ∑ j ∈ S, Ideal.exp (s j - mx s n) ≠ ⊤ := by
      intro S
      induction S using Finset.induction_on with
      | empty => intro _; simp
      | insert a S ha ih =>
        intro hS
        rw [Finset.sum_insert ha]
        exact EReal.add_ne_top (exp_sub_ne_top (le_mx (Finset.mem_range.1 (hS (Finset.mem_insert_self _ _)))))
          (ih fun x hx => hS (Finset.mem_insert_of_mem hx))
    exact this _ (Finset.Subset.refl _)
  refine ⟨(den s n (mx s n)).toReal, ?_, (EReal.coe_toReal hdt (ne_bot_of_gt hd0)).symm⟩
  rw [← EReal.coe_pos, EReal.coe_toReal hdt (ne_bot_of_gt hd0)]
  exact hd0

/-- Dividing a weighted sum by a positive real divides each weight. -/
theorem num_div (s v : ℕ → EReal) (n : ℕ) (m : EReal) {L : ℝ} (hL : 0 < L) :
    Ideal.div (num s v n m) (L : EReal) = ∑ j ∈ Finset.range n, Ideal.div (Ideal.exp (s j - m)) (L : EReal) * v j := by
  have hne : (L : EReal) ≠ 0 := by exact_mod_cast hL.ne'
  have hi : ((L : EReal))⁻¹ = ((L⁻¹ : ℝ) : EReal) := (EReal.coe_inv L).symm
  simp only [Ideal.div, if_neg hne, hi]
  unfold num
  rw [sum_mul_of_finite _ _ (by exact_mod_cast (inv_pos.2 hL).le) (EReal.coe_ne_top _)]
  exact Finset.sum_congr rfl fun j _ => mul_right_comm _ _ _

end Cert.Attn
-- ==== Proof.Pay.lean ====
module
public import proofs.«01_k».proof.Proof.Gen.KernelIdeal.Skeleton
public import proofs.«01_k».proof.Proof.Gen.KernelIdeal
public import proofs.«01_k».proof.Proof.Softmax
public import Idealize.ShloMosaic.Lib.Pointwise
public import Idealize.ShloMosaic.Lib.WordCmp
@[expose] public section
set_option maxRecDepth 16384
noncomputable section

/-!
# One head of one trip of the flash loop, at an index

The three vectors one head stores in one trip, read at a row: the next largest score, the next sum of exponentials and
the next weighted sum of the values, when the vectors it found hold those of the positions before.
-/
namespace Cert.KernelIdeal.Val
open Cert.KernelIdeal Cert.KernelIdeal.Gen Cert.Attn Idealize.ShloMosaic Idealize.ShloMosaic.TcCoe Idealize.SL.Sem

theorem mask_named : Named.named (F := Ideal) κ "mask" (φ := .f32) 0xF149F2CA#32 = (⊥ : EReal) := rfl

theorem negInf_bits : Ideal.ofBits .f32 0xFF800000#32 = (⊥ : EReal) := by simp [Ideal.ofBits, Ideal.ieee]
theorem posInf_bits : Ideal.ofBits .f32 0x7F800000#32 = (⊤ : EReal) := by simp [Ideal.ofBits, Ideal.ieee]

section Head
variable {mask : IVec S256x512 1} {sc : FVec Ideal S256x512 .f32} {r : Fin 256} {s v : ℕ → EReal} {n : ℕ}
  (hs : ∀ x : Fin 512, Scalar.select (mask (ix2 r x)) (sc (ix2 r x)) (⊥ : EReal) = s (n + x.val))
  {M L : FVec Ideal S1x256x1 .f32} (hM : M (ix3 0 r 0) = mx s n)
include hs hM

theorem pay_m : k0_pay22 (F := Ideal) (k0_pay17 mask sc M) (ix3 0 r 0) = mx s (n + 512) := by
  pointwise [k0_pay22, k0_pay17, k0_pay16, k0_pay15]
  simp only [mask_named, negInf_bits]
  rw [mx_add, ← hM]
  refine congrArg (max _) ?_
  exact congrArg (fun f => Finset.fold max ⊥ f Finset.univ) (funext hs)

theorem pay_l (hL : L (ix3 0 r 0) = den s n (mx s n)) :
    k0_pay21 (F := Ideal) (k0_pay20 mask sc M L) (ix3 0 r 0) = den s (n + 512) (mx s (n + 512)) := by
  pointwise [k0_pay21, k0_pay20, k0_pay19, k0_pay18, k0_pay17, k0_pay16, k0_pay15]
  simp only [mask_named, negInf_bits]
  rw [den_add, mx_add, ← hM, hL, ← hM]
  have hf : Finset.fold max (⊥ : EReal) (fun x : Fin 512 => Scalar.select (mask (ix2 r x)) (sc (ix2 r x)) (⊥ : EReal))
      Finset.univ = Finset.fold max ⊥ (fun x : Fin 512 => s (n + x.val)) Finset.univ :=
    congrArg (fun f => Finset.fold max ⊥ f Finset.univ) (funext hs)
  rw [hf]
  refine congrArg₂ (· + ·) rfl (Finset.sum_congr rfl fun x _ => ?_)
  rw [hs x]

theorem pay_a {KC : FVec Ideal S1x512x512 .bf16} {A : FVec Ideal S1x256x256 .f32} {e : Fin 256}
    (hA : A (ix3 0 r e) = num s v n (mx s n))
    (hv : ∀ x : Fin 512, KC (ix3 0 x ⟨e.val, by omega⟩) = v (n + x.val)) :
    k0_pay23 (F := Ideal) (k0_pay3 KC) (k0_pay18 mask sc M) (k0_pay19 mask sc M) A (ix3 0 r e)
      = num s v (n + 512) (mx s (n + 512)) := by
  pointwise [k0_pay23, k0_pay3, k0_pay2, k0_pay19, k0_pay18, k0_pay17, k0_pay16, k0_pay15]
  simp only [mask_named, negInf_bits]
  rw [num_add, mx_add, ← hM, hA, ← hM]
  have hf : Finset.fold max (⊥ : EReal) (fun x : Fin 512 => Scalar.select (mask (ix2 r x)) (sc (ix2 r x)) (⊥ : EReal))
      Finset.univ = Finset.fold max ⊥ (fun x : Fin 512 => s (n + x.val)) Finset.univ :=
    congrArg (fun f => Finset.fold max ⊥ f Finset.univ) (funext hs)
  rw [hf]
  refine congrArg₂ (· + ·) rfl (Finset.sum_congr rfl fun x _ => ?_)
  rw [hs x, hv x]
end Head

theorem pay_sc (KC : FVec Ideal S1x512x512 .bf16) (Q : FVec Ideal S256x512 .bf16) (r : Fin 256) (x : Fin 512) :
    k0_pay5 (F := Ideal) KC Q (ix2 r x) = ∑ d : Fin 512, Q (ix2 r d) * KC (ix3 0 x d) := by
  pointwise [k0_pay5, k0_pay2]

/-- The mask of a trip: the key's position is no later than the query's. -/
theorem pay_mask (i : grid0.Coords) (k : Fin (k0_t1_loop i).trips) (r : Fin 256) (x : Fin 512) :
    k0_pay4 i (k0_pay81 i) (iota Kind.tc S256x512 32 [1] iota_S256x512_d1_w32) 0#32 1#32 k (ix2 r x)
      = if 512 * k.val + x.val ≤ 256 * (i 1).val + r.val then 1#1 else 0#1 := by
  pointwise [k0_pay4, k0_pay81]
  have hk : k.val < 4 := Nat.lt_of_lt_of_le k.isLt (k0_t1_abs i).2.1
  have hi : (i 1).val < 8 := (i 1).isLt
  have h1 : IntOp.addi (BitVec.ofNat 32 x.val) (Scalar.muli (Scf.iv 0#32 1#32 k.val) 512#32)
      = BitVec.ofNat 32 (512 * k.val + x.val) := by
    apply BitVec.eq_of_toNat_eq
    simp [IntOp.addi, Scalar.muli, IntOp.muli, Scf.iv]
    omega
  have h2 : IntOp.addi (Scalar.muli (BitVec.ofNat 32 (i 1).val) 256#32) (BitVec.ofNat 32 r.val)
      = BitVec.ofNat 32 (256 * (i 1).val + r.val) := by
    apply BitVec.eq_of_toNat_eq
    simp [IntOp.addi, Scalar.muli, IntOp.muli]
    omega
  rw [h1, h2]
  have hr := r.isLt
  have hx := x.isLt
  rw [WordCmp.cmpi_sle_ofNat (by omega) (by omega)]
  split
  · rw [decide_eq_true (by assumption)]; rfl
  · rw [decide_eq_false (by assumption)]; rfl

end Cert.KernelIdeal.Val
-- ==== Proof.Trip.lean ====
module
public import proofs.«01_k».proof.Proof.Pay
public import proofs.«01_k».proof.Proof.Gen.KernelIdeal.Value
public import Idealize.ShloMosaic.Lib.WritesUnit
public import Idealize.ShloMosaic.Lib.Pipeline.ValueKit.Tiles
@[expose] public section
set_option maxRecDepth 16384
noncomputable section

/-!
# One trip of the flash loop

What the three scratch buffers (weighted sums, maxima, sums of exponentials) hold after one trip over 512 keys, for the
four heads at once, when before the trip they held the running values over the keys seen so far.
-/
namespace Cert.KernelIdeal.Val
open Cert.KernelIdeal Cert.KernelIdeal.Gen Cert.Attn Idealize.ShloMosaic Idealize.ShloMosaic.TcCoe Idealize.SL.Sem

/-- The masked score of query row `r` (of the tile at row `256 * b`) of head `h` against the key at position `j`. -/
def rowScore (Q : FVec Ideal S256x2048 .bf16) (K : FVec Ideal S1x2048x512 .bf16) (b : ℕ) (h : Fin 4) (r : Fin 256) (j : ℕ) :
    EReal :=
  if j ≤ 256 * b + r.val then
    ∑ d : Fin 512, Q (ix2 r ⟨512 * h.val + d.val, by omega⟩) * K (ix3 0 (Fin.ofNat 2048 j) d)
  else ⊥

/-- Entry `e` of the value row at position `j`: the latent part of the key row. -/
def rowVal (K : FVec Ideal S1x2048x512 .bf16) (e : Fin 256) (j : ℕ) : EReal :=
  K (ix3 0 (Fin.ofNat 2048 j) ⟨e.val, by omega⟩)

/-- The three buffers hold the running values over the first `n` keys. -/
structure St (Q : FVec Ideal S256x2048 .bf16) (K : FVec Ideal S1x2048x512 .bf16) (b n : ℕ)
    (A : FVec Ideal S4x256x256 .f32) (M L : FVec Ideal S4x256x1 .f32) : Prop where
  m : ∀ (h : Fin 4) (r : Fin 256), M (ix3 h r 0) = mx (rowScore Q K b h r) n
  l : ∀ (h : Fin 4) (r : Fin 256), L (ix3 h r 0) = den (rowScore Q K b h r) n (mx (rowScore Q K b h r) n)
  a : ∀ (h : Fin 4) (r e : Fin 256),
    A (ix3 h r e) = num (rowScore Q K b h r) (rowVal K e) n (mx (rowScore Q K b h r) n)

/-- The head's scores of a trip, read off the loaded query columns and key rows, are the row's masked scores. -/
theorem trip_score (i : grid0.Coords) (k : Fin (k0_t1_loop i).trips) (Q : FVec Ideal S256x2048 .bf16)
    (K : FVec Ideal S1x2048x512 .bf16) (h : Fin 4) (r : Fin 256) (KC : FVec Ideal S1x512x512 .bf16) (Qh : FVec Ideal S256x512 .bf16)
    (hQ : ∀ d : Fin 512, Qh (ix2 r d) = Q (ix2 r ⟨512 * h.val + d.val, by omega⟩))
    (hK : ∀ (x d : Fin 512), KC (ix3 0 x d) = K (ix3 0 (Fin.ofNat 2048 (512 * k.val + x.val)) d)) (x : Fin 512) :
    Scalar.select (k0_pay4 i (k0_pay81 i) (iota Kind.tc S256x512 32 [1] iota_S256x512_d1_w32) 0#32 1#32 k (ix2 r x))
        (k0_pay5 (F := Ideal) KC Qh (ix2 r x)) (⊥ : EReal)
      = rowScore Q K (i 1).val h r (512 * k.val + x.val) := by
  rw [pay_mask, pay_sc]
  unfold rowScore
  split
  · simp only [hQ, hK, Scalar.select]; rfl
  · rfl

/-- Four stores, one per head, read back at an index of head `h`. -/
theorem read4_s {sig : RefSig} {κ : Kind} {sp : Space} (v : View sig κ sp S4x256x1 .f32) (f : v.ty.Contents (Elt Ideal))
    (w0 w1 w2 w3 : FVec Ideal ⟨3, ![1, 256, 1]⟩ .f32) (i0 : ∀ a, ![0, 0, 0] a + ![1, 256, 1] a ≤ S4x256x1.size a)
    (i1 : ∀ a, ![1, 0, 0] a + ![1, 256, 1] a ≤ S4x256x1.size a) (i2 : ∀ a, ![2, 0, 0] a + ![1, 256, 1] a ≤ S4x256x1.size a)
    (i3 : ∀ a, ![3, 0, 0] a + ![1, 256, 1] a ≤ S4x256x1.size a) (P : Fin 4 → EReal) (r : Fin 256)
    (h0 : w0 (ix3 0 r 0) = P 0) (h1 : w1 (ix3 0 r 0) = P 1) (h2 : w2 (ix3 0 r 0) = P 2) (h3 : w3 (ix3 0 r 0) = P 3) (h : Fin 4) :
    v.read (Elt Ideal) (v.writes (Elt Ideal) f [⟨Rect.unit ![3, 0, 0] ![1, 256, 1] i3, w3⟩, ⟨Rect.unit ![2, 0, 0] ![1, 256, 1] i2, w2⟩,
      ⟨Rect.unit ![1, 0, 0] ![1, 256, 1] i1, w1⟩, ⟨Rect.unit ![0, 0, 0] ![1, 256, 1] i0, w0⟩]) (ix3 h r 0) = P h := by
  fin_cases h
  · exact (View.read_writes_cons_unit_of_not_mem v f i3 w3 _ _ rfl (0 : Fin 3) (Or.inl (show (0 : ℕ) < 3 by decide))).trans <|
      (View.read_writes_cons_unit_of_not_mem v f i2 w2 _ _ rfl (0 : Fin 3) (Or.inl (show (0 : ℕ) < 2 by decide))).trans <|
      (View.read_writes_cons_unit_of_not_mem v f i1 w1 _ _ rfl (0 : Fin 3) (Or.inl (show (0 : ℕ) < 1 by decide))).trans <|
      (View.read_writes_cons_unit_of_mem v f i0 w0 _ _ (ix3 0 r 0) rfl (by
        intro a; match a with | ⟨0, _⟩ => rfl | ⟨1, _⟩ => exact (Nat.zero_add _).symm | ⟨2, _⟩ => exact (Nat.zero_add _).symm)).trans h0
  · exact (View.read_writes_cons_unit_of_not_mem v f i3 w3 _ _ rfl (0 : Fin 3) (Or.inl (show (1 : ℕ) < 3 by decide))).trans <|
      (View.read_writes_cons_unit_of_not_mem v f i2 w2 _ _ rfl (0 : Fin 3) (Or.inl (show (1 : ℕ) < 2 by decide))).trans <|
      (View.read_writes_cons_unit_of_mem v f i1 w1 _ _ (ix3 0 r 0) rfl (by
        intro a; match a with | ⟨0, _⟩ => rfl | ⟨1, _⟩ => exact (Nat.zero_add _).symm | ⟨2, _⟩ => exact (Nat.zero_add _).symm)).trans h1
  · exact (View.read_writes_cons_unit_of_not_mem v f i3 w3 _ _ rfl (0 : Fin 3) (Or.inl (show (2 : ℕ) < 3 by decide))).trans <|
      (View.read_writes_cons_unit_of_mem v f i2 w2 _ _ (ix3 0 r 0) rfl (by
        intro a; match a with | ⟨0, _⟩ => rfl | ⟨1, _⟩ => exact (Nat.zero_add _).symm | ⟨2, _⟩ => exact (Nat.zero_add _).symm)).trans h2
  · exact (View.read_writes_cons_unit_of_mem v f i3 w3 _ _ (ix3 0 r 0) rfl (by
        intro a; match a with | ⟨0, _⟩ => rfl | ⟨1, _⟩ => exact (Nat.zero_add _).symm | ⟨2, _⟩ => exact (Nat.zero_add _).symm)).trans h3

/-- Four stores, one per head, read back at an index of head `h`. -/
theorem read4_a {sig : RefSig} {κ : Kind} {sp : Space} (v : View sig κ sp S4x256x256 .f32) (f : v.ty.Contents (Elt Ideal))
    (w0 w1 w2 w3 : FVec Ideal ⟨3, ![1, 256, 256]⟩ .f32) (i0 : ∀ a, ![0, 0, 0] a + ![1, 256, 256] a ≤ S4x256x256.size a)
    (i1 : ∀ a, ![1, 0, 0] a + ![1, 256, 256] a ≤ S4x256x256.size a) (i2 : ∀ a, ![2, 0, 0] a + ![1, 256, 256] a ≤ S4x256x256.size a)
    (i3 : ∀ a, ![3, 0, 0] a + ![1, 256, 256] a ≤ S4x256x256.size a) (P : Fin 4 → EReal) (r e : Fin 256)
    (h0 : w0 (ix3 0 r e) = P 0) (h1 : w1 (ix3 0 r e) = P 1) (h2 : w2 (ix3 0 r e) = P 2) (h3 : w3 (ix3 0 r e) = P 3) (h : Fin 4) :
    v.read (Elt Ideal) (v.writes (Elt Ideal) f [⟨Rect.unit ![3, 0, 0] ![1, 256, 256] i3, w3⟩, ⟨Rect.unit ![2, 0, 0] ![1, 256, 256] i2, w2⟩,
      ⟨Rect.unit ![1, 0, 0] ![1, 256, 256] i1, w1⟩, ⟨Rect.unit ![0, 0, 0] ![1, 256, 256] i0, w0⟩]) (ix3 h r e) = P h := by
  fin_cases h
  · exact (View.read_writes_cons_unit_of_not_mem v f i3 w3 _ _ rfl (0 : Fin 3) (Or.inl (show (0 : ℕ) < 3 by decide))).trans <|
      (View.read_writes_cons_unit_of_not_mem v f i2 w2 _ _ rfl (0 : Fin 3) (Or.inl (show (0 : ℕ) < 2 by decide))).trans <|
      (View.read_writes_cons_unit_of_not_mem v f i1 w1 _ _ rfl (0 : Fin 3) (Or.inl (show (0 : ℕ) < 1 by decide))).trans <|
      (View.read_writes_cons_unit_of_mem v f i0 w0 _ _ (ix3 0 r e) rfl (by
        intro a; match a with | ⟨0, _⟩ => rfl | ⟨1, _⟩ => exact (Nat.zero_add _).symm | ⟨2, _⟩ => exact (Nat.zero_add _).symm)).trans h0
  · exact (View.read_writes_cons_unit_of_not_mem v f i3 w3 _ _ rfl (0 : Fin 3) (Or.inl (show (1 : ℕ) < 3 by decide))).trans <|
      (View.read_writes_cons_unit_of_not_mem v f i2 w2 _ _ rfl (0 : Fin 3) (Or.inl (show (1 : ℕ) < 2 by decide))).trans <|
      (View.read_writes_cons_unit_of_mem v f i1 w1 _ _ (ix3 0 r e) rfl (by
        intro a; match a with | ⟨0, _⟩ => rfl | ⟨1, _⟩ => exact (Nat.zero_add _).symm | ⟨2, _⟩ => exact (Nat.zero_add _).symm)).trans h1
  · exact (View.read_writes_cons_unit_of_not_mem v f i3 w3 _ _ rfl (0 : Fin 3) (Or.inl (show (2 : ℕ) < 3 by decide))).trans <|
      (View.read_writes_cons_unit_of_mem v f i2 w2 _ _ (ix3 0 r e) rfl (by
        intro a; match a with | ⟨0, _⟩ => rfl | ⟨1, _⟩ => exact (Nat.zero_add _).symm | ⟨2, _⟩ => exact (Nat.zero_add _).symm)).trans h2
  · exact (View.read_writes_cons_unit_of_mem v f i3 w3 _ _ (ix3 0 r e) rfl (by
        intro a; match a with | ⟨0, _⟩ => rfl | ⟨1, _⟩ => exact (Nat.zero_add _).symm | ⟨2, _⟩ => exact (Nat.zero_add _).symm)).trans h3

section
variable (𝒱 : Variants) (c : Dev nD) (bd : Option 𝒱.V) (i : grid0.Coords) (arg2 : Memref sig .tc .vmem S256x2048 .bf16) (harg2 : arg2.IsWhole) (arg3 : Memref sig .tc .vmem S1x2048x512 .bf16) (harg3 : arg3.IsWhole) (arg4 : Memref sig .tc .vmem S256x1024 .f32) (harg4 : arg4.IsWhole) (arg5 : Memref sig .tc .vmem S256x512 .bf16) (harg5 : arg5.IsWhole) (arg6 : Memref sig .tc .vmem S4x256x128 .bf16) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S4x256x256 .f32) (harg10 : arg10.IsWhole) (arg11 : Memref sig .tc .vmem S4x256x1 .f32) (harg11 : arg11.IsWhole) (arg12 : Memref sig .tc .vmem S4x256x1 .f32) (harg12 : arg12.IsWhole) (v20 : BitVec 32) (c512_i32_12 : BitVec 32) (v21 : BitVec 32) (v32 : BitVec 1) (X_arg2 : BufTy.Contents (Elt Ideal) arg2.view.ty) (X_arg3 : BufTy.Contents (Elt Ideal) arg3.view.ty) (G_arg10 : BufTy.Contents (Elt Ideal) arg10.view.ty) (G_arg11 : BufTy.Contents (Elt Ideal) arg11.view.ty) (G_arg12 : BufTy.Contents (Elt Ideal) arg12.view.ty) (k : Fin (k0_t1_loop i).trips)

theorem key_read (x d : Fin 512) : (View.readAt (Elt Ideal) arg3.view (Rect.unit (s := S1x2048x512) (k0_off1 i k) S1x512x512.size (k0_off1_inb i k)).toLoadRect X_arg3) (ix3 0 x d)
    = arg3.view.read (Elt Ideal) X_arg3 (ix3 0 (Fin.ofNat 2048 (512 * k.val + x.val)) d) := by
  have hk : k.val < 4 := Nat.lt_of_lt_of_le k.isLt (k0_t1_abs i).2.1
  refine View.ld_unit_apply_of (arg3.view.read (Elt Ideal) X_arg3) _ _ _ _ _ fun a => ?_
  have h0 : k0_off1 i k 0 = 0 := by rw [k0_off1_eq]; rfl
  have h1 : k0_off1 i k 1 = 512 * k.val := by rw [k0_off1_eq]; rfl
  have h2 : k0_off1 i k 2 = 0 := by rw [k0_off1_eq]; rfl
  match a with
  | ⟨0, _⟩ => exact (show (0 : ℕ) = k0_off1 i k 0 + 0 by rw [h0])
  | ⟨1, _⟩ =>
    exact (show (512 * k.val + x.val) % 2048 = k0_off1 i k 1 + x.val by rw [h1]; exact Nat.mod_eq_of_lt (by omega))
  | ⟨2, _⟩ => exact (show d.val = k0_off1 i k 2 + d.val by rw [h2, Nat.zero_add])

theorem q_read0 (r : Fin 256) (d : Fin 512) : (View.readAt (Elt Ideal) arg2.view (Rect.unit (s := S256x2048) ![0, 0] S256x512.size inb_S256x2048_S256x512_0_0).toLoadRect X_arg2) (ix2 r d)
    = arg2.view.read (Elt Ideal) X_arg2 (ix2 r ⟨512 * ((0 : Fin 4) : Fin 4).val + d.val, by have : ((0 : Fin 4)).val = 0 := rfl; omega⟩) := by
  refine View.ld_unit_apply_of (arg2.view.read (Elt Ideal) X_arg2) _ _ _ _ _ fun a => ?_
  match a with
  | ⟨0, _⟩ => exact (Nat.zero_add _).symm
  | ⟨1, _⟩ => rfl

theorem st_read0 (r : Fin 256) (v : View sig .tc .vmem S4x256x1 .f32) (G : v.ty.Contents (Elt Ideal)) :
    (View.readAt (Elt Ideal) v (Rect.unit (s := S4x256x1) ![0, 0, 0] S1x256x1.size inb_S4x256x1_S1x256x1_0_0_0).toLoadRect G) (ix3 0 r 0)
      = v.read (Elt Ideal) G (ix3 (0 : Fin 4) r 0) := by
  refine View.ld_unit_apply_of (v.read (Elt Ideal) G) _ _ _ _ _ fun a => ?_
  match a with
  | ⟨0, _⟩ => rfl
  | ⟨1, _⟩ => exact (Nat.zero_add _).symm
  | ⟨2, _⟩ => rfl

theorem acc_read0 (r e : Fin 256) (v : View sig .tc .vmem S4x256x256 .f32) (G : v.ty.Contents (Elt Ideal)) :
    (View.readAt (Elt Ideal) v (Rect.unit (s := S4x256x256) ![0, 0, 0] S1x256x256.size inb_S4x256x256_S1x256x256_0_0_0).toLoadRect G) (ix3 0 r e)
      = v.read (Elt Ideal) G (ix3 (0 : Fin 4) r e) := by
  refine View.ld_unit_apply_of (v.read (Elt Ideal) G) _ _ _ _ _ fun a => ?_
  match a with
  | ⟨0, _⟩ => rfl
  | ⟨1, _⟩ => exact (Nat.zero_add _).symm
  | ⟨2, _⟩ => exact (Nat.zero_add _).symm

theorem q_read1 (r : Fin 256) (d : Fin 512) : (View.readAt (Elt Ideal) arg2.view (Rect.unit (s := S256x2048) ![0, 512] S256x512.size inb_S256x2048_S256x512_0_512).toLoadRect X_arg2) (ix2 r d)
    = arg2.view.read (Elt Ideal) X_arg2 (ix2 r ⟨512 * ((1 : Fin 4) : Fin 4).val + d.val, by have : ((1 : Fin 4)).val = 1 := rfl; omega⟩) := by
  refine View.ld_unit_apply_of (arg2.view.read (Elt Ideal) X_arg2) _ _ _ _ _ fun a => ?_
  match a with
  | ⟨0, _⟩ => exact (Nat.zero_add _).symm
  | ⟨1, _⟩ => rfl

theorem st_read1 (r : Fin 256) (v : View sig .tc .vmem S4x256x1 .f32) (G : v.ty.Contents (Elt Ideal)) :
    (View.readAt (Elt Ideal) v (Rect.unit (s := S4x256x1) ![1, 0, 0] S1x256x1.size inb_S4x256x1_S1x256x1_1_0_0).toLoadRect G) (ix3 0 r 0)
      = v.read (Elt Ideal) G (ix3 (1 : Fin 4) r 0) := by
  refine View.ld_unit_apply_of (v.read (Elt Ideal) G) _ _ _ _ _ fun a => ?_
  match a with
  | ⟨0, _⟩ => rfl
  | ⟨1, _⟩ => exact (Nat.zero_add _).symm
  | ⟨2, _⟩ => rfl

theorem acc_read1 (r e : Fin 256) (v : View sig .tc .vmem S4x256x256 .f32) (G : v.ty.Contents (Elt Ideal)) :
    (View.readAt (Elt Ideal) v (Rect.unit (s := S4x256x256) ![1, 0, 0] S1x256x256.size inb_S4x256x256_S1x256x256_1_0_0).toLoadRect G) (ix3 0 r e)
      = v.read (Elt Ideal) G (ix3 (1 : Fin 4) r e) := by
  refine View.ld_unit_apply_of (v.read (Elt Ideal) G) _ _ _ _ _ fun a => ?_
  match a with
  | ⟨0, _⟩ => rfl
  | ⟨1, _⟩ => exact (Nat.zero_add _).symm
  | ⟨2, _⟩ => exact (Nat.zero_add _).symm

theorem q_read2 (r : Fin 256) (d : Fin 512) : (View.readAt (Elt Ideal) arg2.view (Rect.unit (s := S256x2048) ![0, 1024] S256x512.size inb_S256x2048_S256x512_0_1024).toLoadRect X_arg2) (ix2 r d)
    = arg2.view.read (Elt Ideal) X_arg2 (ix2 r ⟨512 * ((2 : Fin 4) : Fin 4).val + d.val, by have : ((2 : Fin 4)).val = 2 := rfl; omega⟩) := by
  refine View.ld_unit_apply_of (arg2.view.read (Elt Ideal) X_arg2) _ _ _ _ _ fun a => ?_
  match a with
  | ⟨0, _⟩ => exact (Nat.zero_add _).symm
  | ⟨1, _⟩ => rfl

theorem st_read2 (r : Fin 256) (v : View sig .tc .vmem S4x256x1 .f32) (G : v.ty.Contents (Elt Ideal)) :
    (View.readAt (Elt Ideal) v (Rect.unit (s := S4x256x1) ![2, 0, 0] S1x256x1.size inb_S4x256x1_S1x256x1_2_0_0).toLoadRect G) (ix3 0 r 0)
      = v.read (Elt Ideal) G (ix3 (2 : Fin 4) r 0) := by
  refine View.ld_unit_apply_of (v.read (Elt Ideal) G) _ _ _ _ _ fun a => ?_
  match a with
  | ⟨0, _⟩ => rfl
  | ⟨1, _⟩ => exact (Nat.zero_add _).symm
  | ⟨2, _⟩ => rfl

theorem acc_read2 (r e : Fin 256) (v : View sig .tc .vmem S4x256x256 .f32) (G : v.ty.Contents (Elt Ideal)) :
    (View.readAt (Elt Ideal) v (Rect.unit (s := S4x256x256) ![2, 0, 0] S1x256x256.size inb_S4x256x256_S1x256x256_2_0_0).toLoadRect G) (ix3 0 r e)
      = v.read (Elt Ideal) G (ix3 (2 : Fin 4) r e) := by
  refine View.ld_unit_apply_of (v.read (Elt Ideal) G) _ _ _ _ _ fun a => ?_
  match a with
  | ⟨0, _⟩ => rfl
  | ⟨1, _⟩ => exact (Nat.zero_add _).symm
  | ⟨2, _⟩ => exact (Nat.zero_add _).symm

theorem q_read3 (r : Fin 256) (d : Fin 512) : (View.readAt (Elt Ideal) arg2.view (Rect.unit (s := S256x2048) ![0, 1536] S256x512.size inb_S256x2048_S256x512_0_1536).toLoadRect X_arg2) (ix2 r d)
    = arg2.view.read (Elt Ideal) X_arg2 (ix2 r ⟨512 * ((3 : Fin 4) : Fin 4).val + d.val, by have : ((3 : Fin 4)).val = 3 := rfl; omega⟩) := by
  refine View.ld_unit_apply_of (arg2.view.read (Elt Ideal) X_arg2) _ _ _ _ _ fun a => ?_
  match a with
  | ⟨0, _⟩ => exact (Nat.zero_add _).symm
  | ⟨1, _⟩ => rfl

theorem st_read3 (r : Fin 256) (v : View sig .tc .vmem S4x256x1 .f32) (G : v.ty.Contents (Elt Ideal)) :
    (View.readAt (Elt Ideal) v (Rect.unit (s := S4x256x1) ![3, 0, 0] S1x256x1.size inb_S4x256x1_S1x256x1_3_0_0).toLoadRect G) (ix3 0 r 0)
      = v.read (Elt Ideal) G (ix3 (3 : Fin 4) r 0) := by
  refine View.ld_unit_apply_of (v.read (Elt Ideal) G) _ _ _ _ _ fun a => ?_
  match a with
  | ⟨0, _⟩ => rfl
  | ⟨1, _⟩ => exact (Nat.zero_add _).symm
  | ⟨2, _⟩ => rfl

theorem acc_read3 (r e : Fin 256) (v : View sig .tc .vmem S4x256x256 .f32) (G : v.ty.Contents (Elt Ideal)) :
    (View.readAt (Elt Ideal) v (Rect.unit (s := S4x256x256) ![3, 0, 0] S1x256x256.size inb_S4x256x256_S1x256x256_3_0_0).toLoadRect G) (ix3 0 r e)
      = v.read (Elt Ideal) G (ix3 (3 : Fin 4) r e) := by
  refine View.ld_unit_apply_of (v.read (Elt Ideal) G) _ _ _ _ _ fun a => ?_
  match a with
  | ⟨0, _⟩ => rfl
  | ⟨1, _⟩ => exact (Nat.zero_add _).symm
  | ⟨2, _⟩ => exact (Nat.zero_add _).symm

set_option maxHeartbeats 2000000 in
/-- **One trip**: the running values over 512 more keys. -/
theorem trip_st
    (H : St (arg2.view.read (Elt Ideal) X_arg2) (arg3.view.read (Elt Ideal) X_arg3) (i 1).val (512 * k.val) (arg10.view.read (Elt Ideal) G_arg10) (arg11.view.read (Elt Ideal) G_arg11) (arg12.view.read (Elt Ideal) G_arg12)) :
    St (arg2.view.read (Elt Ideal) X_arg2) (arg3.view.read (Elt Ideal) X_arg3) (i 1).val (512 * k.val + 512)
      (arg10.view.read (Elt Ideal) (arg10.view.writes (Elt Ideal) G_arg10 ((trip_k0_t1 (F := Ideal) 𝒱 c bd i arg2 harg2 arg3 harg3 arg4 harg4 arg5 harg5 arg6 harg6 arg7 harg7 arg8 harg8 arg9 harg9 arg10 harg10 arg11 harg11 arg12 harg12 (k0_pay81 i) (iota Kind.tc S256x512 32 [1] iota_S256x512_d1_w32) v20 c512_i32_12 v21 v32 X_arg2 X_arg3 k).1 G_arg10 G_arg11 G_arg12)))
      (arg11.view.read (Elt Ideal) (arg11.view.writes (Elt Ideal) G_arg11 ((trip_k0_t1 (F := Ideal) 𝒱 c bd i arg2 harg2 arg3 harg3 arg4 harg4 arg5 harg5 arg6 harg6 arg7 harg7 arg8 harg8 arg9 harg9 arg10 harg10 arg11 harg11 arg12 harg12 (k0_pay81 i) (iota Kind.tc S256x512 32 [1] iota_S256x512_d1_w32) v20 c512_i32_12 v21 v32 X_arg2 X_arg3 k).2.1 G_arg10 G_arg11 G_arg12)))
      (arg12.view.read (Elt Ideal) (arg12.view.writes (Elt Ideal) G_arg12 ((trip_k0_t1 (F := Ideal) 𝒱 c bd i arg2 harg2 arg3 harg3 arg4 harg4 arg5 harg5 arg6 harg6 arg7 harg7 arg8 harg8 arg9 harg9 arg10 harg10 arg11 harg11 arg12 harg12 (k0_pay81 i) (iota Kind.tc S256x512 32 [1] iota_S256x512_d1_w32) v20 c512_i32_12 v21 v32 X_arg2 X_arg3 k).2.2.1 G_arg10 G_arg11 G_arg12))) := by
  obtain ⟨Hm, Hl, Ha⟩ := H
  have s0 := fun r => trip_score i k (arg2.view.read (Elt Ideal) X_arg2) (arg3.view.read (Elt Ideal) X_arg3) 0 r (View.readAt (Elt Ideal) arg3.view (Rect.unit (s := S1x2048x512) (k0_off1 i k) S1x512x512.size (k0_off1_inb i k)).toLoadRect X_arg3) (View.readAt (Elt Ideal) arg2.view (Rect.unit (s := S256x2048) ![0, 0] S256x512.size inb_S256x2048_S256x512_0_0).toLoadRect X_arg2)
    (q_read0 arg2 X_arg2 r) (key_read i arg3 X_arg3 k)
  have m0 := fun r => (st_read0 r arg11.view G_arg11).trans (Hm 0 r)
  have l0 := fun r => (st_read0 r arg12.view G_arg12).trans (Hl 0 r)
  have a0 := fun r e => (acc_read0 r e arg10.view G_arg10).trans (Ha 0 r e)
  have s1 := fun r => trip_score i k (arg2.view.read (Elt Ideal) X_arg2) (arg3.view.read (Elt Ideal) X_arg3) 1 r (View.readAt (Elt Ideal) arg3.view (Rect.unit (s := S1x2048x512) (k0_off1 i k) S1x512x512.size (k0_off1_inb i k)).toLoadRect X_arg3) (View.readAt (Elt Ideal) arg2.view (Rect.unit (s := S256x2048) ![0, 512] S256x512.size inb_S256x2048_S256x512_0_512).toLoadRect X_arg2)
    (q_read1 arg2 X_arg2 r) (key_read i arg3 X_arg3 k)
  have m1 := fun r => (st_read1 r arg11.view G_arg11).trans (Hm 1 r)
  have l1 := fun r => (st_read1 r arg12.view G_arg12).trans (Hl 1 r)
  have a1 := fun r e => (acc_read1 r e arg10.view G_arg10).trans (Ha 1 r e)
  have s2 := fun r => trip_score i k (arg2.view.read (Elt Ideal) X_arg2) (arg3.view.read (Elt Ideal) X_arg3) 2 r (View.readAt (Elt Ideal) arg3.view (Rect.unit (s := S1x2048x512) (k0_off1 i k) S1x512x512.size (k0_off1_inb i k)).toLoadRect X_arg3) (View.readAt (Elt Ideal) arg2.view (Rect.unit (s := S256x2048) ![0, 1024] S256x512.size inb_S256x2048_S256x512_0_1024).toLoadRect X_arg2)
    (q_read2 arg2 X_arg2 r) (key_read i arg3 X_arg3 k)
  have m2 := fun r => (st_read2 r arg11.view G_arg11).trans (Hm 2 r)
  have l2 := fun r => (st_read2 r arg12.view G_arg12).trans (Hl 2 r)
  have a2 := fun r e => (acc_read2 r e arg10.view G_arg10).trans (Ha 2 r e)
  have s3 := fun r => trip_score i k (arg2.view.read (Elt Ideal) X_arg2) (arg3.view.read (Elt Ideal) X_arg3) 3 r (View.readAt (Elt Ideal) arg3.view (Rect.unit (s := S1x2048x512) (k0_off1 i k) S1x512x512.size (k0_off1_inb i k)).toLoadRect X_arg3) (View.readAt (Elt Ideal) arg2.view (Rect.unit (s := S256x2048) ![0, 1536] S256x512.size inb_S256x2048_S256x512_0_1536).toLoadRect X_arg2)
    (q_read3 arg2 X_arg2 r) (key_read i arg3 X_arg3 k)
  have m3 := fun r => (st_read3 r arg11.view G_arg11).trans (Hm 3 r)
  have l3 := fun r => (st_read3 r arg12.view G_arg12).trans (Hl 3 r)
  have a3 := fun r e => (acc_read3 r e arg10.view G_arg10).trans (Ha 3 r e)
  refine ⟨fun h r => ?_, fun h r => ?_, fun h r e => ?_⟩
  · unfold trip_k0_t1
    dsimp only
    sl_unfold_words
    refine read4_s arg11.view G_arg11 _ _ _ _ _ _ _ _
      (fun h => mx (rowScore _ _ (i 1).val h r) (512 * k.val + 512)) r ?_ ?_ ?_ ?_ h
    · exact pay_m (s0 r) (m0 r)
    · exact pay_m (s1 r) (m1 r)
    · exact pay_m (s2 r) (m2 r)
    · exact pay_m (s3 r) (m3 r)
  · unfold trip_k0_t1
    dsimp only
    sl_unfold_words
    refine read4_s arg12.view G_arg12 _ _ _ _ _ _ _ _
      (fun h => den (rowScore _ _ (i 1).val h r) (512 * k.val + 512) (mx (rowScore _ _ (i 1).val h r) (512 * k.val + 512))) r ?_ ?_ ?_ ?_ h
    · exact pay_l (s0 r) (m0 r) (l0 r)
    · exact pay_l (s1 r) (m1 r) (l1 r)
    · exact pay_l (s2 r) (m2 r) (l2 r)
    · exact pay_l (s3 r) (m3 r) (l3 r)
  · unfold trip_k0_t1
    dsimp only
    sl_unfold_words
    refine read4_a arg10.view G_arg10 _ _ _ _ _ _ _ _
      (fun h => num (rowScore _ _ (i 1).val h r) (rowVal _ e) (512 * k.val + 512) (mx (rowScore _ _ (i 1).val h r) (512 * k.val + 512))) r e ?_ ?_ ?_ ?_ h
    · exact pay_a (s0 r) (m0 r) (a0 r e) (fun x => key_read i arg3 X_arg3 k x _)
    · exact pay_a (s1 r) (m1 r) (a1 r e) (fun x => key_read i arg3 X_arg3 k x _)
    · exact pay_a (s2 r) (m2 r) (a2 r e) (fun x => key_read i arg3 X_arg3 k x _)
    · exact pay_a (s3 r) (m3 r) (a3 r e) (fun x => key_read i arg3 X_arg3 k x _)
end

end Cert.KernelIdeal.Val
-- ==== Proof.Loop.lean ====
module
public import proofs.«01_k».proof.Proof.Trip
public import Idealize.ShloMosaic.Lib.VecWindow
@[expose] public section
set_option maxRecDepth 16384
noncomputable section

/-!
# The flash loop

By induction over the trips: after `n` trips the scratch buffers hold the running values over the first `512 * n` keys; and
the trips run reach past the diagonal of the query tile.
-/
namespace Cert.KernelIdeal.Val
open Cert.KernelIdeal Cert.KernelIdeal.Gen Cert.Attn Idealize.ShloMosaic Idealize.ShloMosaic.TcCoe Idealize.SL.Sem

/-- The trips run cover every key at or before the tile's last query. -/
theorem trips_ge (i : grid0.Coords) : 256 * (i 1).val + 256 ≤ 512 * (k0_t1_loop i).trips := by
  have r : (i 1).val < 8 := (i 1).isLt
  unfold k0_t1_loop
  dsimp only
  generalize (i 1).val = b at *
  interval_cases b <;> decide

/-- The buffers as the body first fills them: nothing seen yet. -/
theorem st_zero (Q : FVec Ideal S256x2048 .bf16) (K : FVec Ideal S1x2048x512 .bf16) (b : ℕ) :
    St Q K b 0 (k0_pay78 (F := Ideal)) (k0_pay79 (F := Ideal)) (k0_pay80 (F := Ideal)) := by
  refine ⟨fun h r => ?_, fun h r => ?_, fun h r e => ?_⟩
  · pointwise [k0_pay79]
    simp [mx, mask_named]
  · pointwise [k0_pay80]
    simp [den]
  · pointwise [k0_pay78]
    simp [num]

section
variable (𝒱 : Variants) (c : Dev nD) (bd : Option 𝒱.V) (i : grid0.Coords) (arg2 : Memref sig .tc .vmem S256x2048 .bf16) (harg2 : arg2.IsWhole) (arg3 : Memref sig .tc .vmem S1x2048x512 .bf16) (harg3 : arg3.IsWhole) (arg4 : Memref sig .tc .vmem S256x1024 .f32) (harg4 : arg4.IsWhole) (arg5 : Memref sig .tc .vmem S256x512 .bf16) (harg5 : arg5.IsWhole) (arg6 : Memref sig .tc .vmem S4x256x128 .bf16) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S4x256x256 .f32) (harg10 : arg10.IsWhole) (arg11 : Memref sig .tc .vmem S4x256x1 .f32) (harg11 : arg11.IsWhole) (arg12 : Memref sig .tc .vmem S4x256x1 .f32) (harg12 : arg12.IsWhole) (v20 : BitVec 32) (c512_i32_12 : BitVec 32) (v21 : BitVec 32) (v32 : BitVec 1) (X_arg2 : BufTy.Contents (Elt Ideal) arg2.view.ty) (X_arg3 : BufTy.Contents (Elt Ideal) arg3.view.ty) (G_arg10 : BufTy.Contents (Elt Ideal) arg10.view.ty) (G_arg11 : BufTy.Contents (Elt Ideal) arg11.view.ty) (G_arg12 : BufTy.Contents (Elt Ideal) arg12.view.ty)
set_option maxHeartbeats 2000000 in
/-- **The loop**: after `n` trips the running values over the first `512 * n` keys. -/
theorem loop_st (H : St (arg2.view.read (Elt Ideal) X_arg2) (arg3.view.read (Elt Ideal) X_arg3) (i 1).val 0 (arg10.view.read (Elt Ideal) G_arg10) (arg11.view.read (Elt Ideal) G_arg11) (arg12.view.read (Elt Ideal) G_arg12)) :
    ∀ n : ℕ, n ≤ (k0_t1_loop i).trips → St (arg2.view.read (Elt Ideal) X_arg2) (arg3.view.read (Elt Ideal) X_arg3) (i 1).val (512 * n)
      (arg10.view.read (Elt Ideal) (arg10.view.writes (Elt Ideal) G_arg10 (pb_k0_t1 (F := Ideal) 𝒱 c bd i arg2 harg2 arg3 harg3 arg4 harg4 arg5 harg5 arg6 harg6 arg7 harg7 arg8 harg8 arg9 harg9 arg10 harg10 arg11 harg11 arg12 harg12 (k0_pay81 i) (iota Kind.tc S256x512 32 [1] iota_S256x512_d1_w32) v20 c512_i32_12 v21 v32 X_arg2 X_arg3 G_arg10 G_arg11 G_arg12 n).1))
      (arg11.view.read (Elt Ideal) (arg11.view.writes (Elt Ideal) G_arg11 (pb_k0_t1 (F := Ideal) 𝒱 c bd i arg2 harg2 arg3 harg3 arg4 harg4 arg5 harg5 arg6 harg6 arg7 harg7 arg8 harg8 arg9 harg9 arg10 harg10 arg11 harg11 arg12 harg12 (k0_pay81 i) (iota Kind.tc S256x512 32 [1] iota_S256x512_d1_w32) v20 c512_i32_12 v21 v32 X_arg2 X_arg3 G_arg10 G_arg11 G_arg12 n).2.1))
      (arg12.view.read (Elt Ideal) (arg12.view.writes (Elt Ideal) G_arg12 (pb_k0_t1 (F := Ideal) 𝒱 c bd i arg2 harg2 arg3 harg3 arg4 harg4 arg5 harg5 arg6 harg6 arg7 harg7 arg8 harg8 arg9 harg9 arg10 harg10 arg11 harg11 arg12 harg12 (k0_pay81 i) (iota Kind.tc S256x512 32 [1] iota_S256x512_d1_w32) v20 c512_i32_12 v21 v32 X_arg2 X_arg3 G_arg10 G_arg11 G_arg12 n).2.2))
  | 0, _ => H
  | n + 1, hn => by
    have ih := loop_st H n (by omega)
    have t := trip_st 𝒱 c bd i arg2 harg2 arg3 harg3 arg4 harg4 arg5 harg5 arg6 harg6 arg7 harg7 arg8 harg8 arg9 harg9 arg10 harg10 arg11 harg11 arg12 harg12 v20 c512_i32_12 v21 v32 X_arg2 X_arg3 _ _ _ ⟨n, by omega⟩ ih
    have e := pb_k0_t1_succ (F := Ideal) 𝒱 c bd i arg2 harg2 arg3 harg3 arg4 harg4 arg5 harg5 arg6 harg6 arg7 harg7 arg8 harg8 arg9 harg9 arg10 harg10 arg11 harg11 arg12 harg12 (k0_pay81 i) (iota Kind.tc S256x512 32 [1] iota_S256x512_d1_w32) v20 c512_i32_12 v21 v32 X_arg2 X_arg3 G_arg10 G_arg11 G_arg12 ⟨n, by omega⟩
    dsimp only at e
    rw [e]
    simp only [View.writes_append]
    exact t
end

end Cert.KernelIdeal.Val
-- ==== Proof.Spec.lean ====
module
public import proofs.«01_k».proof.Proof.Softmax
@[expose] public section
set_option maxRecDepth 16384
noncomputable section

/-!
# Latent attention, entry by entry

The masked score of a query against a key, the softmax average of the latent rows, the heads' outputs through the value
matrix, and the entry of the layer's result after the norm, the output projection and the residual.
-/
namespace Cert.Attn
open Idealize.ShloMosaic

variable (x0 : FVec Ideal ⟨4, ![32, 2048, 4, 256]⟩ .f32) (x1 : FVec Ideal ⟨4, ![32, 2048, 4, 64]⟩ .f32)
  (x2 : FVec Ideal ⟨3, ![32, 2048, 256]⟩ .f32) (x3 : FVec Ideal ⟨3, ![32, 2048, 64]⟩ .f32)
  (x6 : FVec Ideal ⟨3, ![1, 256, 1024]⟩ .f32)

/-- The scaled score of query `q` against key `j`: the latent part and the rotary part. -/
def raw (b : Fin 32) (h : Fin 4) (q j : Fin 2048) : EReal :=
  (∑ e : Fin 256, x2 (ix3 b j e) * x0 (ix4 b q h e) + ∑ e : Fin 64, x3 (ix3 b j e) * x1 (ix4 b q h e))
    * Ideal.ofBits .f32 0x3D93CD3A#32

/-- The score with the keys after the query at `⊥`. -/
def score (b : Fin 32) (h : Fin 4) (q : Fin 2048) (j : ℕ) : EReal :=
  if j ≤ q.val then raw x0 x1 x2 x3 b h q (Fin.ofNat 2048 j) else ⊥

/-- The latent row entry `e` of the key at position `j`. -/
def latv (b : Fin 32) (e : Fin 256) (j : ℕ) : EReal := x2 (ix3 b (Fin.ofNat 2048 j) e)

/-- The softmax average of the latent rows. -/
def lat (b : Fin 32) (h : Fin 4) (q : Fin 2048) (e : Fin 256) : EReal :=
  ∑ j ∈ Finset.range 2048, Ideal.div (Ideal.exp (score x0 x1 x2 x3 b h q j - mx (score x0 x1 x2 x3 b h q) 2048))
    (den (score x0 x1 x2 x3 b h q) 2048 (mx (score x0 x1 x2 x3 b h q) 2048)) * latv x2 b e j

/-- Entry `d` of the heads' outputs side by side (128 entries a head). -/
def att (b : Fin 32) (q : Fin 2048) (d : Fin 512) : EReal :=
  ∑ e : Fin 256, lat x0 x1 x2 x3 b ⟨d.val / 128, by omega⟩ q e
    * x6 (ix3 0 e ⟨d.val / 128 * 256 + 128 + d.val % 128, by omega⟩)

/-- An entry of the result from the row `y` of heads' outputs. -/
def outEntry (y : Fin 512 → EReal) (x : EReal) (yr on wa wb : Fin 512 → EReal) : EReal :=
  x + ∑ d, yr d * wa d
    + ∑ d, y d * Ideal.rsqrt (Ideal.div (∑ t, y t * y t) (Ideal.ofBits .f32 0x44000000#32) + Ideal.ofBits .f32 0x3727C5AC#32)
        * on d * wb d

end Cert.Attn
-- ==== Proof.Body.lean ====
module
public import proofs.«01_k».proof.Proof.Loop
public import proofs.«01_k».proof.Proof.Spec
@[expose] public section
set_option maxRecDepth 16384
noncomputable section

/-!
# What one grid point computes

A tile of 256 query rows: each head's softmax average of the latent rows, sent through the head's value matrix, the four
heads side by side; the root-mean-square norm; both halves of the output projection; the residual row.
-/
namespace Cert.KernelIdeal.Val
open Cert.KernelIdeal Cert.KernelIdeal.Gen Cert.Attn Idealize.ShloMosaic Idealize.ShloMosaic.TcCoe Idealize.SL.Sem

/-- The softmax average of the latent rows, entry `e`, for row `r` and head `h`: over all 2048 keys, the masked ones at `⊥`. -/
def headAvg (Q : FVec Ideal S256x2048 .bf16) (K : FVec Ideal S1x2048x512 .bf16) (b : ℕ) (h : Fin 4) (r e : Fin 256) : EReal :=
  Ideal.div (num (rowScore Q K b h r) (rowVal K e) 2048 (mx (rowScore Q K b h r) 2048))
    (den (rowScore Q K b h r) 2048 (mx (rowScore Q K b h r) 2048))

/-- Entry `d` of the heads' outputs side by side (128 entries a head). -/
def heads (Q : FVec Ideal S256x2048 .bf16) (K : FVec Ideal S1x2048x512 .bf16) (wv : FVec Ideal S4x256x128 .bf16) (b : ℕ)
    (r : Fin 256) (d : Fin 512) : EReal :=
  ∑ e : Fin 256, headAvg Q K b ⟨d.val / 128, by omega⟩ r e * wv (ix3 ⟨d.val / 128, by omega⟩ e ⟨d.val % 128, by omega⟩)

theorem pay_y (a0 a1 a2 a3 : FVec Ideal S1x256x256 .f32) (l0 l1 l2 l3 : FVec Ideal S1x256x1 .f32)
    (w0 w1 w2 w3 : FVec Ideal S1x256x128 .bf16) (r : Fin 256) (g : Fin 4 → Fin 256 → EReal) (w : FVec Ideal S4x256x128 .bf16)
    (h0 : ∀ e, Ideal.div (a0 (ix3 0 r e)) (l0 (ix3 0 r 0)) = g 0 e) (h1 : ∀ e, Ideal.div (a1 (ix3 0 r e)) (l1 (ix3 0 r 0)) = g 1 e)
    (h2 : ∀ e, Ideal.div (a2 (ix3 0 r e)) (l2 (ix3 0 r 0)) = g 2 e) (h3 : ∀ e, Ideal.div (a3 (ix3 0 r e)) (l3 (ix3 0 r 0)) = g 3 e)
    (e0 : ∀ e d, w0 (ix3 0 e d) = w (ix3 0 e d)) (e1 : ∀ e d, w1 (ix3 0 e d) = w (ix3 1 e d))
    (e2 : ∀ e d, w2 (ix3 0 e d) = w (ix3 2 e d)) (e3 : ∀ e d, w3 (ix3 0 e d) = w (ix3 3 e d)) (d : Fin 512) :
    k0_pay94 (F := Ideal) (k0_pay88 a0 l0) (k0_pay89 a1 l1) (k0_pay90 a2 l2) (k0_pay91 a3) l3 w0 w1 w2 w3 (ix2 r d)
      = ∑ e : Fin 256, g ⟨d.val / 128, by omega⟩ e * w (ix3 ⟨d.val / 128, by omega⟩ e ⟨d.val % 128, by omega⟩) := by
  pointwise [k0_pay94, k0_pay88, k0_pay89, k0_pay90, k0_pay91]
  have hd := d.isLt
  split
  · next h =>
    have q : (⟨d.val / 128, by omega⟩ : Fin 4) = 0 := Fin.ext (by simp; omega)
    have q' : (⟨d.val, h⟩ : Fin 128) = ⟨d.val % 128, by omega⟩ := Fin.ext (by simp; omega)
    simp only [q, q', h0, e0]
  split
  · next h h' =>
    have q : (⟨d.val / 128, by omega⟩ : Fin 4) = 1 := Fin.ext (by simp; omega)
    have q' : (⟨d.val - 128, h'⟩ : Fin 128) = ⟨d.val % 128, by omega⟩ := Fin.ext (by simp; omega)
    simp only [q, q', h1, e1]
  split
  · next h h' h'' =>
    have q : (⟨d.val / 128, by omega⟩ : Fin 4) = 2 := Fin.ext (by simp; omega)
    have q' : (⟨d.val - 128 - 128, h''⟩ : Fin 128) = ⟨d.val % 128, by omega⟩ := Fin.ext (by simp; omega)
    simp only [q, q', h2, e2]
  · next h h' h'' =>
    have q : (⟨d.val / 128, by omega⟩ : Fin 4) = 3 := Fin.ext (by simp; omega)
    have q' : (⟨d.val - 128 - 128 - 128, by omega⟩ : Fin 128) = ⟨d.val % 128, by omega⟩ := Fin.ext (by simp; omega)
    simp only [q, q', h3, e3]

theorem pay_z (a0 a1 a2 : FVec Ideal S256x256 .f32) (a3 : FVec Ideal S256x256 .f32) (l3 : FVec Ideal S1x256x1 .f32)
    (w0 w1 w2 w3 : FVec Ideal S1x256x128 .bf16) (r : Fin 256) :
    k0_pay96 (F := Ideal) a0 a1 a2 a3 l3 w0 w1 w2 w3 (ix2 r 0)
      = Ideal.div (∑ t : Fin 512, k0_pay94 (F := Ideal) a0 a1 a2 a3 l3 w0 w1 w2 w3 (ix2 r t) * k0_pay94 (F := Ideal) a0 a1 a2 a3 l3 w0 w1 w2 w3 (ix2 r t))
          (Ideal.ofBits .f32 0x44000000#32) := by
  pointwise [k0_pay96]

theorem pay_out (x : FVec Ideal S256x1024 .f32) (yr : FVec Ideal S256x512 .bf16) (Y : FVec Ideal S256x512 .f32) (on : FVec Ideal S1x512 .f32)
    (z : FVec Ideal S256x1 .f32) (eps : Ideal .f32) (w1 w2 : FVec Ideal S512x1024 .bf16) (r : Fin 256) (c : Fin 1024) :
    k0_pay1 (F := Ideal) (k0_pay92 x) (k0_pay93 yr) Y (k0_pay95 on) z eps w1 w2 (ix2 r c)
      = x (ix2 r c) + ∑ d : Fin 512, yr (ix2 r d) * w1 (ix2 d c) +
        ∑ d : Fin 512, Y (ix2 r d) * Ideal.rsqrt (z (ix2 r 0) + eps) * on (ix2 0 d) * w2 (ix2 d c) := by
  pointwise [k0_pay1, k0_pay92, k0_pay93, k0_pay95]

/-- The result entry, once the row of heads' outputs and the loaded rows are known. -/
theorem out_of {Y : FVec Ideal S256x512 .f32} {z : FVec Ideal S256x1 .f32} {x : FVec Ideal S256x1024 .f32} {yr : FVec Ideal S256x512 .bf16}
    {on : FVec Ideal S1x512 .f32} {w1 w2 : FVec Ideal S512x1024 .bf16} {r : Fin 256} {col : Fin 1024}
    {y : Fin 512 → EReal} {x' : EReal} {yr' on' wa wb : Fin 512 → EReal}
    (hy : ∀ d, Y (ix2 r d) = y d) (hz : z (ix2 r 0) = Ideal.div (∑ t, Y (ix2 r t) * Y (ix2 r t)) (Ideal.ofBits .f32 0x44000000#32))
    (hx : x (ix2 r col) = x') (hr : ∀ d, yr (ix2 r d) = yr' d) (ho : ∀ d, on (ix2 0 d) = on' d)
    (ha : ∀ d, w1 (ix2 d col) = wa d) (hb : ∀ d, w2 (ix2 d col) = wb d) :
    k0_pay1 (F := Ideal) (k0_pay92 x) (k0_pay93 yr) Y (k0_pay95 on) z (FloatOps.ofBits .f32 925353388#32) w1 w2 (ix2 r col)
      = outEntry y x' yr' on' wa wb := by
  rw [pay_out, hz]
  simp only [hy, hx, hr, ho, ha, hb]
  rfl

theorem score_masked (Q : FVec Ideal S256x2048 .bf16) (K : FVec Ideal S1x2048x512 .bf16) (i : grid0.Coords) (h : Fin 4) (r : Fin 256)
    (j : ℕ) (hj : 512 * (k0_t1_loop i).trips ≤ j) : rowScore Q K (i 1).val h r j = ⊥ := by
  have := trips_ge i
  exact if_neg (by omega)

/-- With the running values over the keys visited, weighted sum over sum of exponentials is the average over all keys. -/
theorem div_st {Q : FVec Ideal S256x2048 .bf16} {K : FVec Ideal S1x2048x512 .bf16} {i : grid0.Coords}
    {A : FVec Ideal S4x256x256 .f32} {M L : FVec Ideal S4x256x1 .f32} (H : St Q K (i 1).val (512 * (k0_t1_loop i).trips) A M L)
    (h : Fin 4) (r e : Fin 256) : Ideal.div (A (ix3 h r e)) (L (ix3 h r 0)) = headAvg Q K (i 1).val h r e := by
  have hn : 512 * (k0_t1_loop i).trips ≤ 2048 := by have := (k0_t1_abs i).2.1; omega
  have hm : ∀ j, 512 * (k0_t1_loop i).trips ≤ j → j < 2048 → rowScore Q K (i 1).val h r j = ⊥ := fun j hj _ =>
    score_masked Q K i h r j hj
  unfold headAvg
  rw [H.a, H.l, mx_masked _ hn hm, num_masked _ _ hn hm, den_masked _ hn hm]

theorem wv_read0 (v : View sig .tc .vmem S4x256x128 .bf16) (G : v.ty.Contents (Elt Ideal)) (e : Fin 256) (d : Fin 128) :
    (View.readAt (Elt Ideal) v (Rect.unit (s := S4x256x128) ![0, 0, 0] S1x256x128.size inb_S4x256x128_S1x256x128_0_0_0).toLoadRect G) (ix3 0 e d)
      = v.read (Elt Ideal) G (ix3 (0 : Fin 4) e d) := by
  refine View.ld_unit_apply_of (v.read (Elt Ideal) G) _ _ _ _ _ fun a => ?_
  match a with
  | ⟨0, _⟩ => rfl
  | ⟨1, _⟩ => exact (Nat.zero_add _).symm
  | ⟨2, _⟩ => exact (Nat.zero_add _).symm

theorem wv_read1 (v : View sig .tc .vmem S4x256x128 .bf16) (G : v.ty.Contents (Elt Ideal)) (e : Fin 256) (d : Fin 128) :
    (View.readAt (Elt Ideal) v (Rect.unit (s := S4x256x128) ![1, 0, 0] S1x256x128.size inb_S4x256x128_S1x256x128_1_0_0).toLoadRect G) (ix3 0 e d)
      = v.read (Elt Ideal) G (ix3 (1 : Fin 4) e d) := by
  refine View.ld_unit_apply_of (v.read (Elt Ideal) G) _ _ _ _ _ fun a => ?_
  match a with
  | ⟨0, _⟩ => rfl
  | ⟨1, _⟩ => exact (Nat.zero_add _).symm
  | ⟨2, _⟩ => exact (Nat.zero_add _).symm

theorem wv_read2 (v : View sig .tc .vmem S4x256x128 .bf16) (G : v.ty.Contents (Elt Ideal)) (e : Fin 256) (d : Fin 128) :
    (View.readAt (Elt Ideal) v (Rect.unit (s := S4x256x128) ![2, 0, 0] S1x256x128.size inb_S4x256x128_S1x256x128_2_0_0).toLoadRect G) (ix3 0 e d)
      = v.read (Elt Ideal) G (ix3 (2 : Fin 4) e d) := by
  refine View.ld_unit_apply_of (v.read (Elt Ideal) G) _ _ _ _ _ fun a => ?_
  match a with
  | ⟨0, _⟩ => rfl
  | ⟨1, _⟩ => exact (Nat.zero_add _).symm
  | ⟨2, _⟩ => exact (Nat.zero_add _).symm

theorem wv_read3 (v : View sig .tc .vmem S4x256x128 .bf16) (G : v.ty.Contents (Elt Ideal)) (e : Fin 256) (d : Fin 128) :
    (View.readAt (Elt Ideal) v (Rect.unit (s := S4x256x128) ![3, 0, 0] S1x256x128.size inb_S4x256x128_S1x256x128_3_0_0).toLoadRect G) (ix3 0 e d)
      = v.read (Elt Ideal) G (ix3 (3 : Fin 4) e d) := by
  refine View.ld_unit_apply_of (v.read (Elt Ideal) G) _ _ _ _ _ fun a => ?_
  match a with
  | ⟨0, _⟩ => rfl
  | ⟨1, _⟩ => exact (Nat.zero_add _).symm
  | ⟨2, _⟩ => exact (Nat.zero_add _).symm

theorem wo_reada (v : View sig .tc .vmem S1024x1024 .bf16) (G : v.ty.Contents (Elt Ideal)) (d : Fin 512) (c : Fin 1024) :
    (View.readAt (Elt Ideal) v (Rect.unit (s := S1024x1024) ![0, 0] ![512, 1024] inb_S1024x1024_S512x1024_0_0).toLoadRect G) (ix2 d c)
      = v.read (Elt Ideal) G (ix2 ⟨d.val, by omega⟩ c) := by
  refine View.ld_unit_apply_of (v.read (Elt Ideal) G) _ _ _ _ _ fun a => ?_
  match a with
  | ⟨0, _⟩ => exact (Nat.zero_add _).symm
  | ⟨1, _⟩ => exact (Nat.zero_add _).symm

theorem wo_readb (v : View sig .tc .vmem S1024x1024 .bf16) (G : v.ty.Contents (Elt Ideal)) (d : Fin 512) (c : Fin 1024) :
    (View.readAt (Elt Ideal) v (Rect.unit (s := S1024x1024) ![512, 0] ![512, 1024] inb_S1024x1024_S512x1024_512_0).toLoadRect G) (ix2 d c)
      = v.read (Elt Ideal) G (ix2 ⟨512 + d.val, by omega⟩ c) := by
  refine View.ld_unit_apply_of (v.read (Elt Ideal) G) _ _ _ _ _ fun a => ?_
  match a with
  | ⟨0, _⟩ => rfl
  | ⟨1, _⟩ => exact (Nat.zero_add _).symm

set_option maxHeartbeats 2000000 in
/-- **The tile**: what the body leaves in the result's window, entry by entry. -/
theorem out_apply  (c : Dev nD) (i : grid0.Coords) (arg2 : Memref sig .tc .vmem S256x2048 .bf16) (harg2 : arg2.IsWhole) (arg3 : Memref sig .tc .vmem S1x2048x512 .bf16) (harg3 : arg3.IsWhole) (arg4 : Memref sig .tc .vmem S256x1024 .f32) (harg4 : arg4.IsWhole) (arg5 : Memref sig .tc .vmem S256x512 .bf16) (harg5 : arg5.IsWhole) (arg6 : Memref sig .tc .vmem S4x256x128 .bf16) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S4x256x256 .f32) (harg10 : arg10.IsWhole) (arg11 : Memref sig .tc .vmem S4x256x1 .f32) (harg11 : arg11.IsWhole) (arg12 : Memref sig .tc .vmem S4x256x1 .f32) (harg12 : arg12.IsWhole)
    (x0 : Vec Ideal S256x2048 .bf16) (x1 : Vec Ideal S1x2048x512 .bf16) (x2 : Vec Ideal S256x1024 .f32) (x3 : Vec Ideal S256x512 .bf16) (x4 : Vec Ideal S4x256x128 .bf16) (x5 : Vec Ideal S1x512 .f32) (x6 : Vec Ideal S1024x1024 .bf16) (r : Fin 256) (col : Fin 1024) :
    out0_A_7 (F := Ideal) c i arg2 harg2 arg3 harg3 arg4 harg4 arg5 harg5 arg6 harg6 arg7 harg7 arg8 harg8 arg9 harg9 arg10 harg10 arg11 harg11 arg12 harg12 x0 x1 x2 x3 x4 x5 x6 (ix2 r col)
      = outEntry (heads x0 x1 x4 (i 1).val r) (x2 (ix2 r col)) (fun d => x3 (ix2 r d)) (fun d => x5 (ix2 0 d))
          (fun d => x6 (ix2 ⟨d.val, by omega⟩ col)) (fun d => x6 (ix2 ⟨512 + d.val, by omega⟩ col)) := by
  unfold out0_A_7 kernelRun0_A
  dsimp only
  sl_unfold_words
  have t2 : Scf.trips (k0_t2_loop i).lb (k0_t2_loop i).ub (k0_t2_loop i).st = 0 := Nat.le_zero.mp (k0_t2_abs i).2.1
  rw [t2]
  refine (congrFun (View.read_writes_full _ _ _ _ _) _).trans ?_
  have hd : ∀ (v20 c512_i32_12 v21 : BitVec 32) (v32 : BitVec 1), _ := fun v20 c512_i32_12 v21 v32 => by
   have key := loop_st Variants.none c none i arg2 harg2 arg3 harg3 arg4 harg4 arg5 harg5 arg6 harg6 arg7 harg7 arg8 harg8 arg9 harg9 arg10 harg10 arg11 harg11 arg12 harg12 v20 c512_i32_12 v21 v32 (harg2.unread x0) (harg3.unread x1) (arg10.view.writes (Elt Ideal) arg10.view.junk [⟨Rect.unit (s := S4x256x256) ![0, 0, 0] S4x256x256.size inb_S4x256x256_S4x256x256_0_0_0, k0_pay78 (F := Ideal)⟩]) (arg11.view.writes (Elt Ideal) arg11.view.junk [⟨Rect.unit (s := S4x256x1) ![0, 0, 0] S4x256x1.size inb_S4x256x1_S4x256x1_0_0_0, k0_pay79 (F := Ideal)⟩]) (arg12.view.writes (Elt Ideal) arg12.view.junk [⟨Rect.unit (s := S4x256x1) ![0, 0, 0] S4x256x1.size inb_S4x256x1_S4x256x1_0_0_0, k0_pay80 (F := Ideal)⟩]) (by
      rw [View.read_writes_full, View.read_writes_full, View.read_writes_full]
      exact st_zero _ _ _) (k0_t1_loop i).trips le_rfl
   rw [← View.writes_append, ← View.writes_append, ← View.writes_append] at key
   rw [harg2.read_unread, harg3.read_unread] at key
   exact div_st key
  refine out_of (fun d => ?_) (pay_z _ _ _ _ _ _ _ _ _ r)
    ((congrFun (Idealize.ShloMosaic.View.readAt_full _ _ _) _).trans (congrFun (harg4.read_unread x2) _))
    (fun d => (congrFun (Idealize.ShloMosaic.View.readAt_full _ _ _) _).trans (congrFun (harg5.read_unread x3) _))
    (fun d => (congrFun (Idealize.ShloMosaic.View.readAt_full _ _ _) _).trans (congrFun (harg7.read_unread x5) _))
    (fun d => (wo_reada arg8.view _ d col).trans (congrFun (harg8.read_unread x6) _))
    (fun d => (wo_readb arg8.view _ d col).trans (congrFun (harg8.read_unread x6) _))
  exact pay_y _ _ _ _ _ _ _ _ _ _ _ _ r (fun h e => headAvg x0 x1 (i 1).val h r e) x4
    (fun e => (congrArg₂ Ideal.div (acc_read0 r e arg10.view _) (st_read0 r arg12.view _)).trans (hd _ _ _ _ 0 r e))
    (fun e => (congrArg₂ Ideal.div (acc_read1 r e arg10.view _) (st_read1 r arg12.view _)).trans (hd _ _ _ _ 1 r e))
    (fun e => (congrArg₂ Ideal.div (acc_read2 r e arg10.view _) (st_read2 r arg12.view _)).trans (hd _ _ _ _ 2 r e))
    (fun e => (congrArg₂ Ideal.div (acc_read3 r e arg10.view _) (st_read3 r arg12.view _)).trans (hd _ _ _ _ 3 r e))
    (fun e d => (wv_read0 arg6.view (harg6.unread x4) e d).trans (congrFun (harg6.read_unread x4) _))
    (fun e d => (wv_read1 arg6.view (harg6.unread x4) e d).trans (congrFun (harg6.read_unread x4) _))
    (fun e d => (wv_read2 arg6.view (harg6.unread x4) e d).trans (congrFun (harg6.read_unread x4) _))
    (fun e d => (wv_read3 arg6.view (harg6.unread x4) e d).trans (congrFun (harg6.read_unread x4) _)) d

end Cert.KernelIdeal.Val
-- ==== Proof.Host.lean ====
module
public import proofs.«01_k».proof.Proof.Body
public import proofs.«01_k».proof.Proof.Gen.KernelIdeal.Value
public import Idealize.ShloMosaic.Lib.Pipeline.ValueKit
public import Idealize.ShloMosaic.Lib.Claim
public import Idealize.ShloMosaic.Lib.StableHlo.RunRead
/-! What the host code hands to the attention call, entry by entry: the packed queries and keys, and the reshaped
    weights. -/
@[expose] public section
set_option maxRecDepth 16384
noncomputable section
namespace Cert.KernelIdeal.Val
open Cert.KernelIdeal Cert.KernelIdeal.Gen Cert.Attn Idealize.ShloMosaic Idealize.ShloMosaic.TcCoe Idealize.SL.Sem
open Idealize.ShloMosaic.Pipeline (Dat)

/-- The lanes of head `h` among the 128 rotary lanes. -/
theorem lane_mask (h : Fin 4) (e : Fin 128) :
    IntOp.andi (IntOp.cmpi CmpIPredicate.sge (BitVec.ofNat 32 e.val) (IntOp.muli (32#32) (BitVec.ofNat 32 h.val)))
        (IntOp.cmpi CmpIPredicate.slt (BitVec.ofNat 32 e.val)
          (IntOp.addi (IntOp.muli (32#32) (BitVec.ofNat 32 h.val)) 32#32)) = BitVec.ofBool (decide (e.val / 32 = h.val)) := by
  revert h e; decide +kernel

theorem packQA (A : FVec Ideal S65536x4x256 .f32) (B C : FVec Ideal S65536x4x128 .f32) (R : Fin 65536) (h : Fin 4) (e : Fin 256) :
    shapeCast S65536x2048 (truncf (F := Ideal) .bf16 (concatenate S65536x4x512 2 [⟨S65536x4x256, A⟩, ⟨S65536x4x128, B⟩, ⟨S65536x4x128, C⟩]
      concatenates_S65536x4x256_S65536x4x128_S65536x4x128_S65536x4x512_d2 : FVec Ideal S65536x4x512 .f32) bitsLt_bf16_f32)
      shapeCasts_S65536x4x512_S65536x2048 (ix2 R ⟨512 * h.val + e.val, by omega⟩) = A (ix3 R h e) := by
  pointwise []
  rw [dif_pos (by omega : (512 * h.val + e.val) % 512 < 256)]
  exact congrArg A (congrArg (ix3 R h) (Fin.ext (by simp only []; omega)))

theorem packKA (A : FVec Ideal S32x2048x256 .f32) (B C : FVec Ideal S32x2048x128 .f32) (b : Fin 32) (j : Fin 2048) (e : Fin 256) :
    truncf (F := Ideal) .bf16 (concatenate S32x2048x512 2 [⟨S32x2048x256, A⟩, ⟨S32x2048x128, B⟩, ⟨S32x2048x128, C⟩]
      concatenates_S32x2048x256_S32x2048x128_S32x2048x128_S32x2048x512_d2 : FVec Ideal S32x2048x512 .f32) bitsLt_bf16_f32 (ix3 b j ⟨e.val, by omega⟩) = A (ix3 b j e) := by
  pointwise []

theorem packQB (A : FVec Ideal S65536x4x256 .f32) (B C : FVec Ideal S65536x4x128 .f32) (R : Fin 65536) (h : Fin 4) (e : Fin 128) :
    shapeCast S65536x2048 (truncf (F := Ideal) .bf16 (concatenate S65536x4x512 2 [⟨S65536x4x256, A⟩, ⟨S65536x4x128, B⟩, ⟨S65536x4x128, C⟩]
      concatenates_S65536x4x256_S65536x4x128_S65536x4x128_S65536x4x512_d2 : FVec Ideal S65536x4x512 .f32) bitsLt_bf16_f32)
      shapeCasts_S65536x4x512_S65536x2048 (ix2 R ⟨512 * h.val + (256 + e.val), by omega⟩) = B (ix3 R h e) := by
  pointwise []
  rw [dif_neg (by omega : ¬ (512 * h.val + (256 + e.val)) % 512 < 256), dif_pos (by omega : (512 * h.val + (256 + e.val)) % 512 - 256 < 128)]
  exact congrArg B (congrArg (ix3 R h) (Fin.ext (by simp only []; omega)))

theorem packKB (A : FVec Ideal S32x2048x256 .f32) (B C : FVec Ideal S32x2048x128 .f32) (b : Fin 32) (j : Fin 2048) (e : Fin 128) :
    truncf (F := Ideal) .bf16 (concatenate S32x2048x512 2 [⟨S32x2048x256, A⟩, ⟨S32x2048x128, B⟩, ⟨S32x2048x128, C⟩]
      concatenates_S32x2048x256_S32x2048x128_S32x2048x128_S32x2048x512_d2 : FVec Ideal S32x2048x512 .f32) bitsLt_bf16_f32 (ix3 b j ⟨(256 + e.val), by omega⟩) = B (ix3 b j e) := by
  pointwise []

theorem packQC (A : FVec Ideal S65536x4x256 .f32) (B C : FVec Ideal S65536x4x128 .f32) (R : Fin 65536) (h : Fin 4) (e : Fin 128) :
    shapeCast S65536x2048 (truncf (F := Ideal) .bf16 (concatenate S65536x4x512 2 [⟨S65536x4x256, A⟩, ⟨S65536x4x128, B⟩, ⟨S65536x4x128, C⟩]
      concatenates_S65536x4x256_S65536x4x128_S65536x4x128_S65536x4x512_d2 : FVec Ideal S65536x4x512 .f32) bitsLt_bf16_f32)
      shapeCasts_S65536x4x512_S65536x2048 (ix2 R ⟨512 * h.val + (384 + e.val), by omega⟩) = C (ix3 R h e) := by
  pointwise []
  rw [dif_neg (by omega : ¬ (512 * h.val + (384 + e.val)) % 512 < 256), dif_neg (by omega : ¬ (512 * h.val + (384 + e.val)) % 512 - 256 < 128)]
  exact congrArg C (congrArg (ix3 R h) (Fin.ext (by simp only []; omega)))

theorem packKC (A : FVec Ideal S32x2048x256 .f32) (B C : FVec Ideal S32x2048x128 .f32) (b : Fin 32) (j : Fin 2048) (e : Fin 128) :
    truncf (F := Ideal) .bf16 (concatenate S32x2048x512 2 [⟨S32x2048x256, A⟩, ⟨S32x2048x128, B⟩, ⟨S32x2048x128, C⟩]
      concatenates_S32x2048x256_S32x2048x128_S32x2048x128_S32x2048x512_d2 : FVec Ideal S32x2048x512 .f32) bitsLt_bf16_f32 (ix3 b j ⟨(384 + e.val), by omega⟩) = C (ix3 b j e) := by
  pointwise []
  rw [dif_neg (by omega : ¬ (384 + e.val) < 256), dif_neg (by omega : ¬ (384 + e.val) - 256 < 128)]
  exact congrArg C (congrArg (ix3 b j) (Fin.ext (by simp only []; omega)))

variable (m : (ℓ : Loc nD τ sig) → Buf (Elt Ideal) ℓ)

/-! The nine arguments as the memory holds them. -/
abbrev in0 (c : Dev nD) : FVec Ideal S32x2048x4x256 .f32 := m (c, Proc.tc.devRef main_arg0)
abbrev in1 (c : Dev nD) : FVec Ideal S32x2048x4x64 .f32 := m (c, Proc.tc.devRef main_arg1)
abbrev in2 (c : Dev nD) : FVec Ideal S32x2048x256 .f32 := m (c, Proc.tc.devRef main_arg2)
abbrev in3 (c : Dev nD) : FVec Ideal S32x2048x64 .f32 := m (c, Proc.tc.devRef main_arg3)
abbrev in4 (c : Dev nD) : FVec Ideal S32x2048x1024 .f32 := m (c, Proc.tc.devRef main_arg4)
abbrev in5 (c : Dev nD) : FVec Ideal S32x2048x512 .bf16 := m (c, Proc.tc.devRef main_arg5)
abbrev in6 (c : Dev nD) : FVec Ideal S1x256x1024 .f32 := m (c, Proc.tc.devRef main_arg6)
abbrev in7 (c : Dev nD) : FVec Ideal S1x512 .f32 := m (c, Proc.tc.devRef main_arg7)
abbrev in8 (c : Dev nD) : FVec Ideal S1x1024x1024 .f32 := m (c, Proc.tc.devRef main_arg8)

theorem qcat_lat (c : Dev nD) (R : Fin 65536) (h : Fin 4) (e : Fin 256) :
    (show FVec Ideal S65536x2048 .bf16 from V m c main_v27) (ix2 R ⟨512 * h.val + e.val, by omega⟩)
      = in0 m c (ix4 ⟨R.val / 2048, by omega⟩ ⟨R.val % 2048, by omega⟩ h e) * Ideal.ofBits .f32 0x3D93CD3A#32 := by
  show (StableHlo.after hostOps0 _ _) _ = _
  after_reads_simp
  refine (packQA _ _ _ R h e).trans ?_
  show (StableHlo.upto hostOps0 (fun b => m (c, b)) 31 (Proc.devRef .tc main_v12)) _ = _
  after_reads_simp
  pointwise []

theorem qcat_r1 (c : Dev nD) (R : Fin 65536) (h : Fin 4) (e : Fin 128) :
    (show FVec Ideal S65536x2048 .bf16 from V m c main_v27) (ix2 R ⟨512 * h.val + (256 + e.val), by omega⟩)
      = if e.val / 32 = h.val then in1 m c (ix4 ⟨R.val / 2048, by omega⟩ ⟨R.val % 2048, by omega⟩ h ⟨e.val % 32, by omega⟩) * Ideal.ofBits .f32 0x3D93CD3A#32 else 0 := by
  show (StableHlo.after hostOps0 _ _) _ = _
  after_reads_simp
  refine (packQB _ _ _ R h e).trans ?_
  show (StableHlo.upto hostOps0 (fun b => m (c, b)) 31 (Proc.devRef .tc main_v23)) _ = _
  after_reads_simp
  pointwise []
  rw [lane_mask, Scalar.select_ofBool]
  by_cases hh : e.val / 32 = h.val
  · simp only [hh]; rfl
  · simp only [hh]; rfl

theorem qcat_r2 (c : Dev nD) (R : Fin 65536) (h : Fin 4) (e : Fin 128) :
    (show FVec Ideal S65536x2048 .bf16 from V m c main_v27) (ix2 R ⟨512 * h.val + (384 + e.val), by omega⟩)
      = if e.val / 32 = h.val then in1 m c (ix4 ⟨R.val / 2048, by omega⟩ ⟨R.val % 2048, by omega⟩ h ⟨32 + e.val % 32, by omega⟩) * Ideal.ofBits .f32 0x3D93CD3A#32 else 0 := by
  show (StableHlo.after hostOps0 _ _) _ = _
  after_reads_simp
  refine (packQC _ _ _ R h e).trans ?_
  show (StableHlo.upto hostOps0 (fun b => m (c, b)) 31 (Proc.devRef .tc main_v24)) _ = _
  after_reads_simp
  pointwise []
  rw [lane_mask, Scalar.select_ofBool]
  by_cases hh : e.val / 32 = h.val
  · simp only [hh]; rfl
  · simp only [hh]; rfl

theorem kcat_lat (c : Dev nD) (b : Fin 32) (j : Fin 2048) (e : Fin 256) :
    (show FVec Ideal S32x2048x512 .bf16 from V m c main_v37) (ix3 b j ⟨e.val, by omega⟩)
      = in2 m c (ix3 b j e) := by
  show (StableHlo.after hostOps0 _ _) _ = _
  after_reads_simp
  refine (packKA _ _ _ b j e).trans ?_
  show (StableHlo.upto hostOps0 (fun b => m (c, b)) 42 (Proc.devRef .tc main_arg2)) _ = _
  after_reads_simp

theorem kcat_r1 (c : Dev nD) (b : Fin 32) (j : Fin 2048) (e : Fin 128) :
    (show FVec Ideal S32x2048x512 .bf16 from V m c main_v37) (ix3 b j ⟨(256 + e.val), by omega⟩)
      = in3 m c (ix3 b j ⟨e.val % 32, by omega⟩) := by
  show (StableHlo.after hostOps0 _ _) _ = _
  after_reads_simp
  refine (packKB _ _ _ b j e).trans ?_
  show (StableHlo.upto hostOps0 (fun b => m (c, b)) 42 (Proc.devRef .tc main_v31)) _ = _
  after_reads_simp
  pointwise []

theorem kcat_r2 (c : Dev nD) (b : Fin 32) (j : Fin 2048) (e : Fin 128) :
    (show FVec Ideal S32x2048x512 .bf16 from V m c main_v37) (ix3 b j ⟨(384 + e.val), by omega⟩)
      = in3 m c (ix3 b j ⟨32 + e.val % 32, by omega⟩) := by
  show (StableHlo.after hostOps0 _ _) _ = _
  after_reads_simp
  refine (packKC _ _ _ b j e).trans ?_
  show (StableHlo.upto hostOps0 (fun b => m (c, b)) 42 (Proc.devRef .tc main_v35)) _ = _
  after_reads_simp
  pointwise []

theorem wv_host (c : Dev nD) (h : Fin 4) (e : Fin 256) (d : Fin 128) :
    (show FVec Ideal S4x256x128 .bf16 from V m c main_v42) (ix3 h e d) = in6 m c (ix3 0 e ⟨h.val * 256 + (128 + d.val), by omega⟩) := by
  show (StableHlo.after hostOps0 _ _) _ = _
  after_reads_simp
  pointwise []

theorem on_host (c : Dev nD) (d : Fin 512) :
    (show FVec Ideal S1x512 .f32 from V m c main_v44) (ix2 0 d) = in7 m c (ix2 0 d) := by
  show (StableHlo.after hostOps0 _ _) _ = _
  after_reads_simp
  pointwise []

theorem wo_host (c : Dev nD) (e k : Fin 1024) :
    (show FVec Ideal S1024x1024 .bf16 from V m c main_v46) (ix2 e k) = in8 m c (ix3 0 e k) := by
  show (StableHlo.after hostOps0 _ _) _ = _
  after_reads_simp
  pointwise []

theorem x_host (c : Dev nD) (R : Fin 65536) (k : Fin 1024) :
    (show FVec Ideal S65536x1024 .f32 from V m c main_v47) (ix2 R k) = in4 m c (ix3 ⟨R.val / 2048, by omega⟩ ⟨R.val % 2048, by omega⟩ k) := by
  show (StableHlo.after hostOps0 _ _) _ = _
  after_reads_simp
  pointwise []

theorem yr_host (c : Dev nD) (R : Fin 65536) (k : Fin 512) :
    (show FVec Ideal S65536x512 .bf16 from V m c main_v48) (ix2 R k) = in5 m c (ix3 ⟨R.val / 2048, by omega⟩ ⟨R.val % 2048, by omega⟩ k) := by
  show (StableHlo.after hostOps0 _ _) _ = _
  after_reads_simp
  pointwise []

end Cert.KernelIdeal.Val
-- ==== Proof.Ref.lean ====
module
public import proofs.«01_k».proof.Proof.Spec
public import proofs.«01_k».proof.Proof.Gen.ReferenceIdeal.Run
public import proofs.«01_k».proof.Proof.Gen.ReferenceIdeal.Read
public import Idealize.ShloMosaic.Lib.WordCmp
@[expose] public section
set_option maxRecDepth 16384
noncomputable section

/-!
# What the reference computes
-/
namespace Cert.ReferenceIdeal.Val
open Cert.ReferenceIdeal Cert.ReferenceIdeal.Gen Cert.ReferenceIdeal.Read Cert.Attn Idealize.ShloMosaic Idealize.ShloMosaic.TcCoe Idealize.SL.Sem

variable (x0 : FVec Ideal S32x2048x4x256 .f32) (x1 : FVec Ideal S32x2048x4x64 .f32)
  (x2 : FVec Ideal S32x2048x256 .f32) (x3 : FVec Ideal S32x2048x64 .f32) (x4 : FVec Ideal S32x2048x1024 .f32)
  (x5 : FVec Ideal S32x2048x512 .bf16) (x6 : FVec Ideal S1x256x1024 .f32) (x7 : FVec Ideal S1x512 .f32) (x8 : FVec Ideal S1x1024x1024 .f32)

theorem negInf : (FloatOps.ofBits .f32 0xFF800000#32 : Ideal .f32) = (⊥ : EReal) := by
  show Ideal.ofBits .f32 0xFF800000#32 = ⊥
  simp [Ideal.ofBits, Ideal.ieee]

theorem sup_fin (s : ℕ → EReal) (n : ℕ) : (Finset.univ.sup fun k : Fin n => s k.val) = mx s n := by
  refine le_antisymm (Finset.sup_le fun k _ => le_mx k.isLt) (Finset.sup_le fun j hj => ?_)
  exact Finset.le_sup (f := fun k : Fin n => s k.val) (Finset.mem_univ (⟨j, Finset.mem_range.1 hj⟩ : Fin n))

theorem v7_at (b : Fin 32) (h : Fin 4) (q j : Fin 2048) :
    val_main_v7 (F := Ideal) x0 x1 x2 x3 (ix4 b h q j) = raw x0 x1 x2 x3 b h q j := by
  pointwise [val_main_v7, val_main_v6, val_main_v5, val_main_v4, val_main_v3, val_main_v2, val_main_v1, val_main_cst, raw]

theorem v12_at (q j : Fin 2048) :
    val_main_v12 (F := Ideal) (ix2 q j) = if j.val ≤ q.val then 1#1 else 0#1 := by
  pointwise [val_main_v12, val_main_v11, val_main_v10, val_main_v9, val_main_v8, val_main_v0]
  rw [WordCmp.cmpi_sle_ofNat (show j.val < 2 ^ (32 - 1) by omega) (show q.val < 2 ^ (32 - 1) by omega)]
  by_cases h : j.val ≤ q.val <;> simp [h]

theorem v13_at (b : Fin 32) (h : Fin 4) (q j : Fin 2048) :
    val_main_v13 (F := Ideal) x0 x1 x2 x3 (ix4 b h q j) = score x0 x1 x2 x3 b h q j.val := by
  pointwise [val_main_v13, val_main_call0_v0, val_main_call0_v1, val_main_call0_v2, val_main_cst_0, v7_at, v12_at]
  have hj : Fin.ofNat 2048 j.val = j := Fin.ext (Nat.mod_eq_of_lt j.isLt)
  unfold score
  rw [hj]
  split
  · rfl
  · exact negInf

theorem v14_at (y : FVec Ideal S32x4x2048x2048 .f32) (b : Fin 32) (h : Fin 4) (q : Fin 2048) :
    Host.reduce FloatOps.maximumf y (constant (F := Ideal) S_ .f32 0xFF800000#32) reducesTo_S32x4x2048x2048_S32x4x2048_d3 h_S_ (ix3 b h q)
      = Finset.univ.fold max (Ideal.ofBits .f32 0xFF800000#32) fun k : Fin 2048 => y (ix4 b h q k) := by
  pointwise []

theorem v16_at (b : Fin 32) (h : Fin 4) (q : Fin 2048) :
    val_main_v16 (F := Ideal) x0 x1 x2 x3 (ix3 b h q) = mx (score x0 x1 x2 x3 b h q) 2048 := by
  rw [val_main_v16_apply, val_main_v15_apply, val_main_cst_2_apply]
  unfold val_main_v14 val_main_cst_1
  rw [v14_at]
  simp only [v13_at]
  refine Eq.trans (congrArg₂ max negInf (congrArg (fun z => Finset.fold max z _ _) negInf)) ?_
  rw [fold_max_eq_sup, max_eq_right bot_le]
  exact sup_fin _ _

theorem v20_at (b : Fin 32) (h : Fin 4) (q j : Fin 2048) :
    val_main_v20 (F := Ideal) x0 x1 x2 x3 (ix4 b h q j) = Ideal.exp (score x0 x1 x2 x3 b h q j.val - mx (score x0 x1 x2 x3 b h q) 2048) := by
  pointwise [val_main_v20, val_main_v19, val_main_v18, val_main_v17, v16_at, v13_at]

theorem v21_at (b : Fin 32) (h : Fin 4) (q : Fin 2048) :
    val_main_v21 (F := Ideal) x0 x1 x2 x3 (ix3 b h q) = den (score x0 x1 x2 x3 b h q) 2048 (mx (score x0 x1 x2 x3 b h q) 2048) := by
  pointwise [val_main_v21, val_main_cst_3, v20_at, den]
  exact (Finset.sum_range fun j => Ideal.exp (score x0 x1 x2 x3 b h q j - mx (score x0 x1 x2 x3 b h q) 2048)).symm

theorem v26_at (b : Fin 32) (h : Fin 4) (q : Fin 2048) (e : Fin 256) :
    val_main_v26 (F := Ideal) x0 x1 x2 x3 (ix4 b q h e) = lat x0 x1 x2 x3 b h q e := by
  pointwise [val_main_v26, val_main_v25, val_main_v24, val_main_v23, val_main_v22, v20_at, v21_at, lat]
  rw [Finset.sum_range]
  refine Finset.sum_congr rfl fun x _ => ?_
  rw [mul_comm]
  have hx : Fin.ofNat 2048 x.val = x := Fin.ext (Nat.mod_eq_of_lt x.isLt)
  unfold latv
  rw [hx]

theorem v32_at (b : Fin 32) (q : Fin 2048) (d : Fin 512) :
    val_main_v32 (F := Ideal) x0 x1 x2 x3 x6 (ix3 b q d) = att x0 x1 x2 x3 x6 b q d := by
  pointwise [val_main_v32, val_main_v31, val_main_v30, val_main_v29, val_main_v28, val_main_v27, v26_at, att]
  refine Finset.sum_congr rfl fun x _ => ?_
  rw [mul_comm]
  exact congrArg _ (congrArg x6 ((ix3_inj ..).2 ⟨rfl, rfl, Fin.ext (Nat.add_assoc _ _ _).symm⟩))

theorem v52_at (R : Fin 65536) (c : Fin 1024) :
    val_main_v52 (F := Ideal) x0 x1 x2 x3 x4 x5 x6 x7 x8 (ix2 R c)
      = outEntry (att x0 x1 x2 x3 x6 ⟨R.val / 2048, by omega⟩ ⟨R.val % 2048, by omega⟩)
          (x4 (ix3 ⟨R.val / 2048, by omega⟩ ⟨R.val % 2048, by omega⟩ c))
          (fun d => x5 (ix3 ⟨R.val / 2048, by omega⟩ ⟨R.val % 2048, by omega⟩ d)) (fun d => x7 (ix2 0 d))
          (fun d => x8 (ix3 0 ⟨d.val, by omega⟩ c)) (fun d => x8 (ix3 0 ⟨512 + d.val, by omega⟩ c)) := by
  pointwise [val_main_v52, val_main_v51, val_main_v50, val_main_v49, val_main_v48, val_main_v47, val_main_v46, val_main_v45, val_main_v44,
    val_main_v43, val_main_v42, val_main_v41, val_main_v40, val_main_v39, val_main_v38, val_main_v37, val_main_v36, val_main_v35, val_main_v34, val_main_v33,
    val_main_cst_4, val_main_cst_5, val_main_cst_6, v32_at]
  unfold outEntry
  exact (add_assoc _ _ _).symm

end Cert.ReferenceIdeal.Val
-- ==== Proof.Score.lean ====
module
public import proofs.«01_k».proof.Proof.Body
public import proofs.«01_k».proof.Proof.Ref
@[expose] public section
set_option maxRecDepth 16384
noncomputable section
/-! The packed product of a query row and a key row is the scaled score of the specification, and on finite inputs dividing
    the accumulated average by the accumulated weight is averaging with the divided weights. -/
namespace Cert.Attn
open Idealize.ShloMosaic

/-- A number that is neither infinity. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sum {ι : Type*} (S : Finset ι) {f : ι → EReal} (h : ∀ i, IsReal (f i)) : IsReal (∑ i ∈ S, f i) := by
  classical
  induction S using Finset.induction_on with
  | empty => exact ⟨0, by simp⟩
  | insert a S ha ih => rw [Finset.sum_insert ha]; exact (h a).add ih

theorem IsReal.ne_top {x : EReal} (h : IsReal x) : x ≠ ⊤ := by obtain ⟨a, rfl⟩ := h; exact EReal.coe_ne_top a
theorem IsReal.ne_bot {x : EReal} (h : IsReal x) : x ≠ ⊥ := by obtain ⟨a, rfl⟩ := h; exact EReal.coe_ne_bot a

/-- The factor 192 ^ (-1/2), as the programs hold it. -/
theorem scale_val : ∃ r : ℝ, 0 ≤ r ∧ Ideal.ofBits .f32 0x3D93CD3A#32 = (r : EReal) := by
  refine ⟨_, ?_, by simp [Ideal.ofBits, Ideal.ieee]; rfl⟩
  positivity

theorem scale_nonneg : (0 : EReal) ≤ Ideal.ofBits .f32 0x3D93CD3A#32 := by
  obtain ⟨r, h, e⟩ := scale_val; rw [e]; exact EReal.coe_nonneg.2 h
theorem scale_ne_top : Ideal.ofBits .f32 0x3D93CD3A#32 ≠ (⊤ : EReal) := by
  obtain ⟨r, h, e⟩ := scale_val; rw [e]; exact EReal.coe_ne_top r

/-- The 128 rotary lanes masked to head `h` leave the 32 lanes of that head. -/
theorem sum_lanes (h : Fin 4) (u k : Fin 32 → EReal) :
    ∑ l : Fin 128, (if l.val / 32 = h.val then u ⟨l.val % 32, by omega⟩ else 0) * k ⟨l.val % 32, by omega⟩
      = ∑ e : Fin 32, u e * k e := by
  have e1 : ∑ l : Fin (4 * 32), (if l.val / 32 = h.val then u ⟨l.val % 32, by omega⟩ else 0) * k ⟨l.val % 32, by omega⟩
      = ∑ p : Fin 4 × Fin 32, (if p.1 = h then u p.2 else 0) * k p.2 := by
    refine (Fintype.sum_equiv finProdFinEquiv _ _ fun p => ?_).symm
    have hv : (finProdFinEquiv p).val = p.2.val + 32 * p.1.val := rfl
    have hd : (finProdFinEquiv p).val / 32 = p.1.val := by omega
    have hm : (finProdFinEquiv p).val % 32 = p.2.val := by omega
    have hp : (⟨(finProdFinEquiv p).val % 32, by omega⟩ : Fin 32) = p.2 := Fin.ext hm
    rw [hp, hd]
    simp only [Fin.ext_iff]
  refine e1.trans ?_
  rw [Fintype.sum_prod_type, Finset.sum_eq_single h]
  · simp
  · intro a _ ha; simp [ha]
  · intro hh; exact absurd (Finset.mem_univ h) hh

/-- A sum over the 512 packed lanes is the sum over the latent lanes and the two rotary parts. -/
theorem sum_packed (f : Fin 512 → EReal) :
    ∑ d, f d = (∑ e : Fin 256, f ⟨e.val, by omega⟩ + ∑ e : Fin 128, f ⟨256 + e.val, by omega⟩)
      + ∑ e : Fin 128, f ⟨384 + e.val, by omega⟩ := by
  have h1 := Fin.sum_univ_add (a := 384) (b := 128) f
  refine h1.trans (congrArg₂ (· + ·) ?_ rfl)
  exact Fin.sum_univ_add (a := 256) (b := 128) (fun i => f (Fin.castAdd 128 i))

theorem sum_rotary (f : Fin 64 → EReal) :
    ∑ d, f d = ∑ e : Fin 32, f ⟨e.val, by omega⟩ + ∑ e : Fin 32, f ⟨32 + e.val, by omega⟩ :=
  Fin.sum_univ_add (a := 32) (b := 32) f

variable {x0 : FVec Ideal ⟨4, ![32, 2048, 4, 256]⟩ .f32} {x1 : FVec Ideal ⟨4, ![32, 2048, 4, 64]⟩ .f32}
  {x2 : FVec Ideal ⟨3, ![32, 2048, 256]⟩ .f32} {x3 : FVec Ideal ⟨3, ![32, 2048, 64]⟩ .f32}

/-- The packed product is the scaled score. -/
theorem packed_eq_raw (b : Fin 32) (h : Fin 4) (q j : Fin 2048) (Q K : Fin 512 → EReal)
    (q0 : ∀ e : Fin 256, Q ⟨e.val, by omega⟩ = x0 (ix4 b q h e) * Ideal.ofBits .f32 0x3D93CD3A#32)
    (q1 : ∀ e : Fin 128, Q ⟨256 + e.val, by omega⟩
      = if e.val / 32 = h.val then x1 (ix4 b q h ⟨e.val % 32, by omega⟩) * Ideal.ofBits .f32 0x3D93CD3A#32 else 0)
    (q2 : ∀ e : Fin 128, Q ⟨384 + e.val, by omega⟩
      = if e.val / 32 = h.val then x1 (ix4 b q h ⟨32 + e.val % 32, by omega⟩) * Ideal.ofBits .f32 0x3D93CD3A#32 else 0)
    (k0 : ∀ e : Fin 256, K ⟨e.val, by omega⟩ = x2 (ix3 b j e))
    (k1 : ∀ e : Fin 128, K ⟨256 + e.val, by omega⟩ = x3 (ix3 b j ⟨e.val % 32, by omega⟩))
    (k2 : ∀ e : Fin 128, K ⟨384 + e.val, by omega⟩ = x3 (ix3 b j ⟨32 + e.val % 32, by omega⟩)) :
    ∑ d, Q d * K d = raw x0 x1 x2 x3 b h q j := by
  rw [sum_packed]
  simp only [q0, q1, q2, k0, k1, k2]
  have l1 := sum_lanes h (fun e => x1 (ix4 b q h ⟨e.val, by omega⟩) * Ideal.ofBits .f32 0x3D93CD3A#32)
    (fun e => x3 (ix3 b j ⟨e.val, by omega⟩))
  have l2 := sum_lanes h (fun e => x1 (ix4 b q h ⟨32 + e.val, by omega⟩) * Ideal.ofBits .f32 0x3D93CD3A#32)
    (fun e => x3 (ix3 b j ⟨32 + e.val, by omega⟩))
  simp only [] at l1 l2
  rw [l1, l2]
  unfold raw
  rw [EReal.right_distrib_of_nonneg_of_ne_top scale_nonneg scale_ne_top, sum_rotary,
    EReal.right_distrib_of_nonneg_of_ne_top scale_nonneg scale_ne_top, sum_mul_of_finite _ _ scale_nonneg scale_ne_top,
    sum_mul_of_finite _ _ scale_nonneg scale_ne_top, sum_mul_of_finite _ _ scale_nonneg scale_ne_top, add_assoc]
  refine congrArg₂ (· + ·) (Finset.sum_congr rfl fun e _ => ?_)
    (congrArg₂ (· + ·) (Finset.sum_congr rfl fun e _ => ?_) (Finset.sum_congr rfl fun e _ => ?_)) <;>
  · rw [mul_right_comm]
    exact congrArg (· * _) (mul_comm _ _)

/-- On finite inputs every score is a number. -/
theorem raw_real (h0 : ∀ i, IsReal (x0 i)) (h1 : ∀ i, IsReal (x1 i)) (h2 : ∀ i, IsReal (x2 i)) (h3 : ∀ i, IsReal (x3 i))
    (b : Fin 32) (h : Fin 4) (q j : Fin 2048) : IsReal (raw x0 x1 x2 x3 b h q j) := by
  unfold raw
  refine IsReal.mul (IsReal.add (IsReal.sum _ fun e => (h2 _).mul (h0 _)) (IsReal.sum _ fun e => (h3 _).mul (h1 _))) ?_
  obtain ⟨r, _, e⟩ := scale_val
  exact ⟨r, e⟩

/-- On finite inputs the accumulated average divided by the accumulated weight is the softmax average. -/
theorem div_eq_lat (h0 : ∀ i, IsReal (x0 i)) (h1 : ∀ i, IsReal (x1 i)) (h2 : ∀ i, IsReal (x2 i)) (h3 : ∀ i, IsReal (x3 i))
    (b : Fin 32) (h : Fin 4) (q : Fin 2048) (e : Fin 256) :
    Ideal.div (num (score x0 x1 x2 x3 b h q) (latv x2 b e) 2048 (mx (score x0 x1 x2 x3 b h q) 2048))
      (den (score x0 x1 x2 x3 b h q) 2048 (mx (score x0 x1 x2 x3 b h q) 2048)) = lat x0 x1 x2 x3 b h q e := by
  obtain ⟨L, hL, hd⟩ := den_real (score x0 x1 x2 x3 b h q) 2048
    (fun j _ => by unfold score; split; exacts [(raw_real h0 h1 h2 h3 b h q _).ne_top, bot_ne_top])
    ⟨0, by omega, by unfold score; rw [if_pos (Nat.zero_le _)]; exact (raw_real h0 h1 h2 h3 b h q _).ne_bot⟩
  unfold lat
  rw [hd]
  exact num_div _ _ _ _ hL

end Cert.Attn
-- ==== Proof.Tile.lean ====
module
public import proofs.«01_k».proof.Proof.Host
public import proofs.«01_k».proof.Proof.Score
/-! The blocks of a grid point, what the body leaves in the output block there, and the array after all points. -/
@[expose] public section
set_option maxRecDepth 16384
noncomputable section
namespace Cert.KernelIdeal.Val
open Cert.KernelIdeal Cert.KernelIdeal.Gen Cert.Attn Idealize.ShloMosaic Idealize.ShloMosaic.TcCoe Idealize.SL.Sem
open Idealize.ShloMosaic.Pipeline (Dat)
variable (m : (ℓ : Loc nD τ sig) → Buf (Elt Ideal) ℓ)

theorem idx : ∀ t : Fin cfg0.N, win0_0.index t = ![t.val, 0] ∧ win0_1.index t = ![t.val / 8, 0, 0] ∧ win0_2.index t = ![t.val, 0]
    ∧ win0_3.index t = ![t.val, 0] ∧ win0_4.index t = ![0, 0, 0] ∧ win0_5.index t = ![0, 0] ∧ win0_6.index t = ![0, 0]
    ∧ win0_7.index t = ![t.val, 0] ∧ (grid0.coords t 1).val = t.val % 8 :=
  (by decide +kernel : ∀ t : Fin grid0.N, _)

theorem pt_lt (t : Fin cfg0.N) : t.val < 256 := lt_of_lt_of_eq t.isLt N_0

/-- The row of the arrays that row `r` of point `t`'s block is. -/
def row (t : Fin cfg0.N) (r : Fin 256) : Fin 65536 := ⟨256 * t.val + r.val, by have := pt_lt t; omega⟩

theorem blk_q (c : Dev nD) (t : Fin cfg0.N) (r : Fin 256) (y : Fin 2048) :
    (show FVec Ideal S256x2048 .bf16 from iblk m c 0 t) (ix2 r y)
      = (show FVec Ideal S65536x2048 .bf16 from V m c main_v27) (ix2 (row t r) y) := by
  unfold row
  blk_ext [iblk, V, idx t]
theorem blk_k (c : Dev nD) (t : Fin cfg0.N) (j : Fin 2048) (y : Fin 512) :
    (show FVec Ideal S1x2048x512 .bf16 from iblk m c 1 t) (ix3 0 j y)
      = (show FVec Ideal S32x2048x512 .bf16 from V m c main_v37) (ix3 ⟨t.val / 8, by have := pt_lt t; omega⟩ j y) := by
  blk_ext [iblk, V, idx t]
theorem blk_x (c : Dev nD) (t : Fin cfg0.N) (r : Fin 256) (y : Fin 1024) :
    (show FVec Ideal S256x1024 .f32 from iblk m c 2 t) (ix2 r y)
      = (show FVec Ideal S65536x1024 .f32 from V m c main_v47) (ix2 (row t r) y) := by
  unfold row
  blk_ext [iblk, V, idx t]
theorem blk_y (c : Dev nD) (t : Fin cfg0.N) (r : Fin 256) (y : Fin 512) :
    (show FVec Ideal S256x512 .bf16 from iblk m c 3 t) (ix2 r y)
      = (show FVec Ideal S65536x512 .bf16 from V m c main_v48) (ix2 (row t r) y) := by
  unfold row
  blk_ext [iblk, V, idx t]
theorem blk_v (c : Dev nD) (t : Fin cfg0.N) (h : Fin 4) (e : Fin 256) (y : Fin 128) :
    (show FVec Ideal S4x256x128 .bf16 from iblk m c 4 t) (ix3 h e y)
      = (show FVec Ideal S4x256x128 .bf16 from V m c main_v42) (ix3 h e y) := by
  blk_ext [iblk, V, idx t]
theorem blk_n (c : Dev nD) (t : Fin cfg0.N) (y : Fin 512) :
    (show FVec Ideal S1x512 .f32 from iblk m c 5 t) (ix2 0 y)
      = (show FVec Ideal S1x512 .f32 from V m c main_v44) (ix2 0 y) := by
  blk_ext [iblk, V, idx t]
theorem blk_o (c : Dev nD) (t : Fin cfg0.N) (e k : Fin 1024) :
    (show FVec Ideal S1024x1024 .bf16 from iblk m c 6 t) (ix2 e k)
      = (show FVec Ideal S1024x1024 .bf16 from V m c main_v46) (ix2 e k) := by
  blk_ext [iblk, V, idx t]

/-- The batch element of point `t`. -/
abbrev bat (t : Fin cfg0.N) (r : Fin 256) : Fin 32 := ⟨(row t r).val / 2048, by have := (row t r).isLt; omega⟩
/-- The query position of row `r` of point `t`. -/
abbrev qry (t : Fin cfg0.N) (r : Fin 256) : Fin 2048 := ⟨(row t r).val % 2048, by omega⟩

theorem bat_eq (t : Fin cfg0.N) (r : Fin 256) : (⟨t.val / 8, by have := pt_lt t; omega⟩ : Fin 32) = bat t r :=
  Fin.ext (by simp only [row]; omega)

/-- The kernel's masked scores at a point are the specification's. -/
theorem rowScore_eq (c : Dev nD) (t : Fin cfg0.N) (r : Fin 256) (h : Fin 4) :
    rowScore (iblk m c 0 t) (iblk m c 1 t) (grid0.coords t 1).val h r
      = score (in0 m c) (in1 m c) (in2 m c) (in3 m c) (bat t r) h (qry t r) := by
  funext j
  unfold rowScore score
  have hq : 256 * (grid0.coords t 1).val + r.val = (qry t r).val := by
    have := (idx t).2.2.2.2.2.2.2.2; simp only [row]; omega
  rw [hq]
  by_cases hj : j ≤ (qry t r).val
  · rw [if_pos hj, if_pos hj]
    refine packed_eq_raw (bat t r) h (qry t r) (Fin.ofNat 2048 j) _ _ (fun e => ?_) (fun e => ?_) (fun e => ?_)
      (fun e => ?_) (fun e => ?_) (fun e => ?_)
    · exact (blk_q m c t r _).trans (qcat_lat m c (row t r) h e)
    · exact (blk_q m c t r _).trans (qcat_r1 m c (row t r) h e)
    · exact (blk_q m c t r _).trans (qcat_r2 m c (row t r) h e)
    · rw [← bat_eq]; exact (blk_k m c t _ _).trans (kcat_lat m c _ _ e)
    · rw [← bat_eq]; exact (blk_k m c t _ _).trans (kcat_r1 m c _ _ e)
    · rw [← bat_eq]; exact (blk_k m c t _ _).trans (kcat_r2 m c _ _ e)
  · rw [if_neg hj, if_neg hj]

theorem rowVal_eq (c : Dev nD) (t : Fin cfg0.N) (r : Fin 256) (e : Fin 256) :
    rowVal (iblk m c 1 t) e = latv (in2 m c) (bat t r) e := by
  funext j
  unfold rowVal latv
  rw [← bat_eq]; exact (blk_k m c t _ _).trans (kcat_lat m c _ _ e)

/-- Every entry of the queries, the latent rows and the rotary keys is a number. -/
structure Finite (c : Dev nD) : Prop where
  h0 : ∀ i, IsReal (in0 m c i)
  h1 : ∀ i, IsReal (in1 m c i)
  h2 : ∀ i, IsReal (in2 m c i)
  h3 : ∀ i, IsReal (in3 m c i)

theorem heads_eq (c : Dev nD) (hf : Finite m c) (t : Fin cfg0.N) (r : Fin 256) :
    heads (iblk m c 0 t) (iblk m c 1 t) (iblk m c 4 t) (grid0.coords t 1).val r
      = att (in0 m c) (in1 m c) (in2 m c) (in3 m c) (in6 m c) (bat t r) (qry t r) := by
  funext d
  unfold heads att
  refine Finset.sum_congr rfl fun e _ => congrArg₂ (· * ·) ?_ ?_
  · unfold headAvg
    rw [rowScore_eq, rowVal_eq m c t r]
    exact div_eq_lat hf.h0 hf.h1 hf.h2 hf.h3 (bat t r) _ (qry t r) e
  · refine (blk_v m c t _ _ _).trans ((wv_host m c _ _ _).trans ?_)
    exact congrArg (in6 m c) (congrArg (ix3 0 e) (Fin.ext (by simp only []; omega)))

/-- The result, entry by entry. -/
def result (c : Dev nD) : FVec Ideal S65536x1024 .f32 := fun i =>
  outEntry (att (in0 m c) (in1 m c) (in2 m c) (in3 m c) (in6 m c) ⟨(i 0).val / 2048, by have : (i 0).val < 65536 := (i 0).isLt; omega⟩ ⟨(i 0).val % 2048, by omega⟩)
    (in4 m c (ix3 ⟨(i 0).val / 2048, by have : (i 0).val < 65536 := (i 0).isLt; omega⟩ ⟨(i 0).val % 2048, by omega⟩ (i 1)))
    (fun d => in5 m c (ix3 ⟨(i 0).val / 2048, by have : (i 0).val < 65536 := (i 0).isLt; omega⟩ ⟨(i 0).val % 2048, by omega⟩ d))
    (fun d => in7 m c (ix2 0 d)) (fun d => in8 m c (ix3 0 ⟨d.val, by omega⟩ (i 1)))
    (fun d => in8 m c (ix3 0 ⟨512 + d.val, by omega⟩ (i 1)))

theorem tile_eq (c : Dev nD) (hf : Finite m c) (t : Fin cfg0.N) (r : Fin 256) (col : Fin 1024) :
    (show FVec Ideal S256x1024 .f32 from outsAt0 m c t) (ix2 r col) = result m c (ix2 (row t r) col) := by
  unfold outsAt0
  refine (out_apply c (grid0.coords t) _ _ _ _ _ _ _ _ _ _ _ _ _ _ _ _ _ _ _ _ _ _ (iblk m c 0 t) (iblk m c 1 t) (iblk m c 2 t) (iblk m c 3 t)
    (iblk m c 4 t) (iblk m c 5 t) (iblk m c 6 t) r col).trans ?_
  rw [heads_eq m c hf]
  unfold result
  have e1 : (iblk m c 2 t : FVec Ideal S256x1024 .f32) (ix2 r col) = _ := (blk_x m c t r col).trans (x_host m c _ _)
  have e2 : (fun d : Fin 512 => (iblk m c 3 t : FVec Ideal S256x512 .bf16) (ix2 r d)) = _ :=
    funext fun d => (blk_y m c t r d).trans (yr_host m c _ _)
  have e3 : (fun d : Fin 512 => (iblk m c 5 t : FVec Ideal S1x512 .f32) (ix2 0 d)) = _ :=
    funext fun d => (blk_n m c t d).trans (on_host m c _)
  have e4 : (fun d : Fin 512 => (iblk m c 6 t : FVec Ideal S1024x1024 .bf16) (ix2 ⟨d.val, by omega⟩ col)) = _ :=
    funext fun d => (blk_o m c t _ col).trans (wo_host m c _ _)
  have e5 : (fun d : Fin 512 => (iblk m c 6 t : FVec Ideal S1024x1024 .bf16) (ix2 ⟨512 + d.val, by omega⟩ col)) = _ :=
    funext fun d => (blk_o m c t _ col).trans (wo_host m c _ _)
  rw [e1, e2, e3, e4, e5]
  rfl

theorem final (c : Dev nD) (hf : Finite m c) : (dats m 0 c).arrAt 7 cfg0.N = result m c := by
  refine (dats m 0 c).arrAt_eq_of_covers 7 (result m c) (by decide +kernel) fun t _ y => ?_
  blk_simp
  rw [after0_7]
  have hy : y = ix2 (n0 := 256) (n1 := 1024) (y 0) (y 1) := by blk_ext []
  refine ((congrArg (outsAt0 m c t) hy).trans (tile_eq m c hf t (y 0) (y 1))).trans ?_
  unfold row
  blk_ext [idx t]

end Cert.KernelIdeal.Val
-- ==== Proof.Pre.lean ====
module
public import proofs.«01_k».proof.Pre_finite_inputs
public import proofs.«01_k».proof.Proof.Score
public import Idealize.ShloMosaic.Lib.ReduceAll
/-! The precondition: its side conditions, and that it makes every entry of the first four arguments a number. -/
@[expose] public section
set_option maxRecDepth 16384
noncomputable section
namespace Cert.Pre_finite_inputs.Val
open Cert.Pre_finite_inputs Cert.Attn Idealize.ShloMosaic

instance facts : Facts where
  bcast_S_S32x2048x4x256 := by decide
  reducesTo_S32x2048x4x256_S_d0_1_2_3 := by decide
  h_S_ := by decide
  bcast_S_S32x2048x4x64 := by decide
  reducesTo_S32x2048x4x64_S_d0_1_2_3 := by decide
  bcast_S_S32x2048x256 := by decide
  reducesTo_S32x2048x256_S_d0_1_2 := by decide
  bcast_S_S32x2048x64 := by decide
  reducesTo_S32x2048x64_S_d0_1_2 := by decide

theorem real_of_lt {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  have hl : max x (-x) < ⊤ := by
    by_contra hn
    simp [Ideal.cmp, hn] at h
  obtain ⟨h1, h2⟩ := max_lt_iff.1 hl
  refine ⟨x.toReal, (EReal.coe_toReal h1.ne ?_).symm⟩
  rintro rfl
  simp at h2

theorem and_one {a b : BitVec 1} (h : IntOp.andi a b = 1#1) : a = 1#1 ∧ b = 1#1 := by
  revert h; revert a b; decide

instance : Subsingleton S_.Idx := ⟨fun a b => funext fun i => i.elim0⟩

theorem all_real (x0 : FVec Ideal S32x2048x4x256 .f32) (x1 : FVec Ideal S32x2048x4x64 .f32) (x2 : FVec Ideal S32x2048x256 .f32)
    (x3 : FVec Ideal S32x2048x64 .f32) (x4 : FVec Ideal S32x2048x1024 .f32) (x5 : FVec Ideal S32x2048x512 .bf16)
    (x6 : FVec Ideal S1x256x1024 .f32) (x7 : FVec Ideal S1x512 .f32) (x8 : FVec Ideal S1x1024x1024 .f32)
    (h : fn (F := Ideal) x0 x1 x2 x3 x4 x5 x6 x7 x8 = fun _ => 1#1) :
    (∀ i, IsReal (x0 i)) ∧ (∀ i, IsReal (x1 i)) ∧ (∀ i, IsReal (x2 i)) ∧ (∀ i, IsReal (x3 i)) := by
  have h0 := congrFun h (fun i => i.elim0)
  unfold fn fn_part1 at h0
  obtain ⟨h1, e3⟩ := and_one h0
  obtain ⟨h2, e2⟩ := and_one h1
  obtain ⟨e0, e1⟩ := and_one h2
  exact ⟨fun i => real_of_lt (Host.reduce_andi_all _ _ _ _ _ e0 i), fun i => real_of_lt (Host.reduce_andi_all _ _ _ _ _ e1 i),
    fun i => real_of_lt (Host.reduce_andi_all _ _ _ _ _ e2 i), fun i => real_of_lt (Host.reduce_andi_all _ _ _ _ _ e3 i)⟩

end Cert.Pre_finite_inputs.Val
-- ==== Proof.Attention.lean ====
module
public import proofs.«01_k».proof.Defs
public import proofs.«01_k».proof.Proof.Tile
public import proofs.«01_k».proof.Proof.Pre
/-! The prompt group's latent attention: the kernel's result is the reference's. -/
@[expose] public section
set_option maxRecDepth 16384
noncomputable section
namespace Cert.Attn
open Idealize.ShloMosaic Idealize.ShloMosaic.TcCoe Idealize.SL.Sem

theorem finite_of_pre (m : (ℓ : Loc Cert.KernelIdeal.nD Cert.KernelIdeal.τ Cert.KernelIdeal.sig) → Buf (Elt Ideal) ℓ)
    (h : Cert.Pre_KernelIdeal_finite_inputs m) (c : Dev Cert.KernelIdeal.nD) : Cert.KernelIdeal.Val.Finite m c := by
  obtain ⟨h0, h1, h2, h3⟩ := Cert.Pre_finite_inputs.Val.all_real _ _ _ _ _ _ _ _ _ (h c)
  exact ⟨h0, h1, h2, h3⟩

/-- The reference's result is the specification's, entry by entry. -/
theorem ref_eq (m : (ℓ : Loc Cert.KernelIdeal.nD Cert.KernelIdeal.τ Cert.KernelIdeal.sig) → Buf (Elt Ideal) ℓ)
    (c : Dev Cert.KernelIdeal.nD) :
    Cert.ReferenceIdeal.Read.val_main_v52 (F := Ideal) (Cert.KernelIdeal.Val.in0 m c) (Cert.KernelIdeal.Val.in1 m c)
      (Cert.KernelIdeal.Val.in2 m c) (Cert.KernelIdeal.Val.in3 m c) (Cert.KernelIdeal.Val.in4 m c)
      (Cert.KernelIdeal.Val.in5 m c) (Cert.KernelIdeal.Val.in6 m c) (Cert.KernelIdeal.Val.in7 m c)
      (Cert.KernelIdeal.Val.in8 m c) = Cert.KernelIdeal.Val.result m c := by
  funext i
  have hi : i = ix2 (n0 := 65536) (n1 := 1024) (i 0) (i 1) := by blk_ext []
  rw [hi]
  exact Cert.ReferenceIdeal.Val.v52_at _ _ _ _ _ _ _ _ _ (i 0) (i 1)

theorem algebraic : Cert.algebraic_KernelIdeal_ReferenceIdeal_pre_finite_inputs := by
  pair_intro
  · run_from Cert.KernelIdeal.Value.run_blocks m g
  · run_from Cert.ReferenceIdeal.Value.run m' g'
    rw [Cert.ReferenceIdeal.Read.val_main_v52_eq]
    obtain ⟨h0, h1, h2, h3, h4, h5, h6, h7, h8⟩ := hagree c
    rw [h0, h1, h2, h3, h4, h5, h6, h7, h8]
    exact (ref_eq m c).trans (Cert.KernelIdeal.Val.final m c (finite_of_pre m hpre c)).symm

end Cert.Attn
-- ==== Proof.Norm.lean ====
module
public import Idealize.ShloMosaic.Lib.Pointwise
@[expose] public section
noncomputable section
/-! The root-mean-square norm of a row, entry by entry. -/
namespace Cert.Layer
open Idealize.ShloMosaic

/-- Entry `d` of the row `x` divided by its root mean square (the number of entries as a float word) and scaled by `g`. -/
def rmsEntry {k : ℕ} (w : BitVec 32) (x g : Fin k → EReal) (d : Fin k) : EReal :=
  x d * Ideal.rsqrt (Ideal.div (∑ t, x t * x t) (Ideal.ofBits .f32 w) + Ideal.ofBits .f32 0x3727C5AC#32) * g d

end Cert.Layer
-- ==== Proof.MixRef.lean ====
module
public import proofs.«01_k».proof.Proof.Norm
public import proofs.«01_k».proof.Proof.Gen.Reference2Ideal.Read
/-! What the reference of the mixing input computes, entry by entry. -/
@[expose] public section
set_option maxRecDepth 16384
noncomputable section

namespace Cert.Layer
open Idealize.ShloMosaic

/-- The seven arrays the mixing input takes. -/
structure MixIn where
  /-- The layer's input. -/
  x : FVec Ideal ⟨3, ![32, 2048, 1024]⟩ .f32
  /-- The weights of the first norm. -/
  g : FVec Ideal ⟨1, ![1024]⟩ .f32
  /-- The input projection. -/
  w : FVec Ideal ⟨2, ![1024, 2496]⟩ .f32
  /-- The weights of the queries' norm. -/
  gq : FVec Ideal ⟨1, ![384]⟩ .f32
  /-- The queries' second projection. -/
  wq : FVec Ideal ⟨2, ![384, 768]⟩ .f32
  /-- The weights of the latent vectors' norm. -/
  gk : FVec Ideal ⟨1, ![256]⟩ .f32
  /-- The latent vectors' second projection, of keys and values. -/
  wk : FVec Ideal ⟨2, ![256, 1024]⟩ .f32

variable (A : MixIn)

/-- Column `k` of the normed input row through the input projection. -/
def proj (b : Fin 32) (r : Fin 2048) (k : Fin 2496) : EReal :=
  ∑ d : Fin 1024, rmsEntry 0x44800000#32 (fun d => A.x (ix3 b r d)) (fun d => A.g (ix1 d)) d * A.w (ix2 d k)

/-- The latent vector of a row, normed. -/
def latent (b : Fin 32) (r : Fin 2048) (e : Fin 256) : EReal :=
  rmsEntry 0x43800000#32 (fun e : Fin 256 => proj A b r ⟨2176 + e.val, by omega⟩) (fun e => A.gk (ix1 e)) e

/-- Column `k` of the queries, before rotation. -/
def query (b : Fin 32) (r : Fin 2048) (k : Fin 768) : EReal :=
  ∑ e : Fin 384, rmsEntry 0x43C00000#32 (fun e : Fin 384 => proj A b r ⟨1792 + e.val, by omega⟩) (fun e => A.gq (ix1 e)) e * A.wq (ix2 e k)

/-- The angle by which lane `l` of the row at position `r` is rotated. -/
def turn (r l : ℕ) : EReal :=
  FloatOps.sitofp (F := Ideal) FTy.f32 (BitVec.ofNat 32 r) * Ideal.pow (Ideal.ofBits FTy.f32 0x461C4000#32)
    (Ideal.div (-FloatOps.sitofp (F := Ideal) FTy.f32 (BitVec.ofNat 32 l)) (Ideal.ofBits FTy.f32 0x42000000#32))

/-- The first half of a rotated pair. -/
def turnA (a b : EReal) (r l : ℕ) : EReal := a * Ideal.cos (turn r l) - b * Ideal.sin (turn r l)
/-- The second half of a rotated pair. -/
def turnB (a b : EReal) (r l : ℕ) : EReal := a * Ideal.sin (turn r l) + b * Ideal.cos (turn r l)

/-- The first halves of the rotated key lanes. -/
def keyA (b : Fin 32) (r : Fin 2048) (l : Fin 32) : EReal :=
  turnA (proj A b r ⟨2432 + l.val, by omega⟩) (proj A b r ⟨2464 + l.val, by omega⟩) r.val l.val
/-- The second halves of the rotated key lanes. -/
def keyB (b : Fin 32) (r : Fin 2048) (l : Fin 32) : EReal :=
  turnB (proj A b r ⟨2432 + l.val, by omega⟩) (proj A b r ⟨2464 + l.val, by omega⟩) r.val l.val
/-- The first halves of the rotated query lanes of head `h`. -/
def queryA (b : Fin 32) (r : Fin 2048) (h : Fin 4) (l : Fin 32) : EReal :=
  turnA (query A b r ⟨h.val * 192 + (128 + l.val), by omega⟩) (query A b r ⟨h.val * 192 + (160 + l.val), by omega⟩) r.val l.val
/-- The second halves of the rotated query lanes of head `h`. -/
def queryB (b : Fin 32) (r : Fin 2048) (h : Fin 4) (l : Fin 32) : EReal :=
  turnB (query A b r ⟨h.val * 192 + (128 + l.val), by omega⟩) (query A b r ⟨h.val * 192 + (160 + l.val), by omega⟩) r.val l.val

end Cert.Layer

namespace Cert.Reference2Ideal.Val
open Cert.Reference2Ideal Cert.Reference2Ideal.Gen Cert.Reference2Ideal.Read Cert.Layer Idealize.ShloMosaic
variable (A : MixIn)

theorem v13_at (b : Fin 32) (r : Fin 2048) (d : Fin 1024) :
    val_main_v13 (F := Ideal) A.x A.g (ix3 b r d) = rmsEntry 0x44800000#32 (fun d => A.x (ix3 b r d)) (fun d => A.g (ix1 d)) d := by
  pointwise [val_main_v13, val_main_v12, val_main_v11, val_main_v10, val_main_v9, val_main_v8, val_main_v7, val_main_v6, val_main_v5,
    val_main_v4, val_main_v3, val_main_v2, val_main_v1, val_main_cst, val_main_cst_0, val_main_cst_1, rmsEntry]

theorem v14_at (b : Fin 32) (r : Fin 2048) (k : Fin 2496) : val_main_v14 (F := Ideal) A.x A.g A.w (ix3 b r k) = proj A b r k := by
  pointwise [val_main_v14, v13_at, proj]

theorem v15_at (b : Fin 32) (r : Fin 2048) (k : Fin 704) :
    val_main_v15 (F := Ideal) A.x A.g A.w (ix3 b r k) = proj A b r ⟨1792 + k.val, by omega⟩ := by
  pointwise [val_main_v15, v14_at]

theorem v16_at (b : Fin 32) (r : Fin 2048) (k : Fin 256) :
    val_main_v16 (F := Ideal) A.x A.g A.w (ix3 b r k) = proj A b r ⟨2176 + k.val, by omega⟩ := by
  pointwise [val_main_v16, v15_at]
  exact congrArg (proj A b r) (Fin.ext (by simp only []; omega))

theorem v62_at (b : Fin 32) (r : Fin 2048) (k : Fin 384) :
    val_main_v62 (F := Ideal) A.x A.g A.w (ix3 b r k) = proj A b r ⟨1792 + k.val, by omega⟩ := by
  pointwise [val_main_v62, v15_at]

theorem v29_at (b : Fin 32) (r : Fin 2048) (e : Fin 256) : val_main_v29 (F := Ideal) A.x A.g A.w A.gk (ix3 b r e) = latent A b r e := by
  pointwise [val_main_v29, val_main_v28, val_main_v27, val_main_v26, val_main_v25, val_main_v24, val_main_v23, val_main_v22, val_main_v21,
    val_main_v20, val_main_v19, val_main_v18, val_main_v17, val_main_cst_2, val_main_cst_3, val_main_cst_4, v16_at, latent, rmsEntry]

theorem v75_at (b : Fin 32) (r : Fin 2048) (e : Fin 384) : val_main_v75 (F := Ideal) A.x A.g A.w A.gq (ix3 b r e)
    = rmsEntry 0x43C00000#32 (fun e : Fin 384 => proj A b r ⟨1792 + e.val, by omega⟩) (fun e => A.gq (ix1 e)) e := by
  pointwise [val_main_v75, val_main_v74, val_main_v73, val_main_v72, val_main_v71, val_main_v70, val_main_v69, val_main_v68, val_main_v67,
    val_main_v66, val_main_v65, val_main_v64, val_main_v63, val_main_cst_7, val_main_cst_8, val_main_cst_9, v62_at, rmsEntry]

theorem v76_at (b : Fin 32) (r : Fin 2048) (k : Fin 768) : val_main_v76 (F := Ideal) A.x A.g A.w A.gq A.wq (ix3 b r k) = query A b r k := by
  pointwise [val_main_v76, v75_at, query]

theorem v77_at (b : Fin 32) (r : Fin 2048) (h : Fin 4) (d : Fin 192) :
    val_main_v77 (F := Ideal) A.x A.g A.w A.gq A.wq (ix4 b r h d) = query A b r ⟨h.val * 192 + d.val, by omega⟩ := by
  pointwise [val_main_v77, v76_at]

theorem v112_at (b : Fin 32) (r : Fin 2048) (h : Fin 4) (e : Fin 256) :
    val_main_v112 (F := Ideal) A.x A.g A.w A.gq A.wq A.wk (ix4 b r h e)
      = ∑ d : Fin 128, A.wk (ix2 e ⟨h.val * 256 + d.val, by omega⟩) * query A b r ⟨h.val * 192 + d.val, by omega⟩ := by
  pointwise [val_main_v112, val_main_v111, val_main_v110, val_main_v109, val_main_v108, v77_at]

theorem v44_at (r : Fin 2048) (l : Fin 32) : val_main_v44 (F := Ideal) (ix2 r l) = Ideal.cos (turn r.val l.val) := by
  pointwise [val_main_v44, val_main_v43, val_main_v42, val_main_v41, val_main_v40, val_main_v39, val_main_v38, val_main_v37, val_main_v36,
    val_main_v35, val_main_v34, val_main_v33, val_main_v32, val_main_v0, val_main_cst_5, val_main_cst_6, turn]
theorem v46_at (r : Fin 2048) (l : Fin 32) : val_main_v46 (F := Ideal) (ix2 r l) = Ideal.sin (turn r.val l.val) := by
  pointwise [val_main_v46, val_main_v43, val_main_v42, val_main_v41, val_main_v40, val_main_v39, val_main_v38, val_main_v37, val_main_v36,
    val_main_v35, val_main_v34, val_main_v33, val_main_v32, val_main_v0, val_main_cst_5, val_main_cst_6, turn]
theorem v91_at (r : Fin 2048) (l : Fin 32) : val_main_v91 (F := Ideal) (ix2 r l) = Ideal.cos (turn r.val l.val) := by
  pointwise [val_main_v91, val_main_v90, val_main_v89, val_main_v88, val_main_v87, val_main_v86, val_main_v85, val_main_v84, val_main_v83,
    val_main_v82, val_main_v81, val_main_v80, val_main_v79, val_main_v0, val_main_cst_10, val_main_cst_11, turn]
theorem v93_at (r : Fin 2048) (l : Fin 32) : val_main_v93 (F := Ideal) (ix2 r l) = Ideal.sin (turn r.val l.val) := by
  pointwise [val_main_v93, val_main_v90, val_main_v89, val_main_v88, val_main_v87, val_main_v86, val_main_v85, val_main_v84, val_main_v83,
    val_main_v82, val_main_v81, val_main_v80, val_main_v79, val_main_v0, val_main_cst_10, val_main_cst_11, turn]

theorem v30_at (b : Fin 32) (r : Fin 2048) (k : Fin 64) :
    val_main_v30 (F := Ideal) A.x A.g A.w (ix3 b r k) = proj A b r ⟨2432 + k.val, by omega⟩ := by
  pointwise [val_main_v30, v15_at]
  exact congrArg (proj A b r) (Fin.ext (by simp only []; omega))

theorem v54_at (b : Fin 32) (r : Fin 2048) (l : Fin 32) :
    val_main_v54 (F := Ideal) A.x A.g A.w (ix4 b r 0 l) = turnA (proj A b r ⟨2432 + l.val, by omega⟩) (proj A b r ⟨2464 + l.val, by omega⟩) r.val l.val := by
  pointwise [val_main_v54, val_main_v53, val_main_v52, val_main_v51, val_main_v50, val_main_v49, val_main_v48, val_main_v47, val_main_v45,
    val_main_v31, v30_at, v44_at, v46_at, turnA]
  have e : (⟨2432 + (32 + l.val), by omega⟩ : Fin 2496) = ⟨2464 + l.val, by omega⟩ := Fin.ext (by simp only []; omega)
  rw [e]
theorem v59_at (b : Fin 32) (r : Fin 2048) (l : Fin 32) :
    val_main_v59 (F := Ideal) A.x A.g A.w (ix4 b r 0 l) = turnB (proj A b r ⟨2432 + l.val, by omega⟩) (proj A b r ⟨2464 + l.val, by omega⟩) r.val l.val := by
  pointwise [val_main_v59, val_main_v58, val_main_v57, val_main_v56, val_main_v55, val_main_v49, val_main_v48, val_main_v47, val_main_v45,
    val_main_v31, v30_at, v44_at, v46_at, turnB]
  have e : (⟨2432 + (32 + l.val), by omega⟩ : Fin 2496) = ⟨2464 + l.val, by omega⟩ := Fin.ext (by simp only []; omega)
  rw [e]

theorem v61_a (b : Fin 32) (r : Fin 2048) (l : Fin 32) :
    val_main_v61 (F := Ideal) A.x A.g A.w (ix3 b r ⟨l.val, by omega⟩) = keyA A b r l := by
  pointwise [val_main_v61, val_main_v60, v54_at, v59_at, keyA]
theorem v61_b (b : Fin 32) (r : Fin 2048) (l : Fin 32) :
    val_main_v61 (F := Ideal) A.x A.g A.w (ix3 b r ⟨32 + l.val, by omega⟩) = keyB A b r l := by
  pointwise [val_main_v61, val_main_v60, v54_at, v59_at, keyB]

theorem v101_at (b : Fin 32) (r : Fin 2048) (h : Fin 4) (l : Fin 32) :
    val_main_v101 (F := Ideal) A.x A.g A.w A.gq A.wq (ix4 b r h l) = queryA A b r h l := by
  pointwise [val_main_v101, val_main_v100, val_main_v99, val_main_v98, val_main_v97, val_main_v96, val_main_v95, val_main_v94, val_main_v92,
    val_main_v78, v77_at, v91_at, v93_at, turnA, queryA]
  have e : (⟨h.val * 192 + (128 + (32 + l.val)), by omega⟩ : Fin 768) = ⟨h.val * 192 + (160 + l.val), by omega⟩ := Fin.ext (by simp only []; omega)
  rw [e]
theorem v106_at (b : Fin 32) (r : Fin 2048) (h : Fin 4) (l : Fin 32) :
    val_main_v106 (F := Ideal) A.x A.g A.w A.gq A.wq (ix4 b r h l) = queryB A b r h l := by
  pointwise [val_main_v106, val_main_v105, val_main_v104, val_main_v103, val_main_v102, val_main_v96, val_main_v95, val_main_v94, val_main_v92,
    val_main_v78, v77_at, v91_at, v93_at, turnB, queryB]
  have e : (⟨h.val * 192 + (128 + (32 + l.val)), by omega⟩ : Fin 768) = ⟨h.val * 192 + (160 + l.val), by omega⟩ := Fin.ext (by simp only []; omega)
  rw [e]

theorem v118_at (h k : Fin 4) : val_main_v118 (F := Ideal) (ix2 h k) = if k.val = h.val then 1 else 0 := by
  have e : IntOp.cmpi CmpIPredicate.eq (IntOp.addi (BitVec.ofNat 32 h.val) 0#32) (BitVec.ofNat 32 k.val) = BitVec.ofBool (decide (k.val = h.val)) := by
    revert h k; decide +kernel
  pointwise [val_main_v118, val_main_v117, val_main_v116, val_main_v115, val_main_v114, val_main_v113, val_main_c]
  rw [e]
  by_cases hh : k.val = h.val
  · simp [hh, FloatOps.uitofp]
  · simp [hh, FloatOps.uitofp]

theorem v126_at (b : Fin 32) (r : Fin 2048) (h : Fin 4) (l : Fin 128) :
    val_main_v126 (F := Ideal) A.x A.g A.w A.gq A.wq (ix4 b r h l)
      = queryA A b r h ⟨l.val % 32, by omega⟩ * (if l.val / 32 = h.val then 1 else 0) := by
  pointwise [val_main_v126, val_main_v125, val_main_v124, val_main_v123, val_main_v122, val_main_v121, val_main_v120, val_main_v119,
    val_main_v107, v101_at, v118_at]
  rw [dif_pos (by omega : l.val % 32 < 32)]
theorem v133_at (b : Fin 32) (r : Fin 2048) (h : Fin 4) (l : Fin 128) :
    val_main_v133 (F := Ideal) A.x A.g A.w A.gq A.wq (ix4 b r h l)
      = queryB A b r h ⟨l.val % 32, by omega⟩ * (if l.val / 32 = h.val then 1 else 0) := by
  pointwise [val_main_v133, val_main_v132, val_main_v131, val_main_v130, val_main_v129, val_main_v128, val_main_v127, val_main_v119,
    val_main_v107, v106_at, v118_at]

theorem v140_at (b : Fin 32) (r : Fin 2048) (l : Fin 128) :
    val_main_v140 (F := Ideal) A.x A.g A.w (ix3 b r l) = keyA A b r ⟨l.val % 32, by omega⟩ := by
  pointwise [val_main_v140, val_main_v139, val_main_v138, val_main_v137]
  exact v61_a A b r ⟨l.val % 32, by omega⟩
theorem v144_at (b : Fin 32) (r : Fin 2048) (l : Fin 128) :
    val_main_v144 (F := Ideal) A.x A.g A.w (ix3 b r l) = keyB A b r ⟨l.val % 32, by omega⟩ := by
  pointwise [val_main_v144, val_main_v143, val_main_v142, val_main_v141]
  exact v61_b A b r ⟨l.val % 32, by omega⟩

/-! ### The five results -/

theorem v147_at (R : Fin 65536) (k : Fin 1792) : val_main_v147 (F := Ideal) A.x A.g A.w (ix2 R k)
    = proj A ⟨R.val / 2048, by omega⟩ ⟨R.val % 2048, by omega⟩ ⟨k.val, by omega⟩ := by
  pointwise [val_main_v147, val_main_v146, v14_at]
theorem v152_at (R : Fin 65536) (e : Fin 256) : val_main_v152 (F := Ideal) A.x A.g A.w A.gk (ix2 R e)
    = latent A ⟨R.val / 2048, by omega⟩ ⟨R.val % 2048, by omega⟩ e := by
  pointwise [val_main_v152, v29_at]
theorem v153_a (R : Fin 65536) (l : Fin 32) : val_main_v153 (F := Ideal) A.x A.g A.w (ix2 R ⟨l.val, by omega⟩)
    = keyA A ⟨R.val / 2048, by omega⟩ ⟨R.val % 2048, by omega⟩ l := by
  pointwise [val_main_v153]
  exact v61_a A _ _ l
theorem v153_b (R : Fin 65536) (l : Fin 32) : val_main_v153 (F := Ideal) A.x A.g A.w (ix2 R ⟨32 + l.val, by omega⟩)
    = keyB A ⟨R.val / 2048, by omega⟩ ⟨R.val % 2048, by omega⟩ l := by
  pointwise [val_main_v153]
  exact v61_b A _ _ l
theorem v151_a (R : Fin 65536) (e : Fin 256) : val_main_v151 (F := Ideal) A.x A.g A.w A.gk (ix2 R ⟨e.val, by omega⟩)
    = latent A ⟨R.val / 2048, by omega⟩ ⟨R.val % 2048, by omega⟩ e := by
  pointwise [val_main_v151, val_main_v150, val_main_v145, v29_at, v140_at, v144_at]
theorem v151_b (R : Fin 65536) (l : Fin 128) : val_main_v151 (F := Ideal) A.x A.g A.w A.gk (ix2 R ⟨256 + l.val, by omega⟩)
    = keyA A ⟨R.val / 2048, by omega⟩ ⟨R.val % 2048, by omega⟩ ⟨l.val % 32, by omega⟩ := by
  pointwise [val_main_v151, val_main_v150, val_main_v145, v29_at, v140_at, v144_at]
theorem v151_c (R : Fin 65536) (l : Fin 128) : val_main_v151 (F := Ideal) A.x A.g A.w A.gk (ix2 R ⟨384 + l.val, by omega⟩)
    = keyB A ⟨R.val / 2048, by omega⟩ ⟨R.val % 2048, by omega⟩ ⟨l.val % 32, by omega⟩ := by
  pointwise [val_main_v151, val_main_v150, val_main_v145, v29_at, v140_at, v144_at]
  rw [dif_neg (by omega : ¬ 384 + l.val < 256), dif_neg (by omega : ¬ 384 + l.val - 256 < 128)]
  exact congrArg (keyB A _ _) (Fin.ext (by simp only []; omega))

theorem v149_a (R : Fin 65536) (h : Fin 4) (e : Fin 256) :
    val_main_v149 (F := Ideal) A.x A.g A.w A.gq A.wq A.wk (ix2 R ⟨512 * h.val + e.val, by omega⟩)
      = (∑ d : Fin 128, A.wk (ix2 e ⟨h.val * 256 + d.val, by omega⟩)
          * query A ⟨R.val / 2048, by omega⟩ ⟨R.val % 2048, by omega⟩ ⟨h.val * 192 + d.val, by omega⟩) * Ideal.ofBits .f32 0x3D93CD3A#32 := by
  pointwise [val_main_v149, val_main_v148, val_main_v136, val_main_v135, val_main_v134, val_main_cst_12, v112_at, v126_at, v133_at]
  have hm : (512 * h.val + e.val) % 512 = e.val := by omega
  simp only [hm]
  rw [dif_pos e.isLt]
theorem v149_b (R : Fin 65536) (h : Fin 4) (l : Fin 128) :
    val_main_v149 (F := Ideal) A.x A.g A.w A.gq A.wq A.wk (ix2 R ⟨512 * h.val + (256 + l.val), by omega⟩)
      = queryA A ⟨R.val / 2048, by omega⟩ ⟨R.val % 2048, by omega⟩ h ⟨l.val % 32, by omega⟩ * (if l.val / 32 = h.val then 1 else 0)
          * Ideal.ofBits .f32 0x3D93CD3A#32 := by
  pointwise [val_main_v149, val_main_v148, val_main_v136, val_main_v135, val_main_v134, val_main_cst_12, v112_at, v126_at, v133_at]
  have hm : (512 * h.val + (256 + l.val)) % 512 = 256 + l.val := by omega
  have hs : 256 + l.val - 256 = l.val := by omega
  simp only [hm, hs]
  rw [dif_neg (by omega : ¬ 256 + l.val < 256), dif_pos l.isLt]
theorem v149_c (R : Fin 65536) (h : Fin 4) (l : Fin 128) :
    val_main_v149 (F := Ideal) A.x A.g A.w A.gq A.wq A.wk (ix2 R ⟨512 * h.val + (384 + l.val), by omega⟩)
      = queryB A ⟨R.val / 2048, by omega⟩ ⟨R.val % 2048, by omega⟩ h ⟨l.val % 32, by omega⟩ * (if l.val / 32 = h.val then 1 else 0)
          * Ideal.ofBits .f32 0x3D93CD3A#32 := by
  pointwise [val_main_v149, val_main_v148, val_main_v136, val_main_v135, val_main_v134, val_main_cst_12, v112_at, v126_at, v133_at]
  have hm : (512 * h.val + (384 + l.val)) % 512 = 384 + l.val := by omega
  have hs : 384 + l.val - 256 - 128 = l.val := by omega
  simp only [hm, hs]
  rw [dif_neg (by omega : ¬ 384 + l.val < 256), dif_neg (by omega : ¬ 384 + l.val - 256 < 128)]

end Cert.Reference2Ideal.Val
-- ==== Proof.MixHost.lean ====
module
public import proofs.«01_k».proof.Proof.MixRef
public import proofs.«01_k».proof.Proof.Gen.Kernel2Ideal.Value
public import Idealize.ShloMosaic.Lib.Pipeline.ValueKit
public import Idealize.ShloMosaic.Lib.Claim
public import Idealize.ShloMosaic.Lib.StableHlo.RunRead
/-! What the host code hands to the mixing input's call, and what each grid point loads of it, entry by entry. -/
@[expose] public section
set_option maxRecDepth 16384
noncomputable section
namespace Cert.Kernel2Ideal.Val
open Cert.Kernel2Ideal Cert.Kernel2Ideal.Gen Cert.Layer Idealize.ShloMosaic Idealize.ShloMosaic.TcCoe Idealize.SL.Sem
open Idealize.ShloMosaic.Pipeline (Dat)

/-! ### The two packed weight matrices -/

theorem packWA (A : FVec Ideal S1024x640 .f32) (B C : FVec Ideal S1024x128 .f32) (d : Fin 1024) (k : Fin 640) :
    truncf (F := Ideal) .bf16 (concatenate S1024x896 1 [⟨S1024x640, A⟩, ⟨S1024x128, B⟩, ⟨S1024x128, C⟩]
      concatenates_S1024x640_S1024x128_S1024x128_S1024x896_d1 : FVec Ideal S1024x896 .f32) bitsLt_bf16_f32 (ix2 d ⟨k.val, by omega⟩) = A (ix2 d k) := by
  pointwise []
theorem packWB (A : FVec Ideal S1024x640 .f32) (B C : FVec Ideal S1024x128 .f32) (d : Fin 1024) (l : Fin 128) :
    truncf (F := Ideal) .bf16 (concatenate S1024x896 1 [⟨S1024x640, A⟩, ⟨S1024x128, B⟩, ⟨S1024x128, C⟩]
      concatenates_S1024x640_S1024x128_S1024x128_S1024x896_d1 : FVec Ideal S1024x896 .f32) bitsLt_bf16_f32 (ix2 d ⟨640 + l.val, by omega⟩) = B (ix2 d l) := by
  pointwise []
theorem packWC (A : FVec Ideal S1024x640 .f32) (B C : FVec Ideal S1024x128 .f32) (d : Fin 1024) (l : Fin 128) :
    truncf (F := Ideal) .bf16 (concatenate S1024x896 1 [⟨S1024x640, A⟩, ⟨S1024x128, B⟩, ⟨S1024x128, C⟩]
      concatenates_S1024x640_S1024x128_S1024x128_S1024x896_d1 : FVec Ideal S1024x896 .f32) bitsLt_bf16_f32 (ix2 d ⟨768 + l.val, by omega⟩) = C (ix2 d l) := by
  pointwise []
  rw [dif_neg (by omega : ¬ 768 + l.val < 640), dif_neg (by omega : ¬ 768 + l.val - 640 < 128)]
  exact congrArg C (congrArg (ix2 d) (Fin.ext (by simp only []; omega)))

theorem packQA (A : FVec Ideal S384x512 .f32) (B C : FVec Ideal S384x128 .f32) (d : Fin 384) (k : Fin 512) :
    truncf (F := Ideal) .bf16 (concatenate S384x768 1 [⟨S384x512, A⟩, ⟨S384x128, B⟩, ⟨S384x128, C⟩]
      concatenates_S384x512_S384x128_S384x128_S384x768_d1 : FVec Ideal S384x768 .f32) bitsLt_bf16_f32 (ix2 d ⟨k.val, by omega⟩) = A (ix2 d k) := by
  pointwise []
theorem packQB (A : FVec Ideal S384x512 .f32) (B C : FVec Ideal S384x128 .f32) (d : Fin 384) (l : Fin 128) :
    truncf (F := Ideal) .bf16 (concatenate S384x768 1 [⟨S384x512, A⟩, ⟨S384x128, B⟩, ⟨S384x128, C⟩]
      concatenates_S384x512_S384x128_S384x128_S384x768_d1 : FVec Ideal S384x768 .f32) bitsLt_bf16_f32 (ix2 d ⟨512 + l.val, by omega⟩) = B (ix2 d l) := by
  pointwise []
theorem packQC (A : FVec Ideal S384x512 .f32) (B C : FVec Ideal S384x128 .f32) (d : Fin 384) (l : Fin 128) :
    truncf (F := Ideal) .bf16 (concatenate S384x768 1 [⟨S384x512, A⟩, ⟨S384x128, B⟩, ⟨S384x128, C⟩]
      concatenates_S384x512_S384x128_S384x128_S384x768_d1 : FVec Ideal S384x768 .f32) bitsLt_bf16_f32 (ix2 d ⟨640 + l.val, by omega⟩) = C (ix2 d l) := by
  pointwise []
  rw [dif_neg (by omega : ¬ 640 + l.val < 512), dif_neg (by omega : ¬ 640 + l.val - 512 < 128)]
  exact congrArg C (congrArg (ix2 d) (Fin.ext (by simp only []; omega)))

variable (m : (ℓ : Loc nD τ sig) → Buf (Elt Ideal) ℓ)

/-- The seven arguments as the memory holds them. -/
abbrev args (c : Dev nD) : MixIn where
  x := m ((c : Thread nD τ).loc main_arg0)
  g := m ((c : Thread nD τ).loc main_arg1)
  w := m ((c : Thread nD τ).loc main_arg2)
  gq := m ((c : Thread nD τ).loc main_arg3)
  wq := m ((c : Thread nD τ).loc main_arg4)
  gk := m ((c : Thread nD τ).loc main_arg5)
  wk := m ((c : Thread nD τ).loc main_arg6)

/-! ### The call's operands -/

theorem x_host (c : Dev nD) (R : Fin 65536) (k : Fin 1024) :
    (show FVec Ideal S65536x1024 .f32 from V m c main_v30) (ix2 R k) = (args m c).x (ix3 ⟨R.val / 2048, by omega⟩ ⟨R.val % 2048, by omega⟩ k) := by
  show (StableHlo.after hostOps0 _ _) _ = _
  after_reads_simp
  pointwise []
theorem g_host (c : Dev nD) (d : Fin 1024) : (show FVec Ideal S1x1024 .f32 from V m c main_v3) (ix2 0 d) = (args m c).g (ix1 d) := by
  show (StableHlo.after hostOps0 _ _) _ = _
  after_reads_simp
  pointwise []
theorem wr_host (c : Dev nD) (d : Fin 1024) (k : Fin 1792) :
    (show FVec Ideal S1024x1792 .bf16 from V m c main_v5) (ix2 d k) = (args m c).w (ix2 d ⟨k.val, by omega⟩) := by
  show (StableHlo.after hostOps0 _ _) _ = _
  after_reads_simp
  pointwise []
theorem gq_host (c : Dev nD) (d : Fin 384) : (show FVec Ideal S1x384 .f32 from V m c main_v17) (ix2 0 d) = (args m c).gq (ix1 d) := by
  show (StableHlo.after hostOps0 _ _) _ = _
  after_reads_simp
  pointwise []
theorem gk_host (c : Dev nD) (d : Fin 256) : (show FVec Ideal S1x256 .f32 from V m c main_v26) (ix2 0 d) = (args m c).gk (ix1 d) := by
  show (StableHlo.after hostOps0 _ _) _ = _
  after_reads_simp
  pointwise []
theorem wk_host (c : Dev nD) (h : Fin 4) (d : Fin 128) (e : Fin 256) :
    (show FVec Ideal S4x128x256 .bf16 from V m c main_v29) (ix3 h d e) = (args m c).wk (ix2 e ⟨h.val * 256 + d.val, by omega⟩) := by
  show (StableHlo.after hostOps0 _ _) _ = _
  after_reads_simp
  pointwise []
theorem wm_a (c : Dev nD) (d : Fin 1024) (k : Fin 640) :
    (show FVec Ideal S1024x896 .bf16 from V m c main_v16) (ix2 d ⟨k.val, by omega⟩) = (args m c).w (ix2 d ⟨1792 + k.val, by omega⟩) := by
  show (StableHlo.after hostOps0 _ _) _ = _
  after_reads_simp
  refine (packWA _ _ _ d k).trans ?_
  show (StableHlo.upto hostOps0 (fun b => m (c, b)) 15 (Proc.devRef .tc main_v6)) _ = _
  after_reads_simp
  pointwise []
theorem wm_b (c : Dev nD) (d : Fin 1024) (l : Fin 128) :
    (show FVec Ideal S1024x896 .bf16 from V m c main_v16) (ix2 d ⟨640 + l.val, by omega⟩) = (args m c).w (ix2 d ⟨2432 + l.val % 32, by omega⟩) := by
  show (StableHlo.after hostOps0 _ _) _ = _
  after_reads_simp
  refine (packWB _ _ _ d l).trans ?_
  show (StableHlo.upto hostOps0 (fun b => m (c, b)) 15 (Proc.devRef .tc main_v10)) _ = _
  after_reads_simp
  pointwise []
  exact congrArg (args m c).w (congrArg (ix2 d) (Fin.ext (by simp only []; omega)))
theorem wm_c (c : Dev nD) (d : Fin 1024) (l : Fin 128) :
    (show FVec Ideal S1024x896 .bf16 from V m c main_v16) (ix2 d ⟨768 + l.val, by omega⟩) = (args m c).w (ix2 d ⟨2464 + l.val % 32, by omega⟩) := by
  show (StableHlo.after hostOps0 _ _) _ = _
  after_reads_simp
  refine (packWC _ _ _ d l).trans ?_
  show (StableHlo.upto hostOps0 (fun b => m (c, b)) 15 (Proc.devRef .tc main_v14)) _ = _
  after_reads_simp
  pointwise []
  exact congrArg (args m c).w (congrArg (ix2 d) (Fin.ext (by simp only []; omega)))
theorem wq_a (c : Dev nD) (e : Fin 384) (h : Fin 4) (d : Fin 128) :
    (show FVec Ideal S384x768 .bf16 from V m c main_v25) (ix2 e ⟨128 * h.val + d.val, by omega⟩) = (args m c).wq (ix2 e ⟨h.val * 192 + d.val, by omega⟩) := by
  show (StableHlo.after hostOps0 _ _) _ = _
  after_reads_simp
  refine (packQA _ _ _ e ⟨128 * h.val + d.val, by omega⟩).trans ?_
  show (StableHlo.upto hostOps0 (fun b => m (c, b)) 24 (Proc.devRef .tc main_v19)) _ = _
  after_reads_simp
  pointwise []
theorem wq_b (c : Dev nD) (e : Fin 384) (l : Fin 128) :
    (show FVec Ideal S384x768 .bf16 from V m c main_v25) (ix2 e ⟨512 + l.val, by omega⟩) = (args m c).wq (ix2 e ⟨l.val / 32 * 192 + (128 + l.val % 32), by omega⟩) := by
  show (StableHlo.after hostOps0 _ _) _ = _
  after_reads_simp
  refine (packQB _ _ _ e l).trans ?_
  show (StableHlo.upto hostOps0 (fun b => m (c, b)) 24 (Proc.devRef .tc main_v21)) _ = _
  after_reads_simp
  pointwise []
theorem wq_c (c : Dev nD) (e : Fin 384) (l : Fin 128) :
    (show FVec Ideal S384x768 .bf16 from V m c main_v25) (ix2 e ⟨640 + l.val, by omega⟩) = (args m c).wq (ix2 e ⟨l.val / 32 * 192 + (160 + l.val % 32), by omega⟩) := by
  show (StableHlo.after hostOps0 _ _) _ = _
  after_reads_simp
  refine (packQC _ _ _ e l).trans ?_
  show (StableHlo.upto hostOps0 (fun b => m (c, b)) 24 (Proc.devRef .tc main_v23)) _ = _
  after_reads_simp
  pointwise []
theorem cos_host (c : Dev nD) (r : Fin 2048) (l : Fin 128) :
    (show FVec Ideal S2048x128 .f32 from V m c main_v49) (ix2 r l) = Ideal.cos (turn r.val (l.val % 32)) := by
  show (StableHlo.after hostOps0 _ _) _ = _
  after_reads_simp
  pointwise [turn]
  simp only [IntOp.addi, BitVec.zero_add]
theorem sin_host (c : Dev nD) (r : Fin 2048) (l : Fin 128) :
    (show FVec Ideal S2048x128 .f32 from V m c main_v53) (ix2 r l) = Ideal.sin (turn r.val (l.val % 32)) := by
  show (StableHlo.after hostOps0 _ _) _ = _
  after_reads_simp
  pointwise [turn]
  simp only [IntOp.addi, BitVec.zero_add]

/-! ### The blocks of a grid point -/

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0, 0] ∧ win0_8.index t = ![t.val % 8, 0] ∧ win0_9.index t = ![t.val % 8, 0]
    ∧ win0_10.index t = ![t.val, 0] ∧ win0_11.index t = ![t.val, 0] ∧ win0_12.index t = ![t.val, 0]
    ∧ win0_13.index t = ![t.val, 0] ∧ win0_14.index t = ![t.val, 0] :=
  (by decide +kernel : ∀ t : Fin grid0.N, _)

theorem pt_lt (t : Fin cfg0.N) : t.val < 256 := lt_of_lt_of_eq t.isLt N_0

/-- The row of the arrays that row `r` of point `t`'s block is. -/
def row (t : Fin cfg0.N) (r : Fin 256) : Fin 65536 := ⟨256 * t.val + r.val, by have := pt_lt t; omega⟩
/-- The batch entry of that row. -/
def bat (t : Fin cfg0.N) (r : Fin 256) : Fin 32 := ⟨(row t r).val / 2048, by omega⟩
/-- The position of that row in its sequence. -/
def pos (t : Fin cfg0.N) (r : Fin 256) : Fin 2048 := ⟨(row t r).val % 2048, by omega⟩

theorem blk_x (c : Dev nD) (t : Fin cfg0.N) (r : Fin 256) (y : Fin 1024) :
    (show FVec Ideal S256x1024 .f32 from iblk m c 0 t) (ix2 r y) = (args m c).x (ix3 (bat t r) (pos t r) y) := by
  refine Eq.trans (b := (show FVec Ideal S65536x1024 .f32 from V m c main_v30) (ix2 (row t r) y)) ?_ (x_host m c _ _)
  unfold row
  blk_ext [iblk, V, idx t]
theorem blk_g (c : Dev nD) (t : Fin cfg0.N) (y : Fin 1024) :
    (show FVec Ideal S1x1024 .f32 from iblk m c 1 t) (ix2 0 y) = (args m c).g (ix1 y) := by
  refine Eq.trans (b := (show FVec Ideal S1x1024 .f32 from V m c main_v3) (ix2 0 y)) ?_ (g_host m c _)
  blk_ext [iblk, V, idx t]
theorem blk_wr (c : Dev nD) (t : Fin cfg0.N) (d : Fin 1024) (k : Fin 1792) :
    (show FVec Ideal S1024x1792 .bf16 from iblk m c 2 t) (ix2 d k) = (args m c).w (ix2 d ⟨k.val, by omega⟩) := by
  refine Eq.trans (b := (show FVec Ideal S1024x1792 .bf16 from V m c main_v5) (ix2 d k)) ?_ (wr_host m c _ _)
  blk_ext [iblk, V, idx t]
theorem blk_wm (c : Dev nD) (t : Fin cfg0.N) (d : Fin 1024) (k : Fin 896) :
    (show FVec Ideal S1024x896 .bf16 from iblk m c 3 t) (ix2 d k) = (show FVec Ideal S1024x896 .bf16 from V m c main_v16) (ix2 d k) := by
  blk_ext [iblk, V, idx t]
theorem blk_gq (c : Dev nD) (t : Fin cfg0.N) (y : Fin 384) :
    (show FVec Ideal S1x384 .f32 from iblk m c 4 t) (ix2 0 y) = (args m c).gq (ix1 y) := by
  refine Eq.trans (b := (show FVec Ideal S1x384 .f32 from V m c main_v17) (ix2 0 y)) ?_ (gq_host m c _)
  blk_ext [iblk, V, idx t]
theorem blk_wq (c : Dev nD) (t : Fin cfg0.N) (d : Fin 384) (k : Fin 768) :
    (show FVec Ideal S384x768 .bf16 from iblk m c 5 t) (ix2 d k) = (show FVec Ideal S384x768 .bf16 from V m c main_v25) (ix2 d k) := by
  blk_ext [iblk, V, idx t]
theorem blk_gk (c : Dev nD) (t : Fin cfg0.N) (y : Fin 256) :
    (show FVec Ideal S1x256 .f32 from iblk m c 6 t) (ix2 0 y) = (args m c).gk (ix1 y) := by
  refine Eq.trans (b := (show FVec Ideal S1x256 .f32 from V m c main_v26) (ix2 0 y)) ?_ (gk_host m c _)
  blk_ext [iblk, V, idx t]
theorem blk_wk (c : Dev nD) (t : Fin cfg0.N) (h : Fin 4) (d : Fin 128) (e : Fin 256) :
    (show FVec Ideal S4x128x256 .bf16 from iblk m c 7 t) (ix3 h d e) = (args m c).wk (ix2 e ⟨h.val * 256 + d.val, by omega⟩) := by
  refine Eq.trans (b := (show FVec Ideal S4x128x256 .bf16 from V m c main_v29) (ix3 h d e)) ?_ (wk_host m c _ _ _)
  blk_ext [iblk, V, idx t]
theorem pos_eq (t : Fin cfg0.N) (r : Fin 256) : t.val % 8 * 256 + r.val = (pos t r).val := by
  simp only [pos, row]; omega
theorem blk_cos (c : Dev nD) (t : Fin cfg0.N) (r : Fin 256) (l : Fin 128) :
    (show FVec Ideal S256x128 .f32 from iblk m c 8 t) (ix2 r l) = Ideal.cos (turn (pos t r).val (l.val % 32)) := by
  refine Eq.trans (b := (show FVec Ideal S2048x128 .f32 from V m c main_v49) (ix2 (pos t r) l)) ?_ (cos_host m c _ _)
  have := pos_eq t r
  blk_ext [iblk, V, idx t]
theorem blk_sin (c : Dev nD) (t : Fin cfg0.N) (r : Fin 256) (l : Fin 128) :
    (show FVec Ideal S256x128 .f32 from iblk m c 9 t) (ix2 r l) = Ideal.sin (turn (pos t r).val (l.val % 32)) := by
  refine Eq.trans (b := (show FVec Ideal S2048x128 .f32 from V m c main_v53) (ix2 (pos t r) l)) ?_ (sin_host m c _ _)
  have := pos_eq t r
  blk_ext [iblk, V, idx t]

end Cert.Kernel2Ideal.Val
-- ==== Proof.MixTile.lean ====
module
public import proofs.«01_k».proof.Proof.MixHost
/-! One grid point of the mixing input: every stored block is the reference's, entry by entry. -/
@[expose] public section
set_option maxRecDepth 16384
noncomputable section
namespace Cert.Kernel2Ideal.Val
open Cert.Kernel2Ideal Cert.Kernel2Ideal.Gen Cert.Layer Idealize.ShloMosaic Idealize.ShloMosaic.TcCoe Idealize.SL.Sem
open Idealize.ShloMosaic.Pipeline (Dat)

section pay
variable (X : FVec Ideal S256x1024 .f32) (G : FVec Ideal S1x1024 .f32) (Wr : FVec Ideal S1024x1792 .bf16) (Wm : FVec Ideal S1024x896 .bf16)
  (Gq : FVec Ideal S1x384 .f32) (Wq : FVec Ideal S384x768 .bf16) (Gk : FVec Ideal S1x256 .f32) (Wk : FVec Ideal S4x128x256 .bf16)
  (C S : FVec Ideal S256x128 .f32)

theorem pay2_at (r : Fin 256) (d : Fin 1024) :
    k0_pay2 (F := Ideal) X G (ix2 r d) = rmsEntry 0x44800000#32 (fun d => X (ix2 r d)) (fun d => G (ix2 0 d)) d := by
  pointwise [k0_pay2, rmsEntry]
theorem pay3_at (r : Fin 256) (k : Fin 1792) :
    k0_pay3 (F := Ideal) X G Wr (ix2 r k) = ∑ d : Fin 1024, rmsEntry 0x44800000#32 (fun d => X (ix2 r d)) (fun d => G (ix2 0 d)) d * Wr (ix2 d k) := by
  pointwise [k0_pay3, pay2_at]

/-- Column `k` of the packed projection of row `r`. -/
def lane (r : Fin 256) (k : Fin 896) : EReal :=
  ∑ d : Fin 1024, rmsEntry 0x44800000#32 (fun d => X (ix2 r d)) (fun d => G (ix2 0 d)) d * Wm (ix2 d k)

theorem pay4_at (r : Fin 256) (k : Fin 896) : k0_pay4 (F := Ideal) X G Wm (ix2 r k) = lane X G Wm r k := by
  pointwise [k0_pay4, pay2_at, lane]
theorem pay13_at (r : Fin 256) (e : Fin 256) :
    k0_pay13 (F := Ideal) (k0_pay6 X G Wm) (k0_pay11 Gk) (k0_pay12 X G Wm) (ix2 r e)
      = rmsEntry 0x43800000#32 (fun e : Fin 256 => lane X G Wm r ⟨384 + e.val, by omega⟩) (fun e => Gk (ix2 0 e)) e := by
  pointwise [k0_pay13, k0_pay12, k0_pay11, k0_pay6, pay4_at, rmsEntry]
theorem pay14_at (r : Fin 256) (l : Fin 128) :
    k0_pay14 (F := Ideal) (k0_pay7 X G Wm) (k0_pay8 X G Wm) (k0_pay9 C) (k0_pay10 S) (ix2 r l)
      = lane X G Wm r ⟨640 + l.val, by omega⟩ * C (ix2 r l) - lane X G Wm r ⟨768 + l.val, by omega⟩ * S (ix2 r l) := by
  pointwise [k0_pay14, k0_pay7, k0_pay8, k0_pay9, k0_pay10, pay4_at]
theorem pay15_at (r : Fin 256) (l : Fin 128) :
    k0_pay15 (F := Ideal) (k0_pay7 X G Wm) (k0_pay8 X G Wm) (k0_pay9 C) (k0_pay10 S) (ix2 r l)
      = lane X G Wm r ⟨640 + l.val, by omega⟩ * S (ix2 r l) + lane X G Wm r ⟨768 + l.val, by omega⟩ * C (ix2 r l) := by
  pointwise [k0_pay15, k0_pay7, k0_pay8, k0_pay9, k0_pay10, pay4_at]
theorem pay18_at (r : Fin 256) (e : Fin 384) :
    k0_pay18 (F := Ideal) (k0_pay5 X G Wm) Gq (ix2 r e)
      = rmsEntry 0x43C00000#32 (fun e : Fin 384 => lane X G Wm r ⟨e.val, by omega⟩) (fun e => Gq (ix2 0 e)) e := by
  pointwise [k0_pay18, k0_pay5, pay4_at, rmsEntry]

/-- Column `k` of the queries of row `r`, before the scale. -/
def qlane (r : Fin 256) (k : Fin 768) : EReal :=
  ∑ e : Fin 384, rmsEntry 0x43C00000#32 (fun e : Fin 384 => lane X G Wm r ⟨e.val, by omega⟩) (fun e => Gq (ix2 0 e)) e * Wq (ix2 e k)

end pay

/-- The factor 192 ^ (-1/2). -/
abbrev sc : EReal := Ideal.ofBits .f32 0x3D93CD3A#32

section head
variable (A : FVec Ideal S256x384 .bf16) (B : FVec Ideal S384x768 .bf16) (W : FVec Ideal S1x128x256 .bf16) (C S : FVec Ideal S256x128 .f32)

/-- The zero the product accumulates onto. -/
abbrev zero : FVec Ideal S256x768 .f32 := constant S256x768 .f32 0x00000000#32

theorem pay20_at (r : Fin 256) (k : Fin 768) :
    k0_pay20 (F := Ideal) A B zero (ix2 r k) = (∑ e : Fin 384, A (ix2 r e) * B (ix2 e k)) * sc := by
  pointwise [k0_pay20]
theorem pay23_at (r : Fin 256) (l : Fin 128) :
    k0_pay23 (F := Ideal) C S A B zero (ix2 r l)
      = (∑ e : Fin 384, A (ix2 r e) * B (ix2 e ⟨512 + l.val, by omega⟩)) * sc * C (ix2 r l)
        - (∑ e : Fin 384, A (ix2 r e) * B (ix2 e ⟨640 + l.val, by omega⟩)) * sc * S (ix2 r l) := by
  pointwise [k0_pay23, k0_pay22, k0_pay21, pay20_at]
theorem pay24_at (r : Fin 256) (l : Fin 128) :
    k0_pay24 (F := Ideal) C S A B zero (ix2 r l)
      = (∑ e : Fin 384, A (ix2 r e) * B (ix2 e ⟨512 + l.val, by omega⟩)) * sc * S (ix2 r l)
        + (∑ e : Fin 384, A (ix2 r e) * B (ix2 e ⟨640 + l.val, by omega⟩)) * sc * C (ix2 r l) := by
  pointwise [k0_pay24, k0_pay22, k0_pay21, pay20_at]

end head

variable (m : (ℓ : Loc nD τ sig) → Buf (Elt Ideal) ℓ)

/-! ### The packed projection and the queries at a grid point -/

abbrev bX (c : Dev nD) (t : Fin cfg0.N) : FVec Ideal S256x1024 .f32 := iblk m c 0 t
abbrev bG (c : Dev nD) (t : Fin cfg0.N) : FVec Ideal S1x1024 .f32 := iblk m c 1 t
abbrev bWm (c : Dev nD) (t : Fin cfg0.N) : FVec Ideal S1024x896 .bf16 := iblk m c 3 t
abbrev bGq (c : Dev nD) (t : Fin cfg0.N) : FVec Ideal S1x384 .f32 := iblk m c 4 t
abbrev bWq (c : Dev nD) (t : Fin cfg0.N) : FVec Ideal S384x768 .bf16 := iblk m c 5 t

theorem lane_a (c : Dev nD) (t : Fin cfg0.N) (r : Fin 256) (k : Fin 640) :
    lane (bX m c t) (bG m c t) (bWm m c t) r ⟨k.val, by omega⟩ = proj (args m c) (bat t r) (pos t r) ⟨1792 + k.val, by omega⟩ := by
  unfold lane proj
  simp only [fun d => blk_x m c t r d, fun d => blk_g m c t d, fun d => (blk_wm m c t d ⟨k.val, by omega⟩).trans (wm_a m c d k)]
theorem lane_b (c : Dev nD) (t : Fin cfg0.N) (r : Fin 256) (l : Fin 128) :
    lane (bX m c t) (bG m c t) (bWm m c t) r ⟨640 + l.val, by omega⟩ = proj (args m c) (bat t r) (pos t r) ⟨2432 + l.val % 32, by omega⟩ := by
  unfold lane proj
  simp only [fun d => blk_x m c t r d, fun d => blk_g m c t d, fun d => (blk_wm m c t d ⟨640 + l.val, by omega⟩).trans (wm_b m c d l)]
theorem lane_c (c : Dev nD) (t : Fin cfg0.N) (r : Fin 256) (l : Fin 128) :
    lane (bX m c t) (bG m c t) (bWm m c t) r ⟨768 + l.val, by omega⟩ = proj (args m c) (bat t r) (pos t r) ⟨2464 + l.val % 32, by omega⟩ := by
  unfold lane proj
  simp only [fun d => blk_x m c t r d, fun d => blk_g m c t d, fun d => (blk_wm m c t d ⟨768 + l.val, by omega⟩).trans (wm_c m c d l)]

theorem lane_q (c : Dev nD) (t : Fin cfg0.N) (r : Fin 256) (e : Fin 384) :
    lane (bX m c t) (bG m c t) (bWm m c t) r ⟨e.val, by omega⟩ = proj (args m c) (bat t r) (pos t r) ⟨1792 + e.val, by omega⟩ :=
  lane_a m c t r ⟨e.val, by omega⟩
theorem lane_k (c : Dev nD) (t : Fin cfg0.N) (r : Fin 256) (e : Fin 256) :
    lane (bX m c t) (bG m c t) (bWm m c t) r ⟨384 + e.val, by omega⟩ = proj (args m c) (bat t r) (pos t r) ⟨2176 + e.val, by omega⟩ :=
  (lane_a m c t r ⟨384 + e.val, by omega⟩).trans (congrArg (proj _ _ _) (Fin.ext (by simp only []; omega)))

theorem query_at (c : Dev nD) (t : Fin cfg0.N) (r : Fin 256) (k k' : Fin 768)
    (hk : ∀ e : Fin 384, (show FVec Ideal S384x768 .bf16 from V m c main_v25) (ix2 e k) = (args m c).wq (ix2 e k')) :
    ∑ e : Fin 384, k0_pay18 (F := Ideal) (k0_pay5 (bX m c t) (bG m c t) (bWm m c t)) (bGq m c t) (ix2 r e) * bWq m c t (ix2 e k)
      = query (args m c) (bat t r) (pos t r) k' := by
  unfold query
  simp only [pay18_at, fun e => lane_q m c t r e, fun e => blk_gq m c t e, fun e => (blk_wq m c t e k).trans (hk e)]

/-! ### The stored blocks -/

theorem tile10 (c : Dev nD) (t : Fin cfg0.N) (r : Fin 256) (k : Fin 1792) :
    k0_pay3 (F := Ideal) (iblk m c 0 t) (iblk m c 1 t) (iblk m c 2 t) (ix2 r k)
      = proj (args m c) (bat t r) (pos t r) ⟨k.val, by omega⟩ := by
  refine (pay3_at _ _ _ r k).trans ?_
  unfold proj
  simp only [fun d => blk_x m c t r d, fun d => blk_g m c t d, fun d => blk_wr m c t d k]

theorem latent_at (c : Dev nD) (t : Fin cfg0.N) (r e : Fin 256) :
    k0_pay13 (F := Ideal) (k0_pay6 (iblk m c 0 t) (iblk m c 1 t) (iblk m c 3 t)) (k0_pay11 (iblk m c 6 t))
      (k0_pay12 (iblk m c 0 t) (iblk m c 1 t) (iblk m c 3 t)) (ix2 r e) = latent (args m c) (bat t r) (pos t r) e := by
  refine (pay13_at _ _ _ _ r e).trans ?_
  unfold latent
  simp only [fun e => lane_k m c t r e, fun e => blk_gk m c t e]

theorem keyA_at (c : Dev nD) (t : Fin cfg0.N) (r : Fin 256) (l : Fin 128) :
    k0_pay14 (F := Ideal) (k0_pay7 (iblk m c 0 t) (iblk m c 1 t) (iblk m c 3 t)) (k0_pay8 (iblk m c 0 t) (iblk m c 1 t) (iblk m c 3 t))
      (k0_pay9 (iblk m c 8 t)) (k0_pay10 (iblk m c 9 t)) (ix2 r l) = keyA (args m c) (bat t r) (pos t r) ⟨l.val % 32, by omega⟩ := by
  refine (pay14_at _ _ _ _ _ r l).trans ?_
  refine (congrArg₂ (· - ·) (congrArg₂ (· * ·) (lane_b m c t r l) (blk_cos m c t r l)) (congrArg₂ (· * ·) (lane_c m c t r l) (blk_sin m c t r l))).trans ?_
  rfl
theorem keyB_at (c : Dev nD) (t : Fin cfg0.N) (r : Fin 256) (l : Fin 128) :
    k0_pay15 (F := Ideal) (k0_pay7 (iblk m c 0 t) (iblk m c 1 t) (iblk m c 3 t)) (k0_pay8 (iblk m c 0 t) (iblk m c 1 t) (iblk m c 3 t))
      (k0_pay9 (iblk m c 8 t)) (k0_pay10 (iblk m c 9 t)) (ix2 r l) = keyB (args m c) (bat t r) (pos t r) ⟨l.val % 32, by omega⟩ := by
  refine (pay15_at _ _ _ _ _ r l).trans ?_
  refine (congrArg₂ (· + ·) (congrArg₂ (· * ·) (lane_b m c t r l) (blk_sin m c t r l)) (congrArg₂ (· * ·) (lane_c m c t r l) (blk_cos m c t r l))).trans ?_
  rfl

section join
variable (P : FVec Ideal S256x256 .f32) (a b C S : FVec Ideal S256x128 .f32) (g : FVec Ideal S1x256 .f32) (q : FVec Ideal S256 .f32)
theorem pay16_a (r : Fin 256) (l : Fin 32) :
    k0_pay16 (F := Ideal) a b C S (ix2 r ⟨l.val, by omega⟩) = k0_pay14 (F := Ideal) a b C S (ix2 r ⟨l.val, by omega⟩) := by
  pointwise [k0_pay16]
theorem pay16_b (r : Fin 256) (l : Fin 32) :
    k0_pay16 (F := Ideal) a b C S (ix2 r ⟨32 + l.val, by omega⟩) = k0_pay15 (F := Ideal) a b C S (ix2 r ⟨l.val, by omega⟩) := by
  pointwise [k0_pay16]
theorem pay17_a (r : Fin 256) (e : Fin 256) :
    k0_pay17 (F := Ideal) P a b C S g q (ix2 r ⟨e.val, by omega⟩) = k0_pay13 (F := Ideal) P g q (ix2 r e) := by
  pointwise [k0_pay17]
theorem pay17_b (r : Fin 256) (l : Fin 128) :
    k0_pay17 (F := Ideal) P a b C S g q (ix2 r ⟨256 + l.val, by omega⟩) = k0_pay14 (F := Ideal) a b C S (ix2 r l) := by
  pointwise [k0_pay17]
theorem pay17_c (r : Fin 256) (l : Fin 128) :
    k0_pay17 (F := Ideal) P a b C S g q (ix2 r ⟨384 + l.val, by omega⟩) = k0_pay15 (F := Ideal) a b C S (ix2 r l) := by
  pointwise [k0_pay17]
  rw [dif_neg (by omega : ¬ 384 + l.val < 256), dif_neg (by omega : ¬ 384 + l.val - 256 < 128)]
  exact congrArg (k0_pay15 (F := Ideal) a b C S) (congrArg (ix2 r) (Fin.ext (by simp only []; omega)))
end join

open Cert.Reference2Ideal.Read in
theorem tile14 (c : Dev nD) (t : Fin cfg0.N) (r : Fin 256) (k : Fin 64) :
    k0_pay16 (F := Ideal) (k0_pay7 (iblk m c 0 t) (iblk m c 1 t) (iblk m c 3 t)) (k0_pay8 (iblk m c 0 t) (iblk m c 1 t) (iblk m c 3 t))
      (k0_pay9 (iblk m c 8 t)) (k0_pay10 (iblk m c 9 t)) (ix2 r k)
      = val_main_v153 (F := Ideal) (args m c).x (args m c).g (args m c).w (ix2 (row t r) k) := by
  by_cases h1 : k.val < 32
  · refine (pay16_a _ _ _ _ r ⟨k.val, h1⟩).trans ((keyA_at m c t r ⟨k.val, by omega⟩).trans ?_)
    refine Eq.trans ?_ (Cert.Reference2Ideal.Val.v153_a (args m c) (row t r) ⟨k.val, h1⟩).symm
    exact congrArg (keyA _ _ _) (Fin.ext (by simp only []; omega))
  · have e : k = ⟨32 + (k.val - 32), by omega⟩ := Fin.ext (by simp only []; omega)
    rw [e]
    refine (pay16_b _ _ _ _ r ⟨k.val - 32, by omega⟩).trans ((keyB_at m c t r ⟨k.val - 32, by omega⟩).trans ?_)
    refine Eq.trans ?_ (Cert.Reference2Ideal.Val.v153_b (args m c) (row t r) ⟨k.val - 32, by omega⟩).symm
    exact congrArg (keyB _ _ _) (Fin.ext (by simp only []; omega))

open Cert.Reference2Ideal.Read in
theorem tile12 (c : Dev nD) (t : Fin cfg0.N) (r : Fin 256) (k : Fin 512) :
    k0_pay17 (F := Ideal) (k0_pay6 (iblk m c 0 t) (iblk m c 1 t) (iblk m c 3 t)) (k0_pay7 (iblk m c 0 t) (iblk m c 1 t) (iblk m c 3 t))
      (k0_pay8 (iblk m c 0 t) (iblk m c 1 t) (iblk m c 3 t)) (k0_pay9 (iblk m c 8 t)) (k0_pay10 (iblk m c 9 t))
      (k0_pay11 (iblk m c 6 t)) (k0_pay12 (iblk m c 0 t) (iblk m c 1 t) (iblk m c 3 t)) (ix2 r k)
      = val_main_v151 (F := Ideal) (args m c).x (args m c).g (args m c).w (args m c).gk (ix2 (row t r) k) := by
  by_cases h1 : k.val < 256
  · refine (pay17_a _ _ _ _ _ _ _ r ⟨k.val, h1⟩).trans ((latent_at m c t r ⟨k.val, h1⟩).trans ?_)
    exact (Cert.Reference2Ideal.Val.v151_a (args m c) (row t r) ⟨k.val, h1⟩).symm
  by_cases h2 : k.val < 384
  · have e : k = ⟨256 + (k.val - 256), by omega⟩ := Fin.ext (by simp only []; omega)
    rw [e]
    refine (pay17_b _ _ _ _ _ _ _ r ⟨k.val - 256, by omega⟩).trans ((keyA_at m c t r ⟨k.val - 256, by omega⟩).trans ?_)
    exact (Cert.Reference2Ideal.Val.v151_b (args m c) (row t r) ⟨k.val - 256, by omega⟩).symm
  · have e : k = ⟨384 + (k.val - 384), by omega⟩ := Fin.ext (by simp only []; omega)
    rw [e]
    refine (pay17_c _ _ _ _ _ _ _ r ⟨k.val - 384, by omega⟩).trans ((keyB_at m c t r ⟨k.val - 384, by omega⟩).trans ?_)
    exact (Cert.Reference2Ideal.Val.v151_c (args m c) (row t r) ⟨k.val - 384, by omega⟩).symm

open Cert.Reference2Ideal.Read in
theorem final10 (c : Dev nD) : (dats m 0 c).arrAt 10 cfg0.N = val_main_v147 (F := Ideal) (args m c).x (args m c).g (args m c).w := by
  refine (dats m 0 c).arrAt_eq_of_covers 10 _ (by decide +kernel) fun t _ y => ?_
  blk_simp
  rw [after0_10]; frame_out
  have hy : y = ix2 (n0 := 256) (n1 := 1792) (y 0) (y 1) := by blk_ext []
  refine ((congrArg (k0_pay3 (F := Ideal) (iblk m c 0 t) (iblk m c 1 t) (iblk m c 2 t)) hy).trans (tile10 m c t (y 0) (y 1))).trans ?_
  refine (Cert.Reference2Ideal.Val.v147_at (args m c) (row t (y 0)) (y 1)).symm.trans ?_
  unfold row
  blk_ext [idx t]

open Cert.Reference2Ideal.Read in
theorem final13 (c : Dev nD) : (dats m 0 c).arrAt 13 cfg0.N = val_main_v152 (F := Ideal) (args m c).x (args m c).g (args m c).w (args m c).gk := by
  refine (dats m 0 c).arrAt_eq_of_covers 13 _ (by decide +kernel) fun t _ y => ?_
  blk_simp
  rw [after0_13]; unfold_out out0_13; frame_out
  have hy : y = ix2 (n0 := 256) (n1 := 256) (y 0) (y 1) := by blk_ext []
  refine ((congrArg (k0_pay13 (F := Ideal) (k0_pay6 (iblk m c 0 t) (iblk m c 1 t) (iblk m c 3 t)) (k0_pay11 (iblk m c 6 t))
      (k0_pay12 (iblk m c 0 t) (iblk m c 1 t) (iblk m c 3 t))) hy).trans (latent_at m c t (y 0) (y 1))).trans ?_
  refine (Cert.Reference2Ideal.Val.v152_at (args m c) (row t (y 0)) (y 1)).symm.trans ?_
  unfold row
  blk_ext [idx t]
open Cert.Reference2Ideal.Read in
theorem final14 (c : Dev nD) : (dats m 0 c).arrAt 14 cfg0.N = val_main_v153 (F := Ideal) (args m c).x (args m c).g (args m c).w := by
  refine (dats m 0 c).arrAt_eq_of_covers 14 _ (by decide +kernel) fun t _ y => ?_
  blk_simp
  rw [after0_14]; unfold_out out0_14; frame_out
  have hy : y = ix2 (n0 := 256) (n1 := 64) (y 0) (y 1) := by blk_ext []
  refine ((congrArg (k0_pay16 (F := Ideal) (k0_pay7 (iblk m c 0 t) (iblk m c 1 t) (iblk m c 3 t)) (k0_pay8 (iblk m c 0 t) (iblk m c 1 t) (iblk m c 3 t))
      (k0_pay9 (iblk m c 8 t)) (k0_pay10 (iblk m c 9 t))) hy).trans (tile14 m c t (y 0) (y 1))).trans ?_
  unfold row
  blk_ext [idx t]
open Cert.Reference2Ideal.Read in
theorem final12 (c : Dev nD) : (dats m 0 c).arrAt 12 cfg0.N = val_main_v151 (F := Ideal) (args m c).x (args m c).g (args m c).w (args m c).gk := by
  refine (dats m 0 c).arrAt_eq_of_covers 12 _ (by decide +kernel) fun t _ y => ?_
  blk_simp
  rw [after0_12]; unfold_out out0_12; frame_out
  have hy : y = ix2 (n0 := 256) (n1 := 512) (y 0) (y 1) := by blk_ext []
  refine ((congrArg (k0_pay17 (F := Ideal) (k0_pay6 (iblk m c 0 t) (iblk m c 1 t) (iblk m c 3 t)) (k0_pay7 (iblk m c 0 t) (iblk m c 1 t) (iblk m c 3 t))
      (k0_pay8 (iblk m c 0 t) (iblk m c 1 t) (iblk m c 3 t)) (k0_pay9 (iblk m c 8 t)) (k0_pay10 (iblk m c 9 t))
      (k0_pay11 (iblk m c 6 t)) (k0_pay12 (iblk m c 0 t) (iblk m c 1 t) (iblk m c 3 t))) hy).trans (tile12 m c t (y 0) (y 1))).trans ?_
  unfold row
  blk_ext [idx t]

end Cert.Kernel2Ideal.Val
-- ==== Proof.MixHead.lean ====
module
public import proofs.«01_k».proof.Defs
public import Idealize.ShloMosaic.Lib.Claim
public import Idealize.ShloMosaic.Lib.StableHlo.RunRead
public import proofs.«01_k».proof.Proof.MixTile
public import proofs.«01_k».proof.Proof.Score
/-! The packed queries of one grid point: each head's four pieces are the reference's. -/
@[expose] public section
set_option maxRecDepth 16384
noncomputable section
namespace Cert.Kernel2Ideal.Val
open Cert.Kernel2Ideal Cert.Kernel2Ideal.Gen Cert.Layer Idealize.ShloMosaic Idealize.ShloMosaic.TcCoe Idealize.SL.Sem
open Idealize.ShloMosaic.Pipeline (Dat)

/-! ### The lanes of a head -/

theorem mask0 (l : Fin 128) : IntOp.andi (IntOp.cmpi CmpIPredicate.sge (BitVec.ofNat 32 l.val) 0#32)
    (IntOp.cmpi CmpIPredicate.slt (BitVec.ofNat 32 l.val) 32#32) = BitVec.ofBool (decide (l.val / 32 = 0)) := by
  revert l; decide +kernel
theorem mask1 (l : Fin 128) : IntOp.andi (IntOp.cmpi CmpIPredicate.sge (BitVec.ofNat 32 l.val) 32#32)
    (IntOp.cmpi CmpIPredicate.slt (BitVec.ofNat 32 l.val) 64#32) = BitVec.ofBool (decide (l.val / 32 = 1)) := by
  revert l; decide +kernel
theorem mask2 (l : Fin 128) : IntOp.andi (IntOp.cmpi CmpIPredicate.sge (BitVec.ofNat 32 l.val) 64#32)
    (IntOp.cmpi CmpIPredicate.slt (BitVec.ofNat 32 l.val) 96#32) = BitVec.ofBool (decide (l.val / 32 = 2)) := by
  revert l; decide +kernel
theorem mask3 (l : Fin 128) : IntOp.andi (IntOp.cmpi CmpIPredicate.sge (BitVec.ofNat 32 l.val) 96#32)
    (IntOp.cmpi CmpIPredicate.slt (BitVec.ofNat 32 l.val) 128#32) = BitVec.ofBool (decide (l.val / 32 = 3)) := by
  revert l; decide +kernel

section head
variable (A : FVec Ideal S256x384 .bf16) (B : FVec Ideal S384x768 .bf16) (W : FVec Ideal S1x128x256 .bf16) (C S U T : FVec Ideal S256x128 .f32)
  (Z : FVec Ideal S256x768 .f32)

/-- The lane numbers. -/
abbrev lanes : IVec S256x128 32 := iota .tc S256x128 32 [1] iota_S256x128_d1_w32

theorem head0_a (r : Fin 256) (e : Fin 256) : k0_pay25 (F := Ideal) C S A B zero W (ix2 r ⟨e.val, by omega⟩)
    = ∑ d : Fin 128, k0_pay20 (F := Ideal) A B zero (ix2 r ⟨d.val, by omega⟩) * W (ix3 0 d e) := by
  pointwise [k0_pay25]
theorem head0_b (r : Fin 256) (l : Fin 128) : k0_pay25 (F := Ideal) C S A B zero W (ix2 r ⟨256 + l.val, by omega⟩)
    = if l.val / 32 = 0 then k0_pay23 (F := Ideal) C S A B zero (ix2 r l) else 0 := by
  pointwise [k0_pay25]
  rw [mask0, Scalar.select_ofBool]
  by_cases hh : l.val / 32 = 0 <;> simp only [hh] <;> rfl
theorem head0_c (r : Fin 256) (l : Fin 128) : k0_pay25 (F := Ideal) C S A B zero W (ix2 r ⟨384 + l.val, by omega⟩)
    = if l.val / 32 = 0 then k0_pay24 (F := Ideal) C S A B zero (ix2 r l) else 0 := by
  pointwise [k0_pay25]
  have hs : 384 + l.val - 256 - 128 = l.val := by omega
  rw [dif_neg (by omega : ¬ 384 + l.val < 256), dif_neg (by omega : ¬ 384 + l.val - 256 < 128)]
  simp only [hs]
  rw [mask0, Scalar.select_ofBool]
  by_cases hh : l.val / 32 = 0 <;> simp only [hh] <;> rfl

theorem head1_a (r : Fin 256) (e : Fin 256) :
    k0_pay29 (F := Ideal) (k0_pay24 C S A B zero) (k0_pay26 A B zero W) k0_pay27 (k0_pay28 C S A B zero) (ix2 r ⟨e.val, by omega⟩)
    = ∑ d : Fin 128, k0_pay20 (F := Ideal) A B zero (ix2 r ⟨128 + d.val, by omega⟩) * W (ix3 0 d e) := by
  pointwise [k0_pay29, k0_pay26]
theorem head1_b (r : Fin 256) (l : Fin 128) :
    k0_pay29 (F := Ideal) (k0_pay24 C S A B zero) (k0_pay26 A B zero W) k0_pay27 (k0_pay28 C S A B zero) (ix2 r ⟨256 + l.val, by omega⟩)
    = if l.val / 32 = 1 then k0_pay23 (F := Ideal) C S A B zero (ix2 r l) else 0 := by
  pointwise [k0_pay29, k0_pay28, k0_pay27]
  rw [mask1, Scalar.select_ofBool]
  by_cases hh : l.val / 32 = 1 <;> simp only [hh] <;> rfl
theorem head1_c (r : Fin 256) (l : Fin 128) :
    k0_pay29 (F := Ideal) (k0_pay24 C S A B zero) (k0_pay26 A B zero W) k0_pay27 (k0_pay28 C S A B zero) (ix2 r ⟨384 + l.val, by omega⟩)
    = if l.val / 32 = 1 then k0_pay24 (F := Ideal) C S A B zero (ix2 r l) else 0 := by
  pointwise [k0_pay29, k0_pay27]
  have hs : 384 + l.val - 256 - 128 = l.val := by omega
  rw [dif_neg (by omega : ¬ 384 + l.val < 256), dif_neg (by omega : ¬ 384 + l.val - 256 < 128)]
  simp only [hs]
  rw [mask1, Scalar.select_ofBool]
  by_cases hh : l.val / 32 = 1 <;> simp only [hh] <;> rfl

theorem head2_a (r : Fin 256) (e : Fin 256) : k0_pay30 (F := Ideal) Z U T lanes W (ix2 r ⟨e.val, by omega⟩)
    = ∑ d : Fin 128, Z (ix2 r ⟨256 + d.val, by omega⟩) * W (ix3 0 d e) := by
  pointwise [k0_pay30]
theorem head2_b (r : Fin 256) (l : Fin 128) : k0_pay30 (F := Ideal) Z U T lanes W (ix2 r ⟨256 + l.val, by omega⟩)
    = if l.val / 32 = 2 then U (ix2 r l) else 0 := by
  pointwise [k0_pay30]
  rw [mask2, Scalar.select_ofBool]
  by_cases hh : l.val / 32 = 2 <;> simp only [hh] <;> rfl
theorem head2_c (r : Fin 256) (l : Fin 128) : k0_pay30 (F := Ideal) Z U T lanes W (ix2 r ⟨384 + l.val, by omega⟩)
    = if l.val / 32 = 2 then T (ix2 r l) else 0 := by
  pointwise [k0_pay30]
  have hs : 384 + l.val - 256 - 128 = l.val := by omega
  rw [dif_neg (by omega : ¬ 384 + l.val < 256), dif_neg (by omega : ¬ 384 + l.val - 256 < 128)]
  simp only [hs]
  rw [mask2, Scalar.select_ofBool]
  by_cases hh : l.val / 32 = 2 <;> simp only [hh] <;> rfl

theorem head3_a (r : Fin 256) (e : Fin 256) : k0_pay1 (F := Ideal) (k0_pay31 Z U T lanes W) (ix2 r ⟨e.val, by omega⟩)
    = ∑ d : Fin 128, Z (ix2 r ⟨384 + d.val, by omega⟩) * W (ix3 0 d e) := by
  pointwise [k0_pay1, k0_pay31]
theorem head3_b (r : Fin 256) (l : Fin 128) : k0_pay1 (F := Ideal) (k0_pay31 Z U T lanes W) (ix2 r ⟨256 + l.val, by omega⟩)
    = if l.val / 32 = 3 then U (ix2 r l) else 0 := by
  pointwise [k0_pay1, k0_pay31]
  rw [mask3, Scalar.select_ofBool]
  by_cases hh : l.val / 32 = 3 <;> simp only [hh] <;> rfl
theorem head3_c (r : Fin 256) (l : Fin 128) : k0_pay1 (F := Ideal) (k0_pay31 Z U T lanes W) (ix2 r ⟨384 + l.val, by omega⟩)
    = if l.val / 32 = 3 then T (ix2 r l) else 0 := by
  pointwise [k0_pay1, k0_pay31]
  have hs : 384 + l.val - 256 - 128 = l.val := by omega
  rw [dif_neg (by omega : ¬ 384 + l.val < 256), dif_neg (by omega : ¬ 384 + l.val - 256 < 128)]
  simp only [hs]
  rw [mask3, Scalar.select_ofBool]
  by_cases hh : l.val / 32 = 3 <;> simp only [hh] <;> rfl

end head

/-! ### The scale leaves the sums -/

theorem turnA_scale (a b : EReal) (r l : ℕ) : a * sc * Ideal.cos (turn r l) - b * sc * Ideal.sin (turn r l) = turnA a b r l * sc := by
  unfold turnA
  rw [sub_eq_add_neg, sub_eq_add_neg, EReal.right_distrib_of_nonneg_of_ne_top Cert.Attn.scale_nonneg Cert.Attn.scale_ne_top, EReal.neg_mul,
    mul_right_comm a, mul_right_comm b]
theorem turnB_scale (a b : EReal) (r l : ℕ) : a * sc * Ideal.sin (turn r l) + b * sc * Ideal.cos (turn r l) = turnB a b r l * sc := by
  unfold turnB
  rw [EReal.right_distrib_of_nonneg_of_ne_top Cert.Attn.scale_nonneg Cert.Attn.scale_ne_top, mul_right_comm a, mul_right_comm b]

variable (m : (ℓ : Loc nD τ sig) → Buf (Elt Ideal) ℓ)

/-- The normed query latents of a grid point. -/
abbrev bQ (c : Dev nD) (t : Fin cfg0.N) : FVec Ideal S256x384 .bf16 := k0_pay18 (F := Ideal) (k0_pay5 (iblk m c 0 t) (iblk m c 1 t) (iblk m c 3 t)) (iblk m c 4 t)
/-- The queries' weights of a grid point. -/
abbrev bB (c : Dev nD) (t : Fin cfg0.N) : FVec Ideal S384x768 .bf16 := k0_pay19 (F := Ideal) (iblk m c 5 t)
/-- The cosines of a grid point. -/
abbrev bC (c : Dev nD) (t : Fin cfg0.N) : FVec Ideal S256x128 .f32 := k0_pay9 (F := Ideal) (iblk m c 8 t)
/-- The sines of a grid point. -/
abbrev bS (c : Dev nD) (t : Fin cfg0.N) : FVec Ideal S256x128 .f32 := k0_pay10 (F := Ideal) (iblk m c 9 t)

theorem pay19_at (B : FVec Ideal S384x768 .bf16) (e : Fin 384) (k : Fin 768) : k0_pay19 (F := Ideal) B (ix2 e k) = B (ix2 e k) := by
  pointwise [k0_pay19]
theorem pay9_at (C : FVec Ideal S256x128 .f32) (r : Fin 256) (l : Fin 128) : k0_pay9 (F := Ideal) C (ix2 r l) = C (ix2 r l) := by
  pointwise [k0_pay9]
theorem pay10_at (C : FVec Ideal S256x128 .f32) (r : Fin 256) (l : Fin 128) : k0_pay10 (F := Ideal) C (ix2 r l) = C (ix2 r l) := by
  pointwise [k0_pay10]

theorem query_sum (c : Dev nD) (t : Fin cfg0.N) (r : Fin 256) (k k' : Fin 768)
    (hk : ∀ e : Fin 384, (show FVec Ideal S384x768 .bf16 from V m c main_v25) (ix2 e k) = (args m c).wq (ix2 e k')) :
    ∑ e : Fin 384, bQ m c t (ix2 r e) * bB m c t (ix2 e k) = query (args m c) (bat t r) (pos t r) k' := by
  simp only [pay19_at]
  exact query_at m c t r k k' hk

theorem nope_at (c : Dev nD) (t : Fin cfg0.N) (r : Fin 256) (h : Fin 4) (d : Fin 128) :
    k0_pay20 (F := Ideal) (bQ m c t) (bB m c t) zero (ix2 r ⟨128 * h.val + d.val, by omega⟩)
      = query (args m c) (bat t r) (pos t r) ⟨h.val * 192 + d.val, by omega⟩ * sc :=
  (pay20_at _ _ r _).trans (congrArg (· * sc) (query_sum m c t r _ _ fun e => wq_a m c e h d))

theorem rotA_at (c : Dev nD) (t : Fin cfg0.N) (r : Fin 256) (l : Fin 128) :
    k0_pay23 (F := Ideal) (bC m c t) (bS m c t) (bQ m c t) (bB m c t) zero (ix2 r l)
      = queryA (args m c) (bat t r) (pos t r) ⟨l.val / 32, by omega⟩ ⟨l.val % 32, by omega⟩ * sc := by
  refine (pay23_at _ _ _ _ r l).trans ?_
  rw [query_sum m c t r _ _ fun e => wq_b m c e l, query_sum m c t r _ _ fun e => wq_c m c e l]
  refine (congrArg₂ (fun x y => _ * sc * x - _ * sc * y) ((pay9_at _ r l).trans (blk_cos m c t r l)) ((pay10_at _ r l).trans (blk_sin m c t r l))).trans ?_
  exact turnA_scale _ _ _ _
theorem rotB_at (c : Dev nD) (t : Fin cfg0.N) (r : Fin 256) (l : Fin 128) :
    k0_pay24 (F := Ideal) (bC m c t) (bS m c t) (bQ m c t) (bB m c t) zero (ix2 r l)
      = queryB (args m c) (bat t r) (pos t r) ⟨l.val / 32, by omega⟩ ⟨l.val % 32, by omega⟩ * sc := by
  refine (pay24_at _ _ _ _ r l).trans ?_
  rw [query_sum m c t r _ _ fun e => wq_b m c e l, query_sum m c t r _ _ fun e => wq_c m c e l]
  refine (congrArg₂ (fun x y => _ * sc * x + _ * sc * y) ((pay10_at _ r l).trans (blk_sin m c t r l)) ((pay9_at _ r l).trans (blk_cos m c t r l))).trans ?_
  exact turnB_scale _ _ _ _

/-! ### A head's three pieces, from their shape -/

open Cert.Reference2Ideal.Read in
/-- The packed queries of the reference. -/
abbrev refQ (c : Dev nD) : FVec Ideal S65536x2048 .bf16 :=
  val_main_v149 (F := Ideal) (args m c).x (args m c).g (args m c).w (args m c).gq (args m c).wq (args m c).wk

theorem piece_a (c : Dev nD) (t : Fin cfg0.N) (r : Fin 256) (h : Fin 4) (e : Fin 256) (Z : Fin 128 → EReal) (W : Fin 128 → EReal)
    (hZ : ∀ d : Fin 128, Z d = query (args m c) (bat t r) (pos t r) ⟨h.val * 192 + d.val, by omega⟩ * sc)
    (hW : ∀ d : Fin 128, W d = (args m c).wk (ix2 e ⟨h.val * 256 + d.val, by omega⟩)) :
    ∑ d, Z d * W d = refQ m c (ix2 (row t r) ⟨512 * h.val + e.val, by omega⟩) := by
  refine Eq.trans ?_ (Cert.Reference2Ideal.Val.v149_a (args m c) (row t r) h e).symm
  rw [Cert.Attn.sum_mul_of_finite _ _ Cert.Attn.scale_nonneg Cert.Attn.scale_ne_top]
  refine Finset.sum_congr rfl fun d _ => ?_
  rw [hZ, hW, mul_right_comm]
  exact congrArg (· * sc) (mul_comm _ _)

theorem piece_b (c : Dev nD) (t : Fin cfg0.N) (r : Fin 256) (h : Fin 4) (l : Fin 128) :
    (if l.val / 32 = h.val then k0_pay23 (F := Ideal) (bC m c t) (bS m c t) (bQ m c t) (bB m c t) zero (ix2 r l) else 0)
      = refQ m c (ix2 (row t r) ⟨512 * h.val + (256 + l.val), by omega⟩) := by
  refine Eq.trans ?_ (Cert.Reference2Ideal.Val.v149_b (args m c) (row t r) h l).symm
  by_cases hh : l.val / 32 = h.val
  · have hf : (⟨l.val / 32, by omega⟩ : Fin 4) = h := Fin.ext hh
    rw [if_pos hh, if_pos hh, mul_one, rotA_at, hf]
    rfl
  · rw [if_neg hh, if_neg hh, mul_zero, zero_mul]
theorem piece_c (c : Dev nD) (t : Fin cfg0.N) (r : Fin 256) (h : Fin 4) (l : Fin 128) :
    (if l.val / 32 = h.val then k0_pay24 (F := Ideal) (bC m c t) (bS m c t) (bQ m c t) (bB m c t) zero (ix2 r l) else 0)
      = refQ m c (ix2 (row t r) ⟨512 * h.val + (384 + l.val), by omega⟩) := by
  refine Eq.trans ?_ (Cert.Reference2Ideal.Val.v149_c (args m c) (row t r) h l).symm
  by_cases hh : l.val / 32 = h.val
  · have hf : (⟨l.val / 32, by omega⟩ : Fin 4) = h := Fin.ext hh
    rw [if_pos hh, if_pos hh, mul_one, rotB_at, hf]
    rfl
  · rw [if_neg hh, if_neg hh, mul_zero, zero_mul]

/-- A block whose three pieces are a head's is that head's columns of the reference. -/
theorem head_of_pieces (c : Dev nD) (t : Fin cfg0.N) (r : Fin 256) (h : Fin 4) (P : Fin 512 → EReal)
    (ha : ∀ e : Fin 256, P ⟨e.val, by omega⟩ = refQ m c (ix2 (row t r) ⟨512 * h.val + e.val, by omega⟩))
    (hb : ∀ l : Fin 128, P ⟨256 + l.val, by omega⟩ = refQ m c (ix2 (row t r) ⟨512 * h.val + (256 + l.val), by omega⟩))
    (hc : ∀ l : Fin 128, P ⟨384 + l.val, by omega⟩ = refQ m c (ix2 (row t r) ⟨512 * h.val + (384 + l.val), by omega⟩))
    (k : Fin 512) : P k = refQ m c (ix2 (row t r) ⟨512 * h.val + k.val, by omega⟩) := by
  by_cases h1 : k.val < 256
  · exact ha ⟨k.val, h1⟩
  by_cases h2 : k.val < 384
  · have e : k = ⟨256 + (k.val - 256), by omega⟩ := Fin.ext (by simp only []; omega)
    rw [e]; exact hb ⟨k.val - 256, by omega⟩
  · have e : k = ⟨384 + (k.val - 384), by omega⟩ := Fin.ext (by simp only []; omega)
    rw [e]; exact hc ⟨k.val - 384, by omega⟩

theorem tile11_0 (c : Dev nD) (t : Fin cfg0.N) (W : FVec Ideal S1x128x256 .bf16)
    (hW : ∀ (d : Fin 128) (e : Fin 256), W (ix3 0 d e) = (args m c).wk (ix2 e ⟨(⟨0, by omega⟩ : Fin 4).val * 256 + d.val, by simp only []; omega⟩)) (r : Fin 256) (k : Fin 512) :
    k0_pay25 (F := Ideal) (bC m c t) (bS m c t) (bQ m c t) (bB m c t) zero W (ix2 r k)
      = refQ m c (ix2 (row t r) ⟨512 * (⟨0, by omega⟩ : Fin 4).val + k.val, by simp only []; omega⟩) := by
  refine head_of_pieces m c t r ⟨0, by omega⟩ (fun k => k0_pay25 (F := Ideal) (bC m c t) (bS m c t) (bQ m c t) (bB m c t) zero W (ix2 r k)) (fun e => ?_) (fun l => ?_) (fun l => ?_) k
  · refine (head0_a (W := W) (r := r) (e := e) ..).trans ?_
    exact piece_a m c t r ⟨0, by omega⟩ e _ _ (fun d => (congrArg (k0_pay20 (F := Ideal) (bQ m c t) (bB m c t) zero) (congrArg (ix2 r) (Fin.ext (by simp only [] <;> omega)))).trans
      (nope_at m c t r ⟨0, by omega⟩ d)) (fun d => hW d e)
  · exact (head0_b (W := W) (r := r) (l := l) ..).trans (piece_b m c t r ⟨0, by omega⟩ l)
  · exact (head0_c (W := W) (r := r) (l := l) ..).trans (piece_c m c t r ⟨0, by omega⟩ l)

theorem tile11_1 (c : Dev nD) (t : Fin cfg0.N) (W : FVec Ideal S1x128x256 .bf16)
    (hW : ∀ (d : Fin 128) (e : Fin 256), W (ix3 0 d e) = (args m c).wk (ix2 e ⟨(⟨1, by omega⟩ : Fin 4).val * 256 + d.val, by simp only []; omega⟩)) (r : Fin 256) (k : Fin 512) :
    k0_pay29 (F := Ideal) (k0_pay24 (bC m c t) (bS m c t) (bQ m c t) (bB m c t) zero) (k0_pay26 (bQ m c t) (bB m c t) zero W) k0_pay27 (k0_pay28 (bC m c t) (bS m c t) (bQ m c t) (bB m c t) zero) (ix2 r k)
      = refQ m c (ix2 (row t r) ⟨512 * (⟨1, by omega⟩ : Fin 4).val + k.val, by simp only []; omega⟩) := by
  refine head_of_pieces m c t r ⟨1, by omega⟩ (fun k => k0_pay29 (F := Ideal) (k0_pay24 (bC m c t) (bS m c t) (bQ m c t) (bB m c t) zero) (k0_pay26 (bQ m c t) (bB m c t) zero W) k0_pay27 (k0_pay28 (bC m c t) (bS m c t) (bQ m c t) (bB m c t) zero) (ix2 r k)) (fun e => ?_) (fun l => ?_) (fun l => ?_) k
  · refine (head1_a (W := W) (r := r) (e := e) ..).trans ?_
    exact piece_a m c t r ⟨1, by omega⟩ e _ _ (fun d => (congrArg (k0_pay20 (F := Ideal) (bQ m c t) (bB m c t) zero) (congrArg (ix2 r) (Fin.ext (by simp only [] <;> omega)))).trans
      (nope_at m c t r ⟨1, by omega⟩ d)) (fun d => hW d e)
  · exact (head1_b (W := W) (r := r) (l := l) ..).trans (piece_b m c t r ⟨1, by omega⟩ l)
  · exact (head1_c (W := W) (r := r) (l := l) ..).trans (piece_c m c t r ⟨1, by omega⟩ l)

theorem tile11_2 (c : Dev nD) (t : Fin cfg0.N) (W : FVec Ideal S1x128x256 .bf16)
    (hW : ∀ (d : Fin 128) (e : Fin 256), W (ix3 0 d e) = (args m c).wk (ix2 e ⟨(⟨2, by omega⟩ : Fin 4).val * 256 + d.val, by simp only []; omega⟩)) (r : Fin 256) (k : Fin 512) :
    k0_pay30 (F := Ideal) (k0_pay20 (bQ m c t) (bB m c t) zero) (k0_pay23 (bC m c t) (bS m c t) (bQ m c t) (bB m c t) zero) (k0_pay24 (bC m c t) (bS m c t) (bQ m c t) (bB m c t) zero) lanes W (ix2 r k)
      = refQ m c (ix2 (row t r) ⟨512 * (⟨2, by omega⟩ : Fin 4).val + k.val, by simp only []; omega⟩) := by
  refine head_of_pieces m c t r ⟨2, by omega⟩ (fun k => k0_pay30 (F := Ideal) (k0_pay20 (bQ m c t) (bB m c t) zero) (k0_pay23 (bC m c t) (bS m c t) (bQ m c t) (bB m c t) zero) (k0_pay24 (bC m c t) (bS m c t) (bQ m c t) (bB m c t) zero) lanes W (ix2 r k)) (fun e => ?_) (fun l => ?_) (fun l => ?_) k
  · refine (head2_a (W := W) (r := r) (e := e) ..).trans ?_
    exact piece_a m c t r ⟨2, by omega⟩ e _ _ (fun d => (congrArg (k0_pay20 (F := Ideal) (bQ m c t) (bB m c t) zero) (congrArg (ix2 r) (Fin.ext (by simp only [] <;> omega)))).trans
      (nope_at m c t r ⟨2, by omega⟩ d)) (fun d => hW d e)
  · exact (head2_b (W := W) (r := r) (l := l) ..).trans (piece_b m c t r ⟨2, by omega⟩ l)
  · exact (head2_c (W := W) (r := r) (l := l) ..).trans (piece_c m c t r ⟨2, by omega⟩ l)

theorem tile11_3 (c : Dev nD) (t : Fin cfg0.N) (W : FVec Ideal S1x128x256 .bf16)
    (hW : ∀ (d : Fin 128) (e : Fin 256), W (ix3 0 d e) = (args m c).wk (ix2 e ⟨(⟨3, by omega⟩ : Fin 4).val * 256 + d.val, by simp only []; omega⟩)) (r : Fin 256) (k : Fin 512) :
    k0_pay1 (F := Ideal) (k0_pay31 (k0_pay20 (bQ m c t) (bB m c t) zero) (k0_pay23 (bC m c t) (bS m c t) (bQ m c t) (bB m c t) zero) (k0_pay24 (bC m c t) (bS m c t) (bQ m c t) (bB m c t) zero) lanes W) (ix2 r k)
      = refQ m c (ix2 (row t r) ⟨512 * (⟨3, by omega⟩ : Fin 4).val + k.val, by simp only []; omega⟩) := by
  refine head_of_pieces m c t r ⟨3, by omega⟩ (fun k => k0_pay1 (F := Ideal) (k0_pay31 (k0_pay20 (bQ m c t) (bB m c t) zero) (k0_pay23 (bC m c t) (bS m c t) (bQ m c t) (bB m c t) zero) (k0_pay24 (bC m c t) (bS m c t) (bQ m c t) (bB m c t) zero) lanes W) (ix2 r k)) (fun e => ?_) (fun l => ?_) (fun l => ?_) k
  · refine (head3_a (W := W) (r := r) (e := e) ..).trans ?_
    exact piece_a m c t r ⟨3, by omega⟩ e _ _ (fun d => (congrArg (k0_pay20 (F := Ideal) (bQ m c t) (bB m c t) zero) (congrArg (ix2 r) (Fin.ext (by simp only [] <;> omega)))).trans
      (nope_at m c t r ⟨3, by omega⟩ d)) (fun d => hW d e)
  · exact (head3_b (W := W) (r := r) (l := l) ..).trans (piece_b m c t r ⟨3, by omega⟩ l)
  · exact (head3_c (W := W) (r := r) (l := l) ..).trans (piece_c m c t r ⟨3, by omega⟩ l)

set_option maxHeartbeats 2000000 in
theorem final11 (c : Dev nD) : (dats m 0 c).arrAt 11 cfg0.N = refQ m c := by
  refine (dats m 0 c).arrAt_eq_of_covers 11 _ (by decide +kernel) fun t _ y => ?_
  blk_simp
  rw [after0_11]; unfold_out out0_11
  canon_tiles x h
  case piece0 =>
    obtain ⟨r, k, rfl⟩ : ∃ (r : Fin 256) (k : Fin 512), x = ix2 r k := ⟨x 0, x 1, by blk_ext []⟩
    have h0' : (y 0).val = r.val := h0
    have h1' : (y 1).val = 1536 + k.val := h1
    simp (disch := decide) only [View.ld_unit_lit']
    refine (tile11_3 m c t (View.ld (iblk m c 7 t) r0_18) (fun d e => ?_) r k).trans ?_
    · refine Eq.trans ?_ (blk_wk m c t ⟨3, by omega⟩ d e)
      refine View.ld_unit_apply_of (iblk m c 7 t) ![3, 0, 0] S1x128x256.size inb_S4x128x256_S1x128x256_3_0_0 (ix3 0 d e) (ix3 (n0 := 4) (n1 := 128) (n2 := 256) 3 d e) fun a => ?_
      fin_cases a
      · rfl
      · exact (Nat.zero_add d.val).symm
      · exact (Nat.zero_add e.val).symm
    · refine congrArg (refQ m c) ?_
      unfold row
      blk_ext [idx t, h0', h1']
  case piece1 =>
    obtain ⟨r, k, rfl⟩ : ∃ (r : Fin 256) (k : Fin 512), x = ix2 r k := ⟨x 0, x 1, by blk_ext []⟩
    have h0' : (y 0).val = r.val := h0
    have h1' : (y 1).val = 1024 + k.val := h1
    simp (disch := decide) only [View.ld_unit_lit']
    refine (tile11_2 m c t (View.ld (iblk m c 7 t) r0_16) (fun d e => ?_) r k).trans ?_
    · refine Eq.trans ?_ (blk_wk m c t ⟨2, by omega⟩ d e)
      refine View.ld_unit_apply_of (iblk m c 7 t) ![2, 0, 0] S1x128x256.size inb_S4x128x256_S1x128x256_2_0_0 (ix3 0 d e) (ix3 (n0 := 4) (n1 := 128) (n2 := 256) 2 d e) fun a => ?_
      fin_cases a
      · rfl
      · exact (Nat.zero_add d.val).symm
      · exact (Nat.zero_add e.val).symm
    · refine congrArg (refQ m c) ?_
      unfold row
      blk_ext [idx t, h0', h1']
  case piece2 =>
    obtain ⟨r, k, rfl⟩ : ∃ (r : Fin 256) (k : Fin 512), x = ix2 r k := ⟨x 0, x 1, by blk_ext []⟩
    have h0' : (y 0).val = r.val := h0
    have h1' : (y 1).val = 512 + k.val := h1
    simp (disch := decide) only [View.ld_unit_lit']
    refine (tile11_1 m c t (View.ld (iblk m c 7 t) r0_14) (fun d e => ?_) r k).trans ?_
    · refine Eq.trans ?_ (blk_wk m c t ⟨1, by omega⟩ d e)
      refine View.ld_unit_apply_of (iblk m c 7 t) ![1, 0, 0] S1x128x256.size inb_S4x128x256_S1x128x256_1_0_0 (ix3 0 d e) (ix3 (n0 := 4) (n1 := 128) (n2 := 256) 1 d e) fun a => ?_
      fin_cases a
      · rfl
      · exact (Nat.zero_add d.val).symm
      · exact (Nat.zero_add e.val).symm
    · refine congrArg (refQ m c) ?_
      unfold row
      blk_ext [idx t, h0', h1']
  case piece3 =>
    obtain ⟨r, k, rfl⟩ : ∃ (r : Fin 256) (k : Fin 512), x = ix2 r k := ⟨x 0, x 1, by blk_ext []⟩
    have h0' : (y 0).val = r.val := h0
    have h1' : (y 1).val = 0 + k.val := h1.trans (Nat.zero_add _).symm
    simp (disch := decide) only [View.ld_unit_lit']
    refine (tile11_0 m c t (View.ld (iblk m c 7 t) r0_12) (fun d e => ?_) r k).trans ?_
    · refine Eq.trans ?_ (blk_wk m c t ⟨0, by omega⟩ d e)
      refine View.ld_unit_apply_of (iblk m c 7 t) ![0, 0, 0] S1x128x256.size inb_S4x128x256_S1x128x256_0_0_0 (ix3 0 d e) (ix3 (n0 := 4) (n1 := 128) (n2 := 256) 0 d e) fun a => ?_
      fin_cases a
      · rfl
      · exact (Nat.zero_add d.val).symm
      · exact (Nat.zero_add e.val).symm
    · refine congrArg (refQ m c) ?_
      unfold row
      blk_ext [idx t, h0', h1']

end Cert.Kernel2Ideal.Val

namespace Cert.Layer
open Idealize.ShloMosaic Idealize.ShloMosaic.TcCoe Idealize.SL.Sem
open Cert.Kernel2Ideal.Val

set_option maxHeartbeats 2000000 in
/-- The five results of the mixing's call are the reference's. -/
theorem mixing : Cert.algebraic_Kernel2Ideal_Reference2Ideal := by
  pair_intro
  · run_from Cert.Kernel2Ideal.Value.run_blocks m g
  · run_from Cert.Reference2Ideal.Value.run m' g'
    · rw [Cert.Reference2Ideal.Read.val_main_v147_eq]
      obtain ⟨h0, h1, h2, h3, h4, h5, h6⟩ := hagree c
      try rw [h0]
      try rw [h1]
      try rw [h2]
      try rw [h3]
      try rw [h4]
      try rw [h5]
      try rw [h6]
      exact (final10 m c).symm
    · rw [Cert.Reference2Ideal.Read.val_main_v149_eq]
      obtain ⟨h0, h1, h2, h3, h4, h5, h6⟩ := hagree c
      try rw [h0]
      try rw [h1]
      try rw [h2]
      try rw [h3]
      try rw [h4]
      try rw [h5]
      try rw [h6]
      exact (final11 m c).symm
    · rw [Cert.Reference2Ideal.Read.val_main_v151_eq]
      obtain ⟨h0, h1, h2, h3, h4, h5, h6⟩ := hagree c
      try rw [h0]
      try rw [h1]
      try rw [h2]
      try rw [h3]
      try rw [h4]
      try rw [h5]
      try rw [h6]
      exact (final12 m c).symm
    · rw [Cert.Reference2Ideal.Read.val_main_v152_eq]
      obtain ⟨h0, h1, h2, h3, h4, h5, h6⟩ := hagree c
      try rw [h0]
      try rw [h1]
      try rw [h2]
      try rw [h3]
      try rw [h4]
      try rw [h5]
      try rw [h6]
      exact (final13 m c).symm
    · rw [Cert.Reference2Ideal.Read.val_main_v153_eq]
      obtain ⟨h0, h1, h2, h3, h4, h5, h6⟩ := hagree c
      try rw [h0]
      try rw [h1]
      try rw [h2]
      try rw [h3]
      try rw [h4]
      try rw [h5]
      try rw [h6]
      exact (final14 m c).symm

end Cert.Layer
-- ==== Proof.Memory.lean ====
module
public import proofs.«01_k».proof.Defs
public import proofs.«01_k».proof.Proof.Norm
public import proofs.«01_k».proof.Proof.Gen.Kernel3Ideal.Value
public import proofs.«01_k».proof.Proof.Gen.Reference3Ideal.Read
public import Idealize.ShloMosaic.Lib.Pipeline.ValueKit
public import Idealize.ShloMosaic.Lib.Claim
public import Idealize.ShloMosaic.Lib.StableHlo.RunRead
/-! The keys and values of the memory: both results of the call are the normed memory rows through the two weight matrices. -/
@[expose] public section
set_option maxRecDepth 16384
noncomputable section

namespace Cert.Layer
open Idealize.ShloMosaic

/-- Row `R` of the memory, normed, through the weights: entry `k`. -/
def memOut (x : FVec Ideal ⟨3, ![32, 256, 1024]⟩ .f32) (g : FVec Ideal ⟨2, ![1, 1024]⟩ .f32) (w : FVec Ideal ⟨3, ![1, 1024, 512]⟩ .f32)
    (R : Fin 8192) (k : Fin 512) : EReal :=
  ∑ d : Fin 1024, rmsEntry 0x44800000#32 (fun d => x (ix3 ⟨R.val / 256, by omega⟩ ⟨R.val % 256, by omega⟩ d)) (fun d => g (ix2 0 d)) d * w (ix3 0 d k)

end Cert.Layer

namespace Cert.Reference3Ideal.Val
open Cert.Reference3Ideal Cert.Reference3Ideal.Gen Cert.Reference3Ideal.Read Cert.Layer Idealize.ShloMosaic
variable (x0 : FVec Ideal S32x256x1024 .f32) (x1 : FVec Ideal S1x1024 .f32) (x2 x3 : FVec Ideal S1x1024x512 .f32)

theorem v13_at (b : Fin 32) (r : Fin 256) (d : Fin 1024) :
    val_main_v13 (F := Ideal) x0 x1 (ix3 b r d) = rmsEntry 0x44800000#32 (fun d => x0 (ix3 b r d)) (fun d => x1 (ix2 0 d)) d := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, rmsEntry]

theorem v16_at (R : Fin 8192) (k : Fin 512) : val_main_v16 (F := Ideal) x0 x1 x2 (ix2 R k) = memOut x0 x1 x2 R k := by
  pointwise [val_main_v16, val_main_v15, val_main_v14, v13_at, memOut]

theorem v19_at (R : Fin 8192) (k : Fin 512) : val_main_v19 (F := Ideal) x0 x1 x3 (ix2 R k) = memOut x0 x1 x3 R k := by
  pointwise [val_main_v19, val_main_v18, val_main_v17, v13_at, memOut]

end Cert.Reference3Ideal.Val

namespace Cert.Kernel3Ideal.Val
open Cert.Kernel3Ideal Cert.Kernel3Ideal.Gen Cert.Layer Idealize.ShloMosaic Idealize.ShloMosaic.TcCoe Idealize.SL.Sem
open Idealize.ShloMosaic.Pipeline (Dat)
variable (m : (ℓ : Loc nD τ sig) → Buf (Elt Ideal) ℓ)

abbrev in0 (c : Dev nD) : FVec Ideal S32x256x1024 .f32 := m ((c : Thread nD τ).loc main_arg0)
abbrev in1 (c : Dev nD) : FVec Ideal S1x1024 .f32 := m ((c : Thread nD τ).loc main_arg1)
abbrev in2 (c : Dev nD) : FVec Ideal S1x1024x512 .f32 := m ((c : Thread nD τ).loc main_arg2)
abbrev in3 (c : Dev nD) : FVec Ideal S1x1024x512 .f32 := m ((c : Thread nD τ).loc main_arg3)

theorem x_host (c : Dev nD) (R : Fin 8192) (k : Fin 1024) :
    (show FVec Ideal S8192x1024 .f32 from V m c main_v6) (ix2 R k) = in0 m c (ix3 ⟨R.val / 256, by omega⟩ ⟨R.val % 256, by omega⟩ k) := by
  show (StableHlo.after hostOps0 _ _) _ = _
  after_reads_simp
  pointwise []
theorem g_host (c : Dev nD) (d : Fin 1024) : (show FVec Ideal S1x1024 .f32 from V m c main_v1) (ix2 0 d) = in1 m c (ix2 0 d) := by
  show (StableHlo.after hostOps0 _ _) _ = _
  after_reads_simp
  pointwise []
theorem k_host (c : Dev nD) (d : Fin 1024) (k : Fin 512) : (show FVec Ideal S1024x512 .bf16 from V m c main_v3) (ix2 d k) = in2 m c (ix3 0 d k) := by
  show (StableHlo.after hostOps0 _ _) _ = _
  after_reads_simp
  pointwise []
theorem v_host (c : Dev nD) (d : Fin 1024) (k : Fin 512) : (show FVec Ideal S1024x512 .bf16 from V m c main_v5) (ix2 d k) = in3 m c (ix3 0 d k) := by
  show (StableHlo.after hostOps0 _ _) _ = _
  after_reads_simp
  pointwise []

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

theorem pt_lt (t : Fin cfg0.N) : t.val < 16 := lt_of_lt_of_eq t.isLt N_0

/-- The row of the arrays that row `r` of point `t`'s block is. -/
def row (t : Fin cfg0.N) (r : Fin 512) : Fin 8192 := ⟨512 * t.val + r.val, by have := pt_lt t; omega⟩

theorem blk_x (c : Dev nD) (t : Fin cfg0.N) (r : Fin 512) (y : Fin 1024) :
    (show FVec Ideal S512x1024 .f32 from iblk m c 0 t) (ix2 r y) = (show FVec Ideal S8192x1024 .f32 from V m c main_v6) (ix2 (row t r) y) := by
  unfold row
  blk_ext [iblk, V, idx t]
theorem blk_g (c : Dev nD) (t : Fin cfg0.N) (y : Fin 1024) :
    (show FVec Ideal S1x1024 .f32 from iblk m c 1 t) (ix2 0 y) = (show FVec Ideal S1x1024 .f32 from V m c main_v1) (ix2 0 y) := by
  blk_ext [iblk, V, idx t]
theorem blk_k (c : Dev nD) (t : Fin cfg0.N) (d : Fin 1024) (y : Fin 512) :
    (show FVec Ideal S1024x512 .bf16 from iblk m c 2 t) (ix2 d y) = (show FVec Ideal S1024x512 .bf16 from V m c main_v3) (ix2 d y) := by
  blk_ext [iblk, V, idx t]
theorem blk_v (c : Dev nD) (t : Fin cfg0.N) (d : Fin 1024) (y : Fin 512) :
    (show FVec Ideal S1024x512 .bf16 from iblk m c 3 t) (ix2 d y) = (show FVec Ideal S1024x512 .bf16 from V m c main_v5) (ix2 d y) := by
  blk_ext [iblk, V, idx t]

theorem pay1_at (x : FVec Ideal S512x1024 .f32) (g : FVec Ideal S1x1024 .f32) (r : Fin 512) (d : Fin 1024) :
    k0_pay1 (F := Ideal) x g (ix2 r d) = rmsEntry 0x44800000#32 (fun d => x (ix2 r d)) (fun d => g (ix2 0 d)) d := by
  pointwise [k0_pay1, rmsEntry]
theorem pay2_at (x : FVec Ideal S512x1024 .f32) (g : FVec Ideal S1x1024 .f32) (w : FVec Ideal S1024x512 .bf16) (r k : Fin 512) :
    k0_pay2 (F := Ideal) x g w (ix2 r k)
      = ∑ d : Fin 1024, rmsEntry 0x44800000#32 (fun d => x (ix2 r d)) (fun d => g (ix2 0 d)) d * w (ix2 d k) := by
  pointwise [k0_pay2, pay1_at]
theorem pay3_at (x : FVec Ideal S512x1024 .f32) (g : FVec Ideal S1x1024 .f32) (w : FVec Ideal S1024x512 .bf16) (r k : Fin 512) :
    k0_pay3 (F := Ideal) x g w (ix2 r k)
      = ∑ d : Fin 1024, rmsEntry 0x44800000#32 (fun d => x (ix2 r d)) (fun d => g (ix2 0 d)) d * w (ix2 d k) := by
  pointwise [k0_pay3, pay1_at]

/-- The keys the call leaves, entry by entry. -/
def keys (c : Dev nD) : FVec Ideal S8192x512 .f32 := fun i => memOut (in0 m c) (in1 m c) (in2 m c) (i 0) (i 1)
/-- The values the call leaves, entry by entry. -/
def vals (c : Dev nD) : FVec Ideal S8192x512 .f32 := fun i => memOut (in0 m c) (in1 m c) (in3 m c) (i 0) (i 1)

theorem tile_k (c : Dev nD) (t : Fin cfg0.N) (r k : Fin 512) :
    k0_pay2 (F := Ideal) (iblk m c 0 t) (iblk m c 1 t) (iblk m c 2 t) (ix2 r k) = keys m c (ix2 (row t r) k) := by
  refine (pay2_at _ _ _ r k).trans ?_
  simp only [fun d => (blk_x m c t r d).trans (x_host m c _ _), fun d => (blk_g m c t d).trans (g_host m c d),
    fun d => (blk_k m c t d k).trans (k_host m c d k)]
  rfl
theorem tile_v (c : Dev nD) (t : Fin cfg0.N) (r k : Fin 512) :
    k0_pay3 (F := Ideal) (iblk m c 0 t) (iblk m c 1 t) (iblk m c 3 t) (ix2 r k) = vals m c (ix2 (row t r) k) := by
  refine (pay3_at _ _ _ r k).trans ?_
  simp only [fun d => (blk_x m c t r d).trans (x_host m c _ _), fun d => (blk_g m c t d).trans (g_host m c d),
    fun d => (blk_v m c t d k).trans (v_host m c d k)]
  rfl

theorem final4 (c : Dev nD) : (dats m 0 c).arrAt 4 cfg0.N = keys m c := by
  refine (dats m 0 c).arrAt_eq_of_covers 4 (keys m c) (by decide +kernel) fun t _ y => ?_
  blk_simp
  rw [after0_4]; frame_out
  have hy : y = ix2 (n0 := 512) (n1 := 512) (y 0) (y 1) := by blk_ext []
  refine ((congrArg (k0_pay2 (F := Ideal) (iblk m c 0 t) (iblk m c 1 t) (iblk m c 2 t)) hy).trans (tile_k m c t (y 0) (y 1))).trans ?_
  unfold row
  blk_ext [idx t]
theorem final5 (c : Dev nD) : (dats m 0 c).arrAt 5 cfg0.N = vals m c := by
  refine (dats m 0 c).arrAt_eq_of_covers 5 (vals m c) (by decide +kernel) fun t _ y => ?_
  blk_simp
  rw [after0_5]; frame_out
  have hy : y = ix2 (n0 := 512) (n1 := 512) (y 0) (y 1) := by blk_ext []
  refine ((congrArg (k0_pay3 (F := Ideal) (iblk m c 0 t) (iblk m c 1 t) (iblk m c 3 t)) hy).trans (tile_v m c t (y 0) (y 1))).trans ?_
  unfold row
  blk_ext [idx t]

end Cert.Kernel3Ideal.Val

namespace Cert.Layer
open Idealize.ShloMosaic Idealize.ShloMosaic.TcCoe Idealize.SL.Sem
open Cert.Kernel3Ideal.Val (in0 in1 in2 in3 keys vals)

theorem ref_keys (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v16 (F := Ideal) (in0 m c) (in1 m c) (in2 m c) = keys m c := by
  funext i
  have hi : i = ix2 (n0 := 8192) (n1 := 512) (i 0) (i 1) := by blk_ext []
  rw [hi]
  exact Cert.Reference3Ideal.Val.v16_at _ _ _ (i 0) (i 1)
theorem ref_vals (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v19 (F := Ideal) (in0 m c) (in1 m c) (in3 m c) = vals m c := by
  funext i
  have hi : i = ix2 (n0 := 8192) (n1 := 512) (i 0) (i 1) := by blk_ext []
  rw [hi]
  exact Cert.Reference3Ideal.Val.v19_at _ _ _ (i 0) (i 1)

/-- Both results of the memory's call are the reference's. -/
theorem memory : Cert.algebraic_Kernel3Ideal_Reference3Ideal := by
  pair_intro
  · run_from Cert.Kernel3Ideal.Value.run_blocks m g
  · run_from Cert.Reference3Ideal.Value.run m' g'
    · rw [Cert.Reference3Ideal.Read.val_main_v16_eq]
      exact (ref_keys m c).trans (Cert.Kernel3Ideal.Val.final4 m c).symm
    · rw [Cert.Reference3Ideal.Read.val_main_v19_eq]
      exact (ref_vals m c).trans (Cert.Kernel3Ideal.Val.final5 m c).symm

end Cert.Layer
-- ==== Proof.XRef.lean ====
module
public import proofs.«01_k».proof.Proof.Norm
public import proofs.«01_k».proof.Proof.Score
public import proofs.«01_k».proof.Proof.Gen.Reference4Ideal.Run
public import proofs.«01_k».proof.Proof.Gen.Reference4Ideal.Read
@[expose] public section
set_option maxRecDepth 16384
noncomputable section
/-! The attention of the stream to the memory, as a mathematical expression, and that the reference computes it. -/
namespace Cert.Layer
open Idealize.ShloMosaic Cert.Attn

/-- Entry `k` of the queries of position `t`: the normed row through the query weights. -/
def xq (x : FVec Ideal ⟨3, ![32, 2048, 1024]⟩ .f32) (g : FVec Ideal ⟨2, ![1, 1024]⟩ .f32) (w : FVec Ideal ⟨3, ![1, 1024, 512]⟩ .f32)
    (b : Fin 32) (t : Fin 2048) (k : Fin 512) : EReal :=
  ∑ d : Fin 1024, rmsEntry 0x44800000#32 (fun d => x (ix3 b t d)) (fun d => g (ix2 0 d)) d * w (ix3 0 d k)

/-- Lane `e` of head `h` among the 512 lanes of the four heads side by side. -/
def lane (h : Fin 4) (e : Fin 128) : Fin 512 := ⟨128 * h.val + e.val, by omega⟩

/-- The scaled score of position `t` against the memory's token `j`, in head `h`. -/
def xscore (x : FVec Ideal ⟨3, ![32, 2048, 1024]⟩ .f32) (k : FVec Ideal ⟨4, ![32, 256, 4, 128]⟩ .f32)
    (g : FVec Ideal ⟨2, ![1, 1024]⟩ .f32) (w : FVec Ideal ⟨3, ![1, 1024, 512]⟩ .f32)
    (b : Fin 32) (h : Fin 4) (t : Fin 2048) (j : ℕ) : EReal :=
  (∑ e : Fin 128, xq x g w b t (lane h e) * k (ix4 b (Fin.ofNat 256 j) h e)) * Ideal.ofBits .f32 0x3DB504F3#32

/-- Entry `e` of the memory token `j`'s values in head `h`. -/
def xval (v : FVec Ideal ⟨4, ![32, 256, 4, 128]⟩ .f32) (b : Fin 32) (h : Fin 4) (e : Fin 128) (j : ℕ) : EReal :=
  v (ix4 b (Fin.ofNat 256 j) h e)

/-- The softmax average of the values under the scores `s`. -/
def avg (s v : ℕ → EReal) : EReal :=
  ∑ j ∈ Finset.range 256, Ideal.div (Ideal.exp (s j - mx s 256)) (den s 256 (mx s 256)) * v j

/-- Entry `d` of the heads' outputs side by side. -/
def xout (x : FVec Ideal ⟨3, ![32, 2048, 1024]⟩ .f32) (k v : FVec Ideal ⟨4, ![32, 256, 4, 128]⟩ .f32)
    (g : FVec Ideal ⟨2, ![1, 1024]⟩ .f32) (w : FVec Ideal ⟨3, ![1, 1024, 512]⟩ .f32)
    (b : Fin 32) (t : Fin 2048) (d : Fin 512) : EReal :=
  avg (xscore x k g w b ⟨d.val / 128, by omega⟩ t) (xval v b ⟨d.val / 128, by omega⟩ ⟨d.val % 128, by omega⟩)

/-- Entry `c` of row `R` of the stream after the attention to the memory. -/
def xres (x : FVec Ideal ⟨3, ![32, 2048, 1024]⟩ .f32) (k v : FVec Ideal ⟨4, ![32, 256, 4, 128]⟩ .f32)
    (g : FVec Ideal ⟨2, ![1, 1024]⟩ .f32) (w : FVec Ideal ⟨3, ![1, 1024, 512]⟩ .f32) (o : FVec Ideal ⟨3, ![1, 512, 1024]⟩ .f32)
    (R : Fin 65536) (c : Fin 1024) : EReal :=
  x (ix3 ⟨R.val / 2048, by omega⟩ ⟨R.val % 2048, by omega⟩ c)
    + ∑ d : Fin 512, xout x k v g w ⟨R.val / 2048, by omega⟩ ⟨R.val % 2048, by omega⟩ d * o (ix3 0 d c)

end Cert.Layer

namespace Cert.Reference4Ideal.Val
open Cert.Reference4Ideal Cert.Reference4Ideal.Gen Cert.Reference4Ideal.Read Cert.Layer Cert.Attn Idealize.ShloMosaic
variable (x0 : FVec Ideal S32x2048x1024 .f32) (x1 x2 : FVec Ideal S32x256x4x128 .f32) (x3 : FVec Ideal S1x1024 .f32)
  (x4 : FVec Ideal S1x1024x512 .f32) (x5 : FVec Ideal S1x512x1024 .f32)

theorem v13_at (b : Fin 32) (r : Fin 2048) (d : Fin 1024) :
    val_main_v13 (F := Ideal) x0 x3 (ix3 b r d) = rmsEntry 0x44800000#32 (fun d => x0 (ix3 b r d)) (fun d => x3 (ix2 0 d)) d := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, rmsEntry]

theorem v15_at (b : Fin 32) (t : Fin 2048) (k : Fin 512) : val_main_v15 (F := Ideal) x0 x3 x4 (ix3 b t k) = xq x0 x3 x4 b t k := by
  pointwise [val_main_v15, val_main_v14, v13_at, xq]

theorem v16_at (b : Fin 32) (t : Fin 2048) (h : Fin 4) (e : Fin 128) :
    val_main_v16 (F := Ideal) x0 x3 x4 (ix4 b t h e) = xq x0 x3 x4 b t (lane h e) := by
  pointwise [val_main_v16, v15_at]
  exact congrArg _ (Fin.ext (by unfold lane; simp only []; omega))

theorem v19_at (b : Fin 32) (h : Fin 4) (t : Fin 2048) (j : Fin 256) :
    val_main_v19 (F := Ideal) x0 x1 x3 x4 (ix4 b h t j) = xscore x0 x1 x3 x4 b h t j.val := by
  pointwise [val_main_v19, val_main_v18, val_main_v17, val_main_cst_2, v16_at]
  have hj : Fin.ofNat 256 j.val = j := Fin.ext (Nat.mod_eq_of_lt j.isLt)
  unfold xscore
  rw [hj]

theorem max_at (y : FVec Ideal S32x4x2048x256 .f32) (b : Fin 32) (h : Fin 4) (t : Fin 2048) :
    Host.reduce FloatOps.maximumf y (constant (F := Ideal) S_ .f32 0xFF800000#32) reducesTo_S32x4x2048x256_S32x4x2048_d3 h_S_ (ix3 b h t)
      = Finset.univ.fold max (Ideal.ofBits .f32 0xFF800000#32) fun k : Fin 256 => y (ix4 b h t k) := by
  pointwise []

theorem v22_at (b : Fin 32) (h : Fin 4) (t : Fin 2048) :
    val_main_v22 (F := Ideal) x0 x1 x3 x4 (ix3 b h t) = mx (xscore x0 x1 x3 x4 b h t) 256 := by
  rw [val_main_v22_apply, val_main_v21_apply, val_main_cst_4_apply]
  unfold val_main_v20 val_main_cst_3
  rw [max_at]
  simp only [v19_at]
  refine Eq.trans (congrArg₂ max Cert.ReferenceIdeal.Val.negInf (congrArg (fun z => Finset.fold max z _ _) Cert.ReferenceIdeal.Val.negInf)) ?_
  rw [fold_max_eq_sup, max_eq_right bot_le]
  exact Cert.ReferenceIdeal.Val.sup_fin _ _

theorem v26_at (b : Fin 32) (h : Fin 4) (t : Fin 2048) (j : Fin 256) :
    val_main_v26 (F := Ideal) x0 x1 x3 x4 (ix4 b h t j)
      = Ideal.exp (xscore x0 x1 x3 x4 b h t j.val - mx (xscore x0 x1 x3 x4 b h t) 256) := by
  pointwise [val_main_v26, val_main_v25, val_main_v24, val_main_v23, v22_at, v19_at]

theorem v27_at (b : Fin 32) (h : Fin 4) (t : Fin 2048) :
    val_main_v27 (F := Ideal) x0 x1 x3 x4 (ix3 b h t)
      = den (xscore x0 x1 x3 x4 b h t) 256 (mx (xscore x0 x1 x3 x4 b h t) 256) := by
  pointwise [val_main_v27, val_main_cst_5, v26_at, den]
  exact (Finset.sum_range fun j => Ideal.exp (xscore x0 x1 x3 x4 b h t j - mx (xscore x0 x1 x3 x4 b h t) 256)).symm

theorem v31_at (b : Fin 32) (h : Fin 4) (t : Fin 2048) (e : Fin 128) :
    val_main_v31 (F := Ideal) x0 x1 x2 x3 x4 (ix4 b h e t) = avg (xscore x0 x1 x3 x4 b h t) (xval x2 b h e) := by
  pointwise [val_main_v31, val_main_v30, val_main_v29, val_main_v28, v26_at, v27_at, avg]
  rw [Finset.sum_range]
  refine Finset.sum_congr rfl fun j _ => ?_
  rw [mul_comm]
  have hj : Fin.ofNat 256 j.val = j := Fin.ext (Nat.mod_eq_of_lt j.isLt)
  unfold xval
  rw [hj]

theorem v33_at (b : Fin 32) (t : Fin 2048) (d : Fin 512) :
    val_main_v33 (F := Ideal) x0 x1 x2 x3 x4 (ix3 b t d) = xout x0 x1 x2 x3 x4 b t d := by
  pointwise [val_main_v33, val_main_v32, v31_at, xout]

theorem v37_at (R : Fin 65536) (c : Fin 1024) :
    val_main_v37 (F := Ideal) x0 x1 x2 x3 x4 x5 (ix2 R c) = xres x0 x1 x2 x3 x4 x5 R c := by
  pointwise [val_main_v37, val_main_v36, val_main_v35, val_main_v34, v33_at, xres]

end Cert.Reference4Ideal.Val
-- ==== Proof.XHeads.lean ====
module
public import proofs.«01_k».proof.Proof.XRef
public import proofs.«01_k».proof.Proof.Gen.Kernel4Ideal.Skeleton
public import proofs.«01_k».proof.Proof.Gen.Kernel4Ideal
public import Idealize.ShloMosaic.Lib.Pointwise
@[expose] public section
set_option maxRecDepth 16384
noncomputable section
/-! The four heads of the attention to the memory, as the kernel computes them on a block of rows. -/
namespace Cert.Kernel4Ideal.Val
open Cert.Kernel4Ideal Cert.Kernel4Ideal.Gen Cert.Layer Cert.Attn Idealize.ShloMosaic Idealize.ShloMosaic.TcCoe

/-- The product of row `r` of the queries with the memory's token `j`, in head `h`. -/
def hscore (Q : FVec Ideal S512x512 .bf16) (K : FVec Ideal S256x512 .bf16) (h : Fin 4) (r : Fin 512) (j : ℕ) : EReal :=
  ∑ e : Fin 128, Q (ix2 r (lane h e)) * K (ix2 (Fin.ofNat 256 j) (lane h e))

/-- Entry `e` of the memory token `j`'s values, in head `h`. -/
def hval (W : FVec Ideal S256x512 .bf16) (h : Fin 4) (e : Fin 128) (j : ℕ) : EReal := W (ix2 (Fin.ofNat 256 j) (lane h e))

/-- A weighted sum of values divided by the sum of the weights. -/
def havg (s v : ℕ → EReal) : EReal := Ideal.div (num s v 256 (mx s 256)) (den s 256 (mx s 256))

theorem nat_j (j : Fin 256) : Fin.ofNat 256 j.val = j := Fin.ext (Nat.mod_eq_of_lt j.isLt)

/-- Exponentials of a row of scores relative to their maximum. -/
theorem exp_row (y : Fin 256 → EReal) (s : ℕ → EReal) (hs : ∀ j, y j = s j.val) (j : Fin 256) :
    Ideal.exp (y j - Finset.fold max (Ideal.ofBits .f32 0xFF800000#32) y Finset.univ) = Ideal.exp (s j.val - mx s 256) := by
  rw [show Ideal.ofBits .f32 0xFF800000#32 = ⊥ from Cert.ReferenceIdeal.Val.negInf, fold_max_eq_sup, hs j]
  refine congrArg (fun z => Ideal.exp (s j.val - z)) ?_
  exact (congrArg (Finset.sup Finset.univ) (funext hs)).trans (Cert.ReferenceIdeal.Val.sup_fin s 256)

/-- The quotient of the two sums over the tokens. -/
theorem quot_row (p : Fin 256 → EReal) (w : Fin 256 → EReal) (s v : ℕ → EReal) (hp : ∀ j, p j = Ideal.exp (s j.val - mx s 256))
    (hw : ∀ j, w j = v j.val) : Ideal.div (∑ j, p j * w j) (∑ j, p j) = havg s v := by
  unfold havg num den
  rw [Finset.sum_range, Finset.sum_range]
  simp only [hp, hw]

variable (Q : FVec Ideal S512x512 .bf16) (K W : FVec Ideal S256x512 .bf16) (x : FVec Ideal S512x1024 .f32) (g : FVec Ideal S1x1024 .f32)
  (wq : FVec Ideal S1024x512 .bf16) (mk mv : FVec Ideal S1x256x512 .f32)

theorem hs_at (h : Fin 4) (r : Fin 512) (j : Fin 256) (l : Fin 128 → Fin 512) (hl : ∀ e, l e = lane h e) :
    ∑ e : Fin 128, Q (ix2 r (l e)) * K (ix2 j (l e)) = hscore Q K h r j.val := by
  unfold hscore; rw [nat_j]; simp only [hl]
theorem hv_at (h : Fin 4) (e : Fin 128) (j : Fin 256) (l : Fin 512) (hl : l = lane h e) : W (ix2 j l) = hval W h e j.val := by
  unfold hval; rw [nat_j, hl]

theorem pay6_at (r : Fin 512) (j : Fin 256) :
    k0_pay6 (F := Ideal) x g wq mk (ix2 r j)
      = Ideal.exp (hscore (k0_pay3 (F := Ideal) x g wq) (k0_pay4 (F := Ideal) mk) 0 r j.val
          - mx (hscore (k0_pay3 (F := Ideal) x g wq) (k0_pay4 (F := Ideal) mk) 0 r) 256) := by
  unfold k0_pay6
  generalize k0_pay3 (F := Ideal) x g wq = Q
  generalize k0_pay4 (F := Ideal) mk = K
  pointwise []
  exact exp_row (fun j => _) _ (fun j => hs_at Q K 0 r j (fun e => ⟨e.val, by omega⟩) fun e => Fin.ext (by simp [lane])) j

theorem pay9_at (r : Fin 512) (e : Fin 128) :
    k0_pay9 (F := Ideal) (k0_pay6 (F := Ideal) x g wq mk) (k0_pay7 (F := Ideal) x g wq mk) (k0_pay8 (F := Ideal) mv) (ix2 r e)
      = havg (hscore (k0_pay3 (F := Ideal) x g wq) (k0_pay4 (F := Ideal) mk) 0 r) (hval (k0_pay5 (F := Ideal) mv) 0 e) := by
  unfold k0_pay9 k0_pay8 k0_pay7
  generalize k0_pay5 (F := Ideal) mv = W
  pointwise [pay6_at]
  exact quot_row _ (fun j => _) _ _ (fun j => rfl) fun j => hv_at W 0 e j _ (Fin.ext (by simp [lane]))

theorem pay10_at (r : Fin 512) (e : Fin 128) :
    k0_pay10 (F := Ideal) Q K W (ix2 r e) = havg (hscore Q K 1 r) (hval W 1 e) := by
  pointwise [k0_pay10]
  exact quot_row _ _ _ _ (exp_row (fun j => _) _ fun j => hs_at Q K 1 r j _ fun e => rfl) fun j => hv_at W 1 e j _ rfl

theorem pay11_at (r : Fin 512) (e : Fin 128) :
    k0_pay11 (F := Ideal) Q K W (ix2 r e) = havg (hscore Q K 2 r) (hval W 2 e) := by
  pointwise [k0_pay11]
  exact quot_row _ _ _ _ (exp_row (fun j => _) _ fun j => hs_at Q K 2 r j _ fun e => rfl) fun j => hv_at W 2 e j _ rfl

theorem pay12_at (r : Fin 512) (j : Fin 256) :
    k0_pay12 (F := Ideal) Q K (ix2 r j) = Ideal.exp (hscore Q K 3 r j.val - mx (hscore Q K 3 r) 256) := by
  pointwise [k0_pay12]
  exact exp_row (fun j => _) _ (fun j => hs_at Q K 3 r j _ fun e => rfl) j

theorem pay13_at (r : Fin 512) (e : Fin 128) :
    k0_pay13 (F := Ideal) Q K W (ix2 r e) = num (hscore Q K 3 r) (hval W 3 e) 256 (mx (hscore Q K 3 r) 256) := by
  pointwise [k0_pay13, pay12_at]
  unfold num
  rw [Finset.sum_range]
  exact Finset.sum_congr rfl fun j _ => congrArg _ (hv_at W 3 e j _ rfl)

/-- The four heads' outputs side by side: entry `d`. -/
def hout (r : Fin 512) (d : Fin 512) : EReal :=
  havg (hscore Q K ⟨d.val / 128, by omega⟩ r) (hval W ⟨d.val / 128, by omega⟩ ⟨d.val % 128, by omega⟩)

variable (o : FVec Ideal S512x1024 .bf16)
/-- One lane of the heads' outputs side by side lies in one of the four heads. -/
theorem hout_lane (r : Fin 512) (h : Fin 4) (e : Fin 128) (d : Fin 512) (hd : d = lane h e) :
    hout Q K W r d = havg (hscore Q K h r) (hval W h e) := by
  subst hd
  unfold hout
  have h1 : (⟨(lane h e).val / 128, by omega⟩ : Fin 4) = h := Fin.ext (by simp only [lane]; omega)
  have h2 : (⟨(lane h e).val % 128, by omega⟩ : Fin 128) = e := Fin.ext (by simp only [lane]; omega)
  rw [h1, h2]

theorem pay1_at (A B C D : FVec Ideal S512x128 .f32) (P : FVec Ideal S512x256 .f32) (r : Fin 512) (c : Fin 1024)
    (hA : ∀ e, A (ix2 r e) = havg (hscore Q K 0 r) (hval W 0 e)) (hB : ∀ e, B (ix2 r e) = havg (hscore Q K 1 r) (hval W 1 e))
    (hC : ∀ e, C (ix2 r e) = havg (hscore Q K 2 r) (hval W 2 e))
    (hD : ∀ e, D (ix2 r e) = num (hscore Q K 3 r) (hval W 3 e) 256 (mx (hscore Q K 3 r) 256))
    (hP : ∀ j : Fin 256, P (ix2 r j) = Ideal.exp (hscore Q K 3 r j.val - mx (hscore Q K 3 r) 256)) :
    k0_pay1 (F := Ideal) x A B C P D o (ix2 r c) = x (ix2 r c) + ∑ d : Fin 512, hout Q K W r d * o (ix2 d c) := by
  pointwise [k0_pay1]
  refine congrArg (x (ix2 r c) + ·) (Finset.sum_congr rfl fun d _ => congrArg (· * o (ix2 d c)) ?_)
  have hs : ∑ j : Fin 256, P (ix2 r j) = den (hscore Q K 3 r) 256 (mx (hscore Q K 3 r) 256) := by
    unfold den; rw [Finset.sum_range]; exact Finset.sum_congr rfl fun j _ => hP j
  split
  · exact (hA _).trans (hout_lane Q K W r 0 _ d (Fin.ext (by simp [lane]))).symm
  · split
    · exact (hB _).trans (hout_lane Q K W r 1 _ d (Fin.ext (by simp [lane]; omega))).symm
    · split
      · exact (hC _).trans (hout_lane Q K W r 2 _ d (Fin.ext (by simp [lane]; omega))).symm
      · rw [hs, hD]
        exact (hout_lane Q K W r 3 _ d (Fin.ext (by simp [lane]; omega))).symm

theorem pay3_at (r k : Fin 512) :
    k0_pay3 (F := Ideal) x g wq (ix2 r k)
      = (∑ d : Fin 1024, rmsEntry 0x44800000#32 (fun d => x (ix2 r d)) (fun d => g (ix2 0 d)) d * wq (ix2 d k))
        * Ideal.ofBits .f32 0x3DB504F3#32 := by
  pointwise [k0_pay3, k0_pay2, rmsEntry]
theorem pay4_at (j : Fin 256) (k : Fin 512) : k0_pay4 (F := Ideal) mk (ix2 j k) = mk (ix3 0 j k) := by
  pointwise [k0_pay4]
theorem pay5_at (j : Fin 256) (k : Fin 512) : k0_pay5 (F := Ideal) mv (ix2 j k) = mv (ix3 0 j k) := by
  pointwise [k0_pay5]

end Cert.Kernel4Ideal.Val
-- ==== Proof.XTile.lean ====
module
public import proofs.«01_k».proof.Defs
public import proofs.«01_k».proof.Proof.XHeads
public import proofs.«01_k».proof.Proof.Pre
public import proofs.«01_k».proof.Proof.Gen.Kernel4Ideal.Value
public import Idealize.ShloMosaic.Lib.Pipeline.ValueKit
public import Idealize.ShloMosaic.Lib.Claim
public import Idealize.ShloMosaic.Lib.StableHlo.RunRead
@[expose] public section
set_option maxRecDepth 16384
noncomputable section
/-! The blocks of a grid point of the attention to the memory, and the array after all points. -/
namespace Cert.Kernel4Ideal.Val
open Cert.Kernel4Ideal Cert.Kernel4Ideal.Gen Cert.Layer Cert.Attn Idealize.ShloMosaic Idealize.ShloMosaic.TcCoe Idealize.SL.Sem
open Idealize.ShloMosaic.Pipeline (Dat)
variable (m : (ℓ : Loc nD τ sig) → Buf (Elt Ideal) ℓ)

abbrev in0 (c : Dev nD) : FVec Ideal S32x2048x1024 .f32 := m ((c : Thread nD τ).loc main_arg0)
abbrev in1 (c : Dev nD) : FVec Ideal S32x256x4x128 .f32 := m ((c : Thread nD τ).loc main_arg1)
abbrev in2 (c : Dev nD) : FVec Ideal S32x256x4x128 .f32 := m ((c : Thread nD τ).loc main_arg2)
abbrev in3 (c : Dev nD) : FVec Ideal S1x1024 .f32 := m ((c : Thread nD τ).loc main_arg3)
abbrev in4 (c : Dev nD) : FVec Ideal S1x1024x512 .f32 := m ((c : Thread nD τ).loc main_arg4)
abbrev in5 (c : Dev nD) : FVec Ideal S1x512x1024 .f32 := m ((c : Thread nD τ).loc main_arg5)

theorem x_host (c : Dev nD) (R : Fin 65536) (k : Fin 1024) :
    (show FVec Ideal S65536x1024 .f32 from V m c main_v6) (ix2 R k) = in0 m c (ix3 ⟨R.val / 2048, by omega⟩ ⟨R.val % 2048, by omega⟩ k) := by
  show (StableHlo.after hostOps0 _ _) _ = _
  after_reads_simp
  pointwise []
theorem k_host (c : Dev nD) (b : Fin 32) (j : Fin 256) (h : Fin 4) (e : Fin 128) :
    (show FVec Ideal S32x256x512 .f32 from V m c main_v7) (ix3 b j (lane h e)) = in1 m c (ix4 b j h e) := by
  show (StableHlo.after hostOps0 _ _) _ = _
  after_reads_simp
  unfold lane
  pointwise []
theorem v_host (c : Dev nD) (b : Fin 32) (j : Fin 256) (h : Fin 4) (e : Fin 128) :
    (show FVec Ideal S32x256x512 .f32 from V m c main_v8) (ix3 b j (lane h e)) = in2 m c (ix4 b j h e) := by
  show (StableHlo.after hostOps0 _ _) _ = _
  after_reads_simp
  unfold lane
  pointwise []
theorem g_host (c : Dev nD) (d : Fin 1024) : (show FVec Ideal S1x1024 .f32 from V m c main_v1) (ix2 0 d) = in3 m c (ix2 0 d) := by
  show (StableHlo.after hostOps0 _ _) _ = _
  after_reads_simp
  pointwise []
theorem w_host (c : Dev nD) (d : Fin 1024) (k : Fin 512) : (show FVec Ideal S1024x512 .bf16 from V m c main_v3) (ix2 d k) = in4 m c (ix3 0 d k) := by
  show (StableHlo.after hostOps0 _ _) _ = _
  after_reads_simp
  pointwise []
theorem o_host (c : Dev nD) (d : Fin 512) (k : Fin 1024) : (show FVec Ideal S512x1024 .bf16 from V m c main_v5) (ix2 d k) = in5 m c (ix3 0 d k) := by
  show (StableHlo.after hostOps0 _ _) _ = _
  after_reads_simp
  pointwise []

theorem idx : ∀ t : Fin cfg0.N, win0_0.index t = ![t.val, 0] ∧ win0_1.index t = ![t.val / 4, 0, 0] ∧ win0_2.index t = ![t.val / 4, 0, 0]
    ∧ win0_3.index t = ![0, 0] ∧ win0_4.index t = ![0, 0] ∧ win0_5.index t = ![0, 0] ∧ win0_6.index t = ![t.val, 0] :=
  (by decide +kernel : ∀ t : Fin grid0.N, _)

theorem pt_lt (t : Fin cfg0.N) : t.val < 128 := lt_of_lt_of_eq t.isLt N_0

/-- The row of the arrays that row `r` of point `t`'s block is. -/
def row (t : Fin cfg0.N) (r : Fin 512) : Fin 65536 := ⟨512 * t.val + r.val, by have := pt_lt t; omega⟩
/-- The batch element of point `t`. -/
def bat (t : Fin cfg0.N) : Fin 32 := ⟨t.val / 4, by have := pt_lt t; omega⟩

theorem blk_x (c : Dev nD) (t : Fin cfg0.N) (r : Fin 512) (y : Fin 1024) :
    (show FVec Ideal S512x1024 .f32 from iblk m c 0 t) (ix2 r y) = (show FVec Ideal S65536x1024 .f32 from V m c main_v6) (ix2 (row t r) y) := by
  unfold row
  blk_ext [iblk, V, idx t]
theorem blk_k (c : Dev nD) (t : Fin cfg0.N) (j : Fin 256) (y : Fin 512) :
    (show FVec Ideal S1x256x512 .f32 from iblk m c 1 t) (ix3 0 j y) = (show FVec Ideal S32x256x512 .f32 from V m c main_v7) (ix3 (bat t) j y) := by
  unfold bat
  blk_ext [iblk, V, idx t]
theorem blk_v (c : Dev nD) (t : Fin cfg0.N) (j : Fin 256) (y : Fin 512) :
    (show FVec Ideal S1x256x512 .f32 from iblk m c 2 t) (ix3 0 j y) = (show FVec Ideal S32x256x512 .f32 from V m c main_v8) (ix3 (bat t) j y) := by
  unfold bat
  blk_ext [iblk, V, idx t]
theorem blk_g (c : Dev nD) (t : Fin cfg0.N) (y : Fin 1024) :
    (show FVec Ideal S1x1024 .f32 from iblk m c 3 t) (ix2 0 y) = (show FVec Ideal S1x1024 .f32 from V m c main_v1) (ix2 0 y) := by
  blk_ext [iblk, V, idx t]
theorem blk_w (c : Dev nD) (t : Fin cfg0.N) (d : Fin 1024) (y : Fin 512) :
    (show FVec Ideal S1024x512 .bf16 from iblk m c 4 t) (ix2 d y) = (show FVec Ideal S1024x512 .bf16 from V m c main_v3) (ix2 d y) := by
  blk_ext [iblk, V, idx t]
theorem blk_o (c : Dev nD) (t : Fin cfg0.N) (d : Fin 512) (y : Fin 1024) :
    (show FVec Ideal S512x1024 .bf16 from iblk m c 5 t) (ix2 d y) = (show FVec Ideal S512x1024 .bf16 from V m c main_v5) (ix2 d y) := by
  blk_ext [iblk, V, idx t]

/-- The position of row `r` of point `t`. -/
def pos (t : Fin cfg0.N) (r : Fin 512) : Fin 2048 := ⟨(row t r).val % 2048, by omega⟩
theorem bat_eq (t : Fin cfg0.N) (r : Fin 512) : (⟨(row t r).val / 2048, by have := (row t r).isLt; omega⟩ : Fin 32) = bat t :=
  Fin.ext (by simp only [row, bat]; omega)

/-- The scale 128 ^ (-1/2), as the programs hold it, is a positive real. -/
theorem xscale_val : ∃ r : ℝ, 0 ≤ r ∧ Ideal.ofBits .f32 0x3DB504F3#32 = (r : EReal) := by
  refine ⟨_, ?_, by simp [Ideal.ofBits, Ideal.ieee]; rfl⟩
  positivity

/-- Scaling the queries scales the scores. -/
theorem scale_sum (a b : Fin 128 → EReal) : ∑ e, a e * Ideal.ofBits .f32 0x3DB504F3#32 * b e
    = (∑ e, a e * b e) * Ideal.ofBits .f32 0x3DB504F3#32 := by
  obtain ⟨r, h, e⟩ := xscale_val
  rw [e, sum_mul_of_finite _ _ (EReal.coe_nonneg.2 h) (EReal.coe_ne_top r)]
  exact Finset.sum_congr rfl fun _ _ => mul_right_comm _ _ _

theorem q_eq (c : Dev nD) (t : Fin cfg0.N) (r k : Fin 512) :
    k0_pay3 (F := Ideal) (iblk m c 0 t) (iblk m c 3 t) (iblk m c 4 t) (ix2 r k)
      = xq (in0 m c) (in3 m c) (in4 m c) (bat t) (pos t r) k * Ideal.ofBits .f32 0x3DB504F3#32 := by
  refine (pay3_at _ _ _ r k).trans ?_
  simp only [fun d => (blk_x m c t r d).trans (x_host m c _ _), fun d => (blk_g m c t d).trans (g_host m c d),
    fun d => (blk_w m c t d k).trans (w_host m c d k), bat_eq]
  rfl

theorem hscore_eq (c : Dev nD) (t : Fin cfg0.N) (r : Fin 512) (h : Fin 4) :
    hscore (k0_pay3 (F := Ideal) (iblk m c 0 t) (iblk m c 3 t) (iblk m c 4 t)) (k0_pay4 (F := Ideal) (iblk m c 1 t)) h r
      = xscore (in0 m c) (in1 m c) (in3 m c) (in4 m c) (bat t) h (pos t r) := by
  funext j
  unfold hscore xscore
  rw [← scale_sum]
  refine Finset.sum_congr rfl fun e _ => congrArg₂ (· * ·) (q_eq m c t r _) ?_
  exact (pay4_at _ _ _).trans ((blk_k m c t _ _).trans (k_host m c _ _ h e))

theorem hval_eq (c : Dev nD) (t : Fin cfg0.N) (h : Fin 4) (e : Fin 128) :
    hval (k0_pay5 (F := Ideal) (iblk m c 2 t)) h e = xval (in2 m c) (bat t) h e := by
  funext j
  exact (pay5_at _ _ _).trans ((blk_v m c t _ _).trans (v_host m c _ _ h e))

/-- Every entry of the stream, its norm, the query weights and the memory's keys is a number. -/
structure Finite (c : Dev nD) : Prop where
  h0 : ∀ i, IsReal (in0 m c i)
  h1 : ∀ i, IsReal (in1 m c i)
  h3 : ∀ i, IsReal (in3 m c i)
  h4 : ∀ i, IsReal (in4 m c i)

/-- A normed row of numbers is a row of numbers. -/
theorem rms_real {x g : Fin 1024 → EReal} (hx : ∀ d, IsReal (x d)) (hg : ∀ d, IsReal (g d)) (d : Fin 1024) :
    IsReal (rmsEntry 0x44800000#32 x g d) := by
  unfold rmsEntry
  refine ((hx d).mul ?_).mul (hg d)
  obtain ⟨q, e⟩ := IsReal.sum Finset.univ fun t => (hx t).mul (hx t)
  have hq : 0 ≤ q := EReal.coe_nonneg.1 (e ▸ Finset.sum_nonneg fun t _ => by
    obtain ⟨a, ha⟩ := hx t
    rw [ha, ← EReal.coe_mul]
    exact EReal.coe_nonneg.2 (mul_self_nonneg a))
  obtain ⟨n, hn, en⟩ : ∃ r : ℝ, 0 < r ∧ Ideal.ofBits .f32 0x44800000#32 = (r : EReal) :=
    ⟨8388608 * (2 ^ 13)⁻¹, by positivity, by simp [Ideal.ofBits, Ideal.ieee]⟩
  obtain ⟨p, hp, ep⟩ : ∃ r : ℝ, 0 < r ∧ Ideal.ofBits .f32 0x3727C5AC#32 = (r : EReal) :=
    ⟨10995116 * (2 ^ 40)⁻¹, by positivity, by simp [Ideal.ofBits, Ideal.ieee]⟩
  have hne : (n : EReal) ≠ 0 := by exact_mod_cast hn.ne'
  have hpos : 0 < q * n⁻¹ + p := add_pos_of_nonneg_of_pos (mul_nonneg hq (inv_pos.2 hn).le) hp
  rw [e, en, ep]
  unfold Ideal.div
  rw [if_neg hne, ← EReal.coe_inv, ← EReal.coe_mul, ← EReal.coe_add]
  refine ⟨(Real.sqrt (q * n⁻¹ + p))⁻¹, ?_⟩
  show (if q * n⁻¹ + p < 0 then ⊥ else if q * n⁻¹ + p = 0 then ⊤ else (((Real.sqrt (q * n⁻¹ + p))⁻¹ : ℝ) : EReal)) = _
  rw [if_neg hpos.not_gt, if_neg hpos.ne']

theorem xscore_real (c : Dev nD) (hf : Finite m c) (b : Fin 32) (h : Fin 4) (t : Fin 2048) (j : ℕ) :
    IsReal (xscore (in0 m c) (in1 m c) (in3 m c) (in4 m c) b h t j) := by
  unfold xscore xq
  obtain ⟨r, _, e⟩ := xscale_val
  exact (IsReal.sum _ fun _ => (IsReal.sum _ fun _ => (rms_real (fun _ => hf.h0 _) (fun _ => hf.h3 _) _).mul (hf.h4 _)).mul (hf.h1 _)).mul ⟨r, e⟩

/-- Where the scores are numbers, dividing the weighted sum is averaging with the divided weights. -/
theorem havg_eq (s v : ℕ → EReal) (h : ∀ j, IsReal (s j)) : havg s v = avg s v := by
  obtain ⟨L, hL, hd⟩ := den_real s 256 (fun j _ => (h j).ne_top) ⟨0, by omega, (h 0).ne_bot⟩
  unfold havg avg
  rw [hd]
  exact num_div _ _ _ _ hL

theorem hout_eq (c : Dev nD) (hf : Finite m c) (t : Fin cfg0.N) (r d : Fin 512) :
    hout (k0_pay3 (F := Ideal) (iblk m c 0 t) (iblk m c 3 t) (iblk m c 4 t)) (k0_pay4 (F := Ideal) (iblk m c 1 t))
      (k0_pay5 (F := Ideal) (iblk m c 2 t)) r d
      = xout (in0 m c) (in1 m c) (in2 m c) (in3 m c) (in4 m c) (bat t) (pos t r) d := by
  unfold hout xout
  rw [hscore_eq, hval_eq]
  exact havg_eq _ _ fun j => xscore_real m c hf _ _ _ j

/-- The result, entry by entry. -/
def result (c : Dev nD) : FVec Ideal S65536x1024 .f32 := fun i =>
  xres (in0 m c) (in1 m c) (in2 m c) (in3 m c) (in4 m c) (in5 m c) (i 0) (i 1)

theorem pay2_at (x : FVec Ideal S512x1024 .f32) (r : Fin 512) (k : Fin 1024) : k0_pay2 (F := Ideal) x (ix2 r k) = x (ix2 r k) := by
  pointwise [k0_pay2]

/-- What the body stores at a point, from the blocks it loads. -/
abbrev stored (x : FVec Ideal S512x1024 .f32) (k v : FVec Ideal S1x256x512 .f32) (g : FVec Ideal S1x1024 .f32)
    (w : FVec Ideal S1024x512 .bf16) (o : FVec Ideal S512x1024 .bf16) : FVec Ideal S512x1024 .f32 :=
  k0_pay1 (F := Ideal) (k0_pay2 x) (k0_pay9 (k0_pay6 x g w k) (k0_pay7 x g w k) (k0_pay8 v))
    (k0_pay10 (k0_pay3 x g w) (k0_pay4 k) (k0_pay5 v)) (k0_pay11 (k0_pay3 x g w) (k0_pay4 k) (k0_pay5 v))
    (k0_pay12 (k0_pay3 x g w) (k0_pay4 k)) (k0_pay13 (k0_pay3 x g w) (k0_pay4 k) (k0_pay5 v)) o

theorem stored_at (x : FVec Ideal S512x1024 .f32) (k v : FVec Ideal S1x256x512 .f32) (g : FVec Ideal S1x1024 .f32)
    (w : FVec Ideal S1024x512 .bf16) (o : FVec Ideal S512x1024 .bf16) (r : Fin 512) (z : Fin 1024) :
    stored x k v g w o (ix2 r z) = x (ix2 r z)
      + ∑ d : Fin 512, hout (k0_pay3 (F := Ideal) x g w) (k0_pay4 (F := Ideal) k) (k0_pay5 (F := Ideal) v) r d * o (ix2 d z) := by
  refine (pay1_at (k0_pay3 (F := Ideal) x g w) (k0_pay4 (F := Ideal) k) (k0_pay5 (F := Ideal) v) (k0_pay2 x) o _ _ _ _ _ r z
    (fun e => pay9_at x g w k v r e) (fun e => pay10_at _ _ _ r e) (fun e => pay11_at _ _ _ r e) (fun e => pay13_at _ _ _ r e)
    (fun j => pay12_at _ _ r j)).trans ?_
  rw [pay2_at]

theorem tile_eq (c : Dev nD) (hf : Finite m c) (t : Fin cfg0.N) (r : Fin 512) (k : Fin 1024) :
    stored (iblk m c 0 t) (iblk m c 1 t) (iblk m c 2 t) (iblk m c 3 t) (iblk m c 4 t) (iblk m c 5 t) (ix2 r k)
      = result m c (ix2 (row t r) k) := by
  refine (stored_at _ _ _ _ _ _ r k).trans ?_
  have e1 : ∀ d, hout (k0_pay3 (F := Ideal) (iblk m c 0 t) (iblk m c 3 t) (iblk m c 4 t)) (k0_pay4 (F := Ideal) (iblk m c 1 t))
      (k0_pay5 (F := Ideal) (iblk m c 2 t)) r d * (show FVec Ideal S512x1024 .bf16 from iblk m c 5 t) (ix2 d k)
      = xout (in0 m c) (in1 m c) (in2 m c) (in3 m c) (in4 m c) (bat t) (pos t r) d * in5 m c (ix3 0 d k) := fun d =>
    congrArg₂ (· * ·) (hout_eq m c hf t r d) ((blk_o m c t d k).trans (o_host m c d k))
  have e2 := (blk_x m c t r k).trans (x_host m c _ _)
  refine (congrArg₂ (· + ·) e2 (Finset.sum_congr rfl fun d _ => e1 d)).trans ?_
  rw [← bat_eq t r]
  rfl

theorem final (c : Dev nD) (hf : Finite m c) : (dats m 0 c).arrAt 6 cfg0.N = result m c := by
  refine (dats m 0 c).arrAt_eq_of_covers 6 (result m c) (by decide +kernel) fun t _ y => ?_
  blk_simp
  rw [after0_6]
  unfold_out out0_6
  frame_out
  have hy : y = ix2 (n0 := 512) (n1 := 1024) (y 0) (y 1) := by blk_ext []
  refine ((congrArg (stored (iblk m c 0 t) (iblk m c 1 t) (iblk m c 2 t) (iblk m c 3 t) (iblk m c 4 t) (iblk m c 5 t)) hy).trans
    (tile_eq m c hf t (y 0) (y 1))).trans ?_
  unfold row
  blk_ext [idx t]

end Cert.Kernel4Ideal.Val
-- ==== Proof.XPre.lean ====
module
public import proofs.«01_k».proof.Pre_finite_memory
public import proofs.«01_k».proof.Proof.Pre
@[expose] public section
set_option maxRecDepth 16384
noncomputable section
/-! The memory's precondition: its side conditions, and that it makes the entries it names numbers. -/
namespace Cert.Pre_finite_memory.Val
open Cert.Pre_finite_memory Cert.Attn Cert.Pre_finite_inputs.Val Idealize.ShloMosaic

instance facts : Facts where
  bcast_S_S32x2048x1024 := by decide
  reducesTo_S32x2048x1024_S_d0_1_2 := by decide
  h_S_ := by decide
  bcast_S_S32x256x4x128 := by decide
  reducesTo_S32x256x4x128_S_d0_1_2_3 := by decide
  bcast_S_S1x1024 := by decide
  reducesTo_S1x1024_S_d0_1 := by decide
  bcast_S_S1x1024x512 := by decide
  reducesTo_S1x1024x512_S_d0_1_2 := by decide

theorem all_real (x0 : FVec Ideal S32x2048x1024 .f32) (x1 x2 : FVec Ideal S32x256x4x128 .f32) (x3 : FVec Ideal S1x1024 .f32)
    (x4 : FVec Ideal S1x1024x512 .f32) (x5 : FVec Ideal S1x512x1024 .f32)
    (h : fn (F := Ideal) x0 x1 x2 x3 x4 x5 = fun _ => 1#1) :
    (∀ i, IsReal (x0 i)) ∧ (∀ i, IsReal (x1 i)) ∧ (∀ i, IsReal (x3 i)) ∧ (∀ i, IsReal (x4 i)) := by
  have h0 := congrFun h (fun i => i.elim0)
  unfold fn fn_part1 at h0
  obtain ⟨h1, e3⟩ := and_one h0
  obtain ⟨h2, e2⟩ := and_one h1
  obtain ⟨e0, e1⟩ := and_one h2
  exact ⟨fun i => real_of_lt (Host.reduce_andi_all _ _ _ _ _ e0 i), fun i => real_of_lt (Host.reduce_andi_all _ _ _ _ _ e1 i),
    fun i => real_of_lt (Host.reduce_andi_all _ _ _ _ _ e2 i), fun i => real_of_lt (Host.reduce_andi_all _ _ _ _ _ e3 i)⟩

end Cert.Pre_finite_memory.Val
-- ==== Proof.XAttention.lean ====
module
public import proofs.«01_k».proof.Defs
public import proofs.«01_k».proof.Proof.XTile
public import proofs.«01_k».proof.Proof.XPre
/-! The prompt group's attention to the memory: the kernel's result is the reference's. -/
@[expose] public section
set_option maxRecDepth 16384
noncomputable section
namespace Cert.Layer
open Idealize.ShloMosaic Idealize.ShloMosaic.TcCoe Idealize.SL.Sem

theorem finite_of_pre (m : (ℓ : Loc Cert.Kernel4Ideal.nD Cert.Kernel4Ideal.τ Cert.Kernel4Ideal.sig) → Buf (Elt Ideal) ℓ)
    (h : Cert.Pre_Kernel4Ideal_finite_memory m) (c : Dev Cert.Kernel4Ideal.nD) : Cert.Kernel4Ideal.Val.Finite m c := by
  obtain ⟨h0, h1, h3, h4⟩ := Cert.Pre_finite_memory.Val.all_real _ _ _ _ _ _ (h c)
  exact ⟨h0, h1, h3, h4⟩

theorem ref_x (m : (ℓ : Loc Cert.Kernel4Ideal.nD Cert.Kernel4Ideal.τ Cert.Kernel4Ideal.sig) → Buf (Elt Ideal) ℓ)
    (c : Dev Cert.Kernel4Ideal.nD) :
    Cert.Reference4Ideal.Read.val_main_v37 (F := Ideal) (Cert.Kernel4Ideal.Val.in0 m c) (Cert.Kernel4Ideal.Val.in1 m c)
      (Cert.Kernel4Ideal.Val.in2 m c) (Cert.Kernel4Ideal.Val.in3 m c) (Cert.Kernel4Ideal.Val.in4 m c)
      (Cert.Kernel4Ideal.Val.in5 m c) = Cert.Kernel4Ideal.Val.result m c := by
  funext i
  have hi : i = ix2 (n0 := 65536) (n1 := 1024) (i 0) (i 1) := by blk_ext []
  rw [hi]
  exact Cert.Reference4Ideal.Val.v37_at _ _ _ _ _ _ (i 0) (i 1)

/-- The stream after the attention to the memory is the reference's. -/
theorem attention : Cert.algebraic_Kernel4Ideal_Reference4Ideal_pre_finite_memory := by
  pair_intro
  · run_from Cert.Kernel4Ideal.Value.run_blocks m g
  · run_from Cert.Reference4Ideal.Value.run m' g'
    rw [Cert.Reference4Ideal.Read.val_main_v37_eq]
    obtain ⟨h0, h1, h2, h3, h4, h5⟩ := hagree c
    rw [h0, h1, h2, h3, h4, h5]
    exact (ref_x m c).trans (Cert.Kernel4Ideal.Val.final m c (finite_of_pre m hpre c)).symm

end Cert.Layer
-- ==== Proof.ExpSpec.lean ====
module
public import Idealize.ShloMosaic.PureOps.Ideal.Laws
public import Idealize.ShloMosaic.Lib.ValueIdx
@[expose] public section
set_option maxRecDepth 16384
noncomputable section
/-! One row through one expert, as a mathematical expression: the clamped gate and up products, the gated
activation, and the down product. -/
namespace Cert.Layer
open Idealize.ShloMosaic

/-- A gate entry: the product of the row with a column of the gate weights, biased, at most 7. -/
def swGate (s b : EReal) : EReal := min (s + b) (Ideal.ofBits .f32 0x40E00000#32)

/-- An up entry: the biased product held between −7 and 7, plus one. -/
def swUp (s b : EReal) : EReal :=
  min (Ideal.ofBits .f32 0x40E00000#32) (max (Ideal.ofBits .f32 0xC0E00000#32) (s + b)) + Ideal.ofBits .f32 0x3F800000#32

/-- The gated activation: `u · g · 1 / (1 + exp (−α g))`. -/
def swAct (g u : EReal) : EReal :=
  u * (g * Ideal.div (Ideal.ofBits .f32 0x3F800000#32)
    (Ideal.ofBits .f32 0x3F800000#32 + Ideal.exp (-(Ideal.ofBits .f32 0x3FD9DB23#32 * g))))

/-- The hidden entry `k` of the row `x` of an expert with gate weights `wg`, up weights `wu` and their biases. -/
def swHid (x : Fin 1024 → EReal) (wg : Fin 1024 → Fin 1024 → EReal) (bg : Fin 1024 → EReal) (wu : Fin 1024 → Fin 1024 → EReal)
    (bu : Fin 1024 → EReal) (k : Fin 1024) : EReal :=
  swAct (swGate (∑ d : Fin 1024, x d * wg d k) (bg k)) (swUp (∑ d : Fin 1024, x d * wu d k) (bu k))

/-- Entry `c` of the expert's result for the row `x`. -/
def swRow (x : Fin 1024 → EReal) (wg : Fin 1024 → Fin 1024 → EReal) (bg : Fin 1024 → EReal) (wu : Fin 1024 → Fin 1024 → EReal)
    (bu : Fin 1024 → EReal) (wd : Fin 1024 → Fin 1024 → EReal) (bd : Fin 1024 → EReal) (c : Fin 1024) : EReal :=
  (∑ k : Fin 1024, swHid x wg bg wu bu k * wd k c) + bd c

end Cert.Layer
-- ==== Proof.ExpKit.lean ====
/- The experts' program around its pipeline: what the region finds in memory, which buffers the host lines leave alone,
   the prefetched tables, and the windows' blocks at a point. Stated once over any float values. -/
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel5Ideal.Run

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines -/

/-- Core `c`'s buffers when the region is entered. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

theorem fresh_before : (hostOps0 : List (HloOp τ sig (Elt F))).Forall fun op => op.fresh = ∅ := by
  simp only [List.Forall]; repeat' constructor
theorem fresh_after : (hostOps1 : List (HloOp τ sig (Elt F))).Forall fun op => op.fresh = ∅ := by
  simp only [List.Forall]; repeat' constructor

set_option maxHeartbeats 800000 in
/-- The program is its region between the two stretches of host lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact fresh_before) main_chain

/-- What the lines after the region write. -/
theorem writes_after {op : HloOp τ sig (Elt F)} (h : op ∈ (hostOps1 : List (HloOp τ sig (Elt F)))) :
    ∃ b ∈ [main_v14, main_cst, main_v15, main_v16], op.writes = {Proc.devRef .tc b} := by
  simp only [hostOps1, List.mem_cons, List.mem_nil_iff, or_false] at h
  rcases h with rfl | rfl | rfl | rfl
  exacts [⟨main_v14, by decide, rfl⟩, ⟨main_cst, by decide, rfl⟩, ⟨main_v15, by decide, rfl⟩, ⟨main_v16, by decide, rfl⟩]

/-- What the lines before it write. -/
theorem writes_before {op : HloOp τ sig (Elt F)} (h : op ∈ (hostOps0 : List (HloOp τ sig (Elt F)))) :
    ∃ b ∈ [main_v0, main_v1, main_v2, main_v3, main_v4, main_v5, main_v6, main_v7, main_v8, main_v9, main_v10, main_v11, main_v12],
      op.writes = {Proc.devRef .tc b} := by
  simp only [hostOps0, List.mem_cons, List.mem_nil_iff, or_false] at h
  rcases h with rfl | rfl | rfl | rfl | rfl | rfl | rfl | rfl | rfl | rfl | rfl | rfl | rfl
  exacts [⟨main_v0, by decide, rfl⟩, ⟨main_v1, by decide, rfl⟩, ⟨main_v2, by decide, rfl⟩, ⟨main_v3, by decide, rfl⟩,
    ⟨main_v4, by decide, rfl⟩, ⟨main_v5, by decide, rfl⟩, ⟨main_v6, by decide, rfl⟩, ⟨main_v7, by decide, rfl⟩,
    ⟨main_v8, by decide, rfl⟩, ⟨main_v9, by decide, rfl⟩, ⟨main_v10, by decide, rfl⟩, ⟨main_v11, by decide, rfl⟩,
    ⟨main_v12, by decide, rfl⟩]

/-- The lines after the region touch the pipeline's arrays and the buffers beside it only. -/
theorem sfx_sub : ∀ ops ∈ ([hostOps1] : List (List (HloOp τ sig (Elt F)))), ∀ op ∈ ops,
    op.bufs ⊆ Pipeline.tailRefs sig pre0 spec0 := by
  intro ops hops op hop
  obtain rfl := List.mem_singleton.mp hops
  refine Pipeline.sub_tailRefs pre0 spec0 op ((List.forall_iff_forall_mem.mp hostOps1_sub) op hop) ?_
  simp only [hostOps1, List.mem_cons, List.mem_nil_iff, or_false] at hop
  rcases hop with rfl | rfl | rfl | rfl
  all_goals intro j; fin_cases j <;> simp only [StableHlo.nullary_bufs, StableHlo.unary_bufs, StableHlo.ternary_bufs, StableHlo.reshape_bufs, Finset.mem_insert, Finset.mem_singleton, not_or] <;> and_intros <;> exact StableHlo.devRef_ne_of_ne (by decide)
/-- They allocate nothing, -/
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp fresh_after) op hop
/-- and write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  obtain ⟨b, hb, e⟩ := writes_after hop
  rw [e, Finset.mem_singleton]
  refine StableHlo.devRef_ne_of_ne ?_
  have key : ∀ w : Fin 8, Pipeline.arrRef spec0 w ∉ [main_v14, main_cst, main_v15, main_v16] := by decide
  rintro rfl
  exact key w hb

/-- A buffer that no line before the region writes is found as launched. -/
theorem V_kept (c : Dev nD) (b : Ref sig .tc)
    (hb : b ∉ [main_v0, main_v1, main_v2, main_v3, main_v4, main_v5, main_v6, main_v7, main_v8, main_v9, main_v10, main_v11, main_v12]) :
    V m c b = m ((c : Thread nD τ).loc b) :=
  StableHlo.after_of_forall_not_mem (b := Proc.devRef .tc b) _ _ (fun op hop => by
    obtain ⟨b', hb', e⟩ := writes_before (by simpa using hop)
    rw [e, Finset.mem_singleton]
    refine StableHlo.devRef_ne_of_ne ?_
    rintro rfl
    exact hb hb')

/-! ## The prefetched tables -/

/-- The tables' contents when the region is entered (there is one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every window's block lies inside its array, whatever point of the grid reads the tables. -/
abbrev Ok : Prop := ok0 (F := F) (tbl m)
abbrev adm (hO : Ok m) : (pcfg0 (F := F)).Adm := ⟨tbl m, hO⟩
/-- The pipeline at the tables' contents. -/
abbrev cfgM (hO : Ok m) : Pipeline.Cfg sig Λ₀ := cfg0 (adm m hO)

/-- The tables as the body is handed them. -/
abbrev tb0 : Memref sig .tc .smem S544 .i32 := Memref.whole main_arg1
abbrev htb0 : tb0.IsWhole := Memref.isWhole_whole _
abbrev tb1 : Memref sig .tc .smem S1 .i32 := Memref.whole main_arg2
abbrev htb1 : tb1.IsWhole := Memref.isWhole_whole _

/-- A table held at half the full share: the pipeline keeps the other half. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem tables_eq (c : Dev nD) : (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- An argument ends as launched: no line writes it and no window stages it. -/
theorem arg_kept (hO : Ok m) (dats : (p : Fin _) → (c : Dev nD) → Dat τ (Elt F) Unit ℕ (UR sig nD τ) ℕ ((Pipeline.pin pcfgs fun _ => adm m hO) p) c) (c : Dev nD)
    (b : Ref sig .tc)
    (hb : b ∈ [main_arg0, main_arg1, main_arg2, main_arg3, main_arg4, main_arg5, main_arg6, main_arg7, main_arg8]) :
    Pipeline.afterTail pcfgs (fun _ => adm m hO) dats 0 (V0 m) [hostOps1] c b = m ((c : Thread nD τ).loc b) := by
  have h0 : b ∉ [main_v0, main_v1, main_v2, main_v3, main_v4, main_v5, main_v6, main_v7, main_v8, main_v9, main_v10, main_v11, main_v12] := by
    revert b; decide
  have h1 : b ∉ [main_v14, main_cst, main_v15, main_v16] := by clear h0; revert b; decide
  have h2 : ∀ w, Pipeline.arrRef spec0 w ≠ b := by clear h0 h1; revert b; decide
  unfold Pipeline.afterTail
  rw [StableHlo.after_of_forall_not_mem (b := Proc.devRef .tc b) _ _ (fun op hop => by
      obtain ⟨b', hb', e⟩ := writes_after (by simpa using hop)
      rw [e, Finset.mem_singleton]
      refine StableHlo.devRef_ne_of_ne ?_
      rintro rfl
      exact h1 hb'),
    Pipeline.withArrays_of_ne _ c (V0 m c) _ b (by exact h2)]
  exact V_kept m c b h0

/-! ## The windows' blocks -/

/-- Window `w`'s block at point `t`, as the region finds its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The frame's claim from a run that ends at the pipeline's post. -/
theorem frame_of (hO : Ok m) (dats : (p : Fin 1) → (c : Dev nD) → Dat τ (Elt F) Unit ℕ (UR sig nD τ) ℕ ((Pipeline.pin pcfgs fun _ => adm m hO) p) c)
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun _ h c => ?_) h
  have key : ∀ b ∈ [main_arg0, main_arg1, main_arg2, main_arg3, main_arg4, main_arg5, main_arg6, main_arg7, main_arg8],
      b ∈ Pipeline.restRefs sig spec0 := by decide
  exact ⟨((h c).2 main_arg0 (key _ (by decide))).trans (arg_kept m hO dats c _ (by decide)),
    ((h c).2 main_arg1 (key _ (by decide))).trans (arg_kept m hO dats c _ (by decide)),
    ((h c).2 main_arg2 (key _ (by decide))).trans (arg_kept m hO dats c _ (by decide)),
    ((h c).2 main_arg3 (key _ (by decide))).trans (arg_kept m hO dats c _ (by decide)),
    ((h c).2 main_arg4 (key _ (by decide))).trans (arg_kept m hO dats c _ (by decide)),
    ((h c).2 main_arg5 (key _ (by decide))).trans (arg_kept m hO dats c _ (by decide)),
    ((h c).2 main_arg6 (key _ (by decide))).trans (arg_kept m hO dats c _ (by decide)),
    ((h c).2 main_arg7 (key _ (by decide))).trans (arg_kept m hO dats c _ (by decide)),
    ((h c).2 main_arg8 (key _ (by decide))).trans (arg_kept m hO dats c _ (by decide))⟩

/-! ## Each window's current staging buffer -/

abbrev ms0 (hO : Ok m) (t : Fin (cfgM m hO).N) : Memref sig .tc .vmem S4096x128 .f32 := spec0_0.stage ((cfgM m hO).slots t 0)
abbrev ms1 (hO : Ok m) (t : Fin (cfgM m hO).N) : Memref sig .tc .vmem S1x1024x1024 .bf16 := spec0_1.stage ((cfgM m hO).slots t 1)
abbrev ms2 (hO : Ok m) (t : Fin (cfgM m hO).N) : Memref sig .tc .vmem S1x1x1024 .f32 := spec0_2.stage ((cfgM m hO).slots t 2)
abbrev ms3 (hO : Ok m) (t : Fin (cfgM m hO).N) : Memref sig .tc .vmem S1x1024x1024 .bf16 := spec0_3.stage ((cfgM m hO).slots t 3)
abbrev ms4 (hO : Ok m) (t : Fin (cfgM m hO).N) : Memref sig .tc .vmem S1x1x1024 .f32 := spec0_4.stage ((cfgM m hO).slots t 4)
abbrev ms5 (hO : Ok m) (t : Fin (cfgM m hO).N) : Memref sig .tc .vmem S1x1024x1024 .bf16 := spec0_5.stage ((cfgM m hO).slots t 5)
abbrev ms6 (hO : Ok m) (t : Fin (cfgM m hO).N) : Memref sig .tc .vmem S1x1x1024 .f32 := spec0_6.stage ((cfgM m hO).slots t 6)
abbrev ms7 (hO : Ok m) (t : Fin (cfgM m hO).N) : Memref sig .tc .vmem S4096x128 .f32 := spec0_7.stage ((cfgM m hO).slots t 7)

end Cert.Kernel5Ideal.Run

end
-- ==== Proof.ExpRun.lean ====
/- One run of the experts' body on any staging buffers, in its two cases: the tile is used, and it is not. -/
module

public import proofs.«01_k».proof.Proof.ExpKit
public import Idealize.ShloMosaic.Lib.WholeRead
public import Idealize.ShloMosaic.Lib.Pipeline.ValueKit

@[expose] public section

set_option maxRecDepth 16384

noncomputable section

namespace Cert.Kernel5Ideal.Run

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of used tiles as the body reads it from the second table. -/
abbrev word (c : Dev nD) (xt1 : TbBuf (F := F) c tb1) : Elt F .i32 :=
  View.readAt (Elt F) tb1.view (Rect.unit (s := S1) ![0] S1.size inb_S1_S1_0).toLoadRect xt1 (Shape.Idx.first (numel1_S1 ▸ Nat.one_pos))

/-- Row `8 r + j` of a tile kept as rows of 128 lanes is columns `128 j …` of its row `r`. -/
def lane (j : Fin 8) (x : Vec F S4096x128 .f32) : Vec F S512x128 .f32 := fun y => x (ix2 ⟨8 * (y 0).val + j.val, by have := (y 0).isLt; have h : S512x128.size 0 = 512 := rfl; have := j.isLt; omega⟩ (y 1))

/-- The tile's result, as 512 rows of 1024. -/
def full (x0 : Vec F S4096x128 .f32) (x1 : Vec F S1x1024x1024 .bf16) (x2 : Vec F S1x1x1024 .f32) (x3 : Vec F S1x1024x1024 .bf16) (x4 : Vec F S1x1x1024 .f32) (x5 : Vec F S1x1024x1024 .bf16) (x6 : Vec F S1x1x1024 .f32) : FVec F S512x1024 .f32 :=
  k0_pay8 (k0_pay6 (lane 0 x0) (lane 1 x0) (lane 2 x0) (lane 3 x0) (lane 4 x0) (lane 5 x0) (lane 6 x0) (lane 7 x0) x1 x2)
    (k0_pay7 (lane 0 x0) (lane 1 x0) (lane 2 x0) (lane 3 x0) (lane 4 x0) (lane 5 x0) (lane 6 x0) (lane 7 x0) x3) x4 x5 x6

/-- The same as the body stores it, 4096 rows of 128 lanes. -/
def stored (x0 : Vec F S4096x128 .f32) (x1 : Vec F S1x1024x1024 .bf16) (x2 : Vec F S1x1x1024 .f32) (x3 : Vec F S1x1024x1024 .bf16) (x4 : Vec F S1x1x1024 .f32) (x5 : Vec F S1x1024x1024 .bf16) (x6 : Vec F S1x1x1024 .f32) : Vec F S4096x128 .f32 :=
  fun y => full x0 x1 x2 x3 x4 x5 x6 (ix2 ⟨(y 0).val / 8, by have := (y 0).isLt; have h : S4096x128.size 0 = 4096 := rfl; omega⟩
    ⟨128 * ((y 0).val % 8) + (y 1).val, by have := (y 1).isLt; have h : S4096x128.size 1 = 128 := rfl; omega⟩)

/-- A whole buffer read at its full rectangle is its contents. -/
theorem read_all {S : Shape} {e : EltTy} {arg : Memref sig .tc .vmem S e} (h : arg.IsWhole) (x : S.Idx → Elt F e) (off : Fin S.rank → ℕ)
    (h0 : ∀ a, off a = 0) (inb : ∀ a, off a + S.size a ≤ S.size a) :
    View.readAt (Elt F) arg.view (Rect.unit (s := S) off S.size inb).toLoadRect (h.unread x) = x :=
  funext fun y => (h.readAt_unread x _ y).trans (congrArg x (funext fun a => Fin.ext (by
    show off a + 1 * (y a).val = (y a).val
    rw [h0 a]; omega)))

theorem zero3 : ∀ a : Fin 3, (![0, 0, 0] : Fin 3 → ℕ) a = 0 := by decide

/-- A strided read is a lane of the tile. -/
theorem read_lane {arg : Memref sig .tc .vmem S4096x128 .f32} (h : arg.IsWhole) (x : Vec F S4096x128 .f32) (j : ℕ) (hj : j < 8)
    (inb : ∀ a, S512x128.size a = 0 ∨ (![j, 0] : Fin 2 → ℕ) a + (![8, 1] : Fin 2 → ℕ) a * (S512x128.size a - 1) < S4096x128.size a) :
    View.readAt (Elt F) arg.view (⟨![j, 0], S512x128.size, ![8, 1], inb⟩ : LoadRect S4096x128) (h.unread x) = lane ⟨j, hj⟩ x :=
  funext fun y => (h.readAt_unread x _ y).trans (congrArg x (funext fun a => Fin.ext (by
    fin_cases a
    · show j + 8 * (y 0).val = 8 * (y 0).val + j
      omega
    · show 0 + 1 * (y 1).val = (y 1).val
      omega)))

/-- The columns `128 j …` of the result, stored at the rows `8 r + j`, are the stored tile there. -/
theorem piece_eq (x0 : Vec F S4096x128 .f32) (x1 : Vec F S1x1024x1024 .bf16) (x2 : Vec F S1x1x1024 .f32) (x3 : Vec F S1x1024x1024 .bf16) (x4 : Vec F S1x1x1024 .f32) (x5 : Vec F S1x1024x1024 .bf16) (x6 : Vec F S1x1x1024 .f32)
    (j o : ℕ) (ho : o = 128 * j) (hj : j < 8) (hs : S512x1024.Slices ![0, o] S512x128)
    (inb : ∀ a, S512x128.size a = 0 ∨ (![j, 0] : Fin 2 → ℕ) a + (![8, 1] : Fin 2 → ℕ) a * (S512x128.size a - 1) < S4096x128.size a)
    (sp : ∀ a, 0 < (![8, 1] : Fin 2 → ℕ) a) (x : S512x128.Idx) :
    extractStridedSlice S512x128 ![0, o] (full x0 x1 x2 x3 x4 x5 x6) hs x
      = stored x0 x1 x2 x3 x4 x5 x6 ((⟨⟨![j, 0], S512x128.size, ![8, 1], inb⟩, sp⟩ : Rect S4096x128).emb x) := by
  subst ho
  have h1 : (x 1).val < 128 := (x 1).isLt
  refine congrArg (full x0 x1 x2 x3 x4 x5 x6) (funext fun a => Fin.ext ?_)
  fin_cases a
  · show 0 + (x 0).val = (j + 8 * (x 0).val) / 8
    omega
  · show 128 * j + (x 1).val = 128 * ((j + 8 * (x 0).val) % 8) + (0 + 1 * (x 1).val)
    omega

/-- Every row of the stored tile is one of the rows `8 r + j`. -/
theorem mem_lane (y : S4096x128.Idx) (j : ℕ) (hy : (y 0).val % 8 = j)
    (inb : ∀ a, S512x128.size a = 0 ∨ (![j, 0] : Fin 2 → ℕ) a + (![8, 1] : Fin 2 → ℕ) a * (S512x128.size a - 1) < S4096x128.size a)
    (sp : ∀ a, 0 < (![8, 1] : Fin 2 → ℕ) a) :
    y ∈ (⟨⟨![j, 0], S512x128.size, ![8, 1], inb⟩, sp⟩ : Rect S4096x128).set := by
  have h0 : (y 0).val < 4096 := (y 0).isLt
  have h1 : (y 1).val < 128 := (y 1).isLt
  refine (LoadRect.mem_set _).mpr fun a => ?_
  fin_cases a
  · exact ⟨(y 0).val / 8, by show _ < 512; omega, by show (y 0).val = j + 8 * ((y 0).val / 8); omega⟩
  · exact ⟨(y 1).val, h1, by show (y 1).val = 0 + 1 * (y 1).val; omega⟩

set_option maxHeartbeats 2000000 in
/-- A tile past the last used one: the body touches nothing. -/
theorem run_unused (c : Dev nD) (i : grid0.Coords) (arg3 : Memref sig .tc .vmem S4096x128 .f32) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S4096x128 .f32) (harg10 : arg10.IsWhole)
    (xt1 : TbBuf (F := F) c tb1) (hi : ¬ k0_cond1 i (word c xt1) = 1#1) (E : Set ℕ) (K : PUnit → sProp 𝕄) :
    iprop(tbPt c tb1 xt1 ∗ (tbPt c tb1 xt1 -∗ K ⟨⟩))
      ⊢ wp frame (wpE (defs₀ (F := F)) Variants.none c none) E (cc0_moe_experts i tb0 htb0 tb1 htb1 arg3 harg3 arg4 harg4 arg5 harg5 arg6 harg6 arg7 harg7 arg8 harg8 arg9 harg9 arg10 harg10) K := by
  simp only [cc0_moe_experts_eq_skeleton]; unfold cc0_moe_experts_skel
  iintro ⟨HT1, Hk⟩
  sl_exec
  sl_step
  iapply Hk
  iexact HT1

set_option maxHeartbeats 2000000 in
/-- A used tile: the inputs stay, the output's buffer holds the tile's result. -/
theorem run_used (c : Dev nD) (i : grid0.Coords) (arg3 : Memref sig .tc .vmem S4096x128 .f32) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S4096x128 .f32) (harg10 : arg10.IsWhole)
    (x0 : Vec F S4096x128 .f32) (x1 : Vec F S1x1024x1024 .bf16) (x2 : Vec F S1x1x1024 .f32) (x3 : Vec F S1x1024x1024 .bf16) (x4 : Vec F S1x1x1024 .f32) (x5 : Vec F S1x1024x1024 .bf16) (x6 : Vec F S1x1x1024 .f32)
    (xt1 : TbBuf (F := F) c tb1) (hi : k0_cond1 i (word c xt1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ tbPt c tb1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (stored x0 x1 x2 x3 x4 x5 x6) ∗ tbPt c tb1 xt1) -∗ K ⟨⟩))
      ⊢ wp frame (wpE (defs₀ (F := F)) Variants.none c none) E (cc0_moe_experts i tb0 htb0 tb1 htb1 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr
    swap; · iexact H7
    ipureintro
    unfold run_used.sl.r_3 run_used.sl.r_4 run_used.sl.r_2 run_used.sl.r_1
    rw [read_lane harg3 x0 0 (by decide), read_lane harg3 x0 1 (by decide), read_lane harg3 x0 2 (by decide), read_lane harg3 x0 3 (by decide),
      read_lane harg3 x0 4 (by decide), read_lane harg3 x0 5 (by decide), read_lane harg3 x0 6 (by decide), read_lane harg3 x0 7 (by decide),
      read_all harg4 x1 _ zero3, read_all harg5 x2 _ zero3, read_all harg6 x3 _ zero3, read_all harg7 x4 _ zero3, read_all harg8 x5 _ zero3,
      read_all harg9 x6 _ zero3]
    refine funext fun y => View.read_writes_apply_of_pieces _ _ (stored x0 x1 x2 x3 x4 x5 x6) _ ?_ y ?_
    · intro p hp
      simp only [List.mem_cons, List.mem_nil_iff, or_false] at hp
      rcases hp with rfl | rfl | rfl | rfl | rfl | rfl | rfl | rfl
      · exact piece_eq x0 x1 x2 x3 x4 x5 x6 7 896 rfl (by decide) slices_S512x1024_o0_896_S512x128 _ _
      · exact piece_eq x0 x1 x2 x3 x4 x5 x6 6 768 rfl (by decide) slices_S512x1024_o0_768_S512x128 _ _
      · exact piece_eq x0 x1 x2 x3 x4 x5 x6 5 640 rfl (by decide) slices_S512x1024_o0_640_S512x128 _ _
      · exact piece_eq x0 x1 x2 x3 x4 x5 x6 4 512 rfl (by decide) slices_S512x1024_o0_512_S512x128 _ _
      · exact piece_eq x0 x1 x2 x3 x4 x5 x6 3 384 rfl (by decide) slices_S512x1024_o0_384_S512x128 _ _
      · exact piece_eq x0 x1 x2 x3 x4 x5 x6 2 256 rfl (by decide) slices_S512x1024_o0_256_S512x128 _ _
      · exact piece_eq x0 x1 x2 x3 x4 x5 x6 1 128 rfl (by decide) slices_S512x1024_o0_128_S512x128 _ _
      · exact piece_eq x0 x1 x2 x3 x4 x5 x6 0 0 rfl (by decide) slices_S512x1024_o0_0_S512x128 _ _
    · have h : (y 0).val % 8 < 8 := Nat.mod_lt _ (by decide)
      obtain h | h | h | h | h | h | h | h : (y 0).val % 8 = 0 ∨ (y 0).val % 8 = 1 ∨ (y 0).val % 8 = 2 ∨ (y 0).val % 8 = 3
        ∨ (y 0).val % 8 = 4 ∨ (y 0).val % 8 = 5 ∨ (y 0).val % 8 = 6 ∨ (y 0).val % 8 = 7 := by omega
      · exact ⟨_, .tail _ (.tail _ (.tail _ (.tail _ (.tail _ (.tail _ (.tail _ (.head _))))))), mem_lane y 0 h _ _⟩
      · exact ⟨_, .tail _ (.tail _ (.tail _ (.tail _ (.tail _ (.tail _ (.head _)))))), mem_lane y 1 h _ _⟩
      · exact ⟨_, .tail _ (.tail _ (.tail _ (.tail _ (.tail _ (.head _))))), mem_lane y 2 h _ _⟩
      · exact ⟨_, .tail _ (.tail _ (.tail _ (.tail _ (.head _)))), mem_lane y 3 h _ _⟩
      · exact ⟨_, .tail _ (.tail _ (.tail _ (.head _))), mem_lane y 4 h _ _⟩
      · exact ⟨_, .tail _ (.tail _ (.head _)), mem_lane y 5 h _ _⟩
      · exact ⟨_, .tail _ (.head _), mem_lane y 6 h _ _⟩
      · exact ⟨_, .head _, mem_lane y 7 h _ _⟩
  iexact HT1

end Cert.Kernel5Ideal.Run

end
-- ==== Proof.ExpTile.lean ====
module
public import proofs.«01_k».proof.Proof.ExpSpec
public import proofs.«01_k».proof.Proof.ExpRun
public import Idealize.ShloMosaic.Lib.Pipeline.ValueKit
@[expose] public section
set_option maxRecDepth 16384
noncomputable section
/-! The tile's stored values are the expert's results for its rows. -/
namespace Cert.Kernel5Ideal.Val
open Cert.Kernel5Ideal Cert.Kernel5Ideal.Gen Cert.Kernel5Ideal.Run Cert.Layer Idealize.ShloMosaic Idealize.ShloMosaic.TcCoe

variable (a : Fin 8 → FVec Ideal S512x128 .f32) (x0 : FVec Ideal S4096x128 .f32) (w : FVec Ideal S1x1024x1024 .bf16) (b : FVec Ideal S1x1x1024 .f32)

/-- The eight lanes side by side. -/
theorem pay5_at (r : Fin 512) (j : Fin 8) (e : Fin 128) :
    k0_pay5 (F := Ideal) (a 0) (a 1) (a 2) (a 3) (a 4) (a 5) (a 6) (a 7) (ix2 r ⟨128 * j.val + e.val, by omega⟩) = a j (ix2 r e) := by
  fin_cases j
  all_goals pointwise [k0_pay5]
  all_goals repeat' split
  all_goals first
    | (exfalso; omega)
    | exact congrArg (fun z => a _ (ix2 r z)) (Fin.ext (by dsimp only; omega))

/-- The same in terms of the tile: entry `k` of row `r` is lane `k mod 128` of the tile's row `8 r + k / 128`. -/
def entry (x0 : FVec Ideal S4096x128 .f32) (r : Fin 512) (k : Fin 1024) : EReal :=
  x0 (ix2 ⟨8 * r.val + k.val / 128, by omega⟩ ⟨k.val % 128, by omega⟩)

theorem pay5_entry (r : Fin 512) (k : Fin 1024) :
    k0_pay5 (F := Ideal) (lane 0 x0) (lane 1 x0) (lane 2 x0) (lane 3 x0) (lane 4 x0) (lane 5 x0) (lane 6 x0) (lane 7 x0) (ix2 r k) = entry x0 r k := by
  have h := pay5_at (fun j : Fin 8 => lane (F := Ideal) j x0) r ⟨k.val / 128, by omega⟩ ⟨k.val % 128, by omega⟩
  have hk : (⟨128 * (k.val / 128) + k.val % 128, by omega⟩ : Fin 1024) = k := Fin.ext (by show 128 * (k.val / 128) + k.val % 128 = k.val; omega)
  rw [hk] at h
  exact h

theorem pay6_at (r : Fin 512) (k : Fin 1024) :
    k0_pay6 (F := Ideal) (lane 0 x0) (lane 1 x0) (lane 2 x0) (lane 3 x0) (lane 4 x0) (lane 5 x0) (lane 6 x0) (lane 7 x0) w b (ix2 r k)
      = swGate (∑ d : Fin 1024, entry x0 r d * w (ix3 0 d k)) (b (ix3 0 0 k)) := by
  pointwise [k0_pay6, pay5_entry, swGate]

theorem pay7_at (r : Fin 512) (k : Fin 1024) :
    k0_pay7 (F := Ideal) (lane 0 x0) (lane 1 x0) (lane 2 x0) (lane 3 x0) (lane 4 x0) (lane 5 x0) (lane 6 x0) (lane 7 x0) w (ix2 r k)
      = ∑ d : Fin 1024, entry x0 r d * w (ix3 0 d k) := by
  pointwise [k0_pay7, pay5_entry]

theorem pay8_at (g s : FVec Ideal S512x1024 .f32) (bu : FVec Ideal S1x1x1024 .f32) (wd : FVec Ideal S1x1024x1024 .bf16) (bd : FVec Ideal S1x1x1024 .f32)
    (r : Fin 512) (c : Fin 1024) :
    k0_pay8 (F := Ideal) g s bu wd bd (ix2 r c)
      = (∑ k : Fin 1024, swAct (g (ix2 r k)) (swUp (s (ix2 r k)) (bu (ix3 0 0 k))) * wd (ix3 0 k c)) + bd (ix3 0 0 c) := by
  pointwise [k0_pay8, swAct, swUp]
  simp only [zero_sub]

/-- Entry `c` of row `r` of the tile's result. -/
theorem full_at (w1 w3 w5 : FVec Ideal S1x1024x1024 .bf16) (b2 b4 b6 : FVec Ideal S1x1x1024 .f32) (r : Fin 512) (c : Fin 1024) :
    full (F := Ideal) x0 w1 b2 w3 b4 w5 b6 (ix2 r c)
      = swRow (entry x0 r) (fun d k => w1 (ix3 0 d k)) (fun k => b2 (ix3 0 0 k)) (fun d k => w3 (ix3 0 d k)) (fun k => b4 (ix3 0 0 k))
          (fun d k => w5 (ix3 0 d k)) (fun k => b6 (ix3 0 0 k)) c := by
  unfold full swRow swHid
  rw [pay8_at]
  refine congrArg (· + _) (Finset.sum_congr rfl fun k _ => ?_)
  rw [pay6_at, pay7_at]

end Cert.Kernel5Ideal.Val
-- ==== Proof.ExpPoints.lean ====
/- What the schedule of the experts' grid is: which tiles are used, and where each point's block lies. -/
module

public import proofs.«01_k».proof.Proof.ExpRun
public import Idealize.ShloMosaic.Lib.WholeRead
public import Idealize.ShloMosaic.Lib.Pipeline.ValueKit

@[expose] public section

set_option maxRecDepth 16384

noncomputable section

namespace Cert.Kernel5Ideal.Run

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The number of used tiles, as a word and as a number. -/
abbrev nuW : BitVec 32 := word (F := F) (0 : Dev nD) (tbl m 1)
abbrev nuN : ℕ := (nuW m).toNat
/-- At least one tile is used, and no more than there are. -/
abbrev InRange : Prop := 1 ≤ nuN m ∧ nuN m ≤ 2147483647

theorem atD_eq : (tbl m).atD 1 ![0] = nuW m := by
  unfold Pipeline.Prefetch.Contents.atD
  rw [dif_pos (by intro a; fin_cases a; decide)]
  rfl
theorem at_eq : (tbl m).at 1 (Rect.unit (s := S1) ![0] S1.size inb_S1_S1_0) numel1_S1 = nuW m := rfl

theorem coord (t : Fin grid0.N) : (grid0.coords t 0).val = t.val := by
  have ht : t.val < 544 := t.isLt
  show t.val / _ % 544 = t.val
  rw [show grid0.stride 0 = 1 from by decide, Nat.div_one, Nat.mod_eq_of_lt ht]

theorem slt_small (a b : ℕ) (ha : a < 2 ^ 31) (hb : b < 2 ^ 31) : (BitVec.ofNat 32 a).slt (BitVec.ofNat 32 b) = decide (a < b) := by
  rw [BitVec.slt_eq_decide, BitVec.toInt_eq_toNat_of_lt, BitVec.toInt_eq_toNat_of_lt, BitVec.toNat_ofNat, BitVec.toNat_ofNat]
  · rw [Nat.mod_eq_of_lt (by omega), Nat.mod_eq_of_lt (by omega)]; simp
  all_goals rw [BitVec.toNat_ofNat, Nat.mod_eq_of_lt (by omega)]; omega

/-- The body's condition: the tile is one of the used ones. -/
theorem cond_iff (hR : InRange m) (t : Fin grid0.N) : k0_cond1 (grid0.coords t) (nuW m) = 1#1 ↔ t.val < nuN m := by
  have ht : t.val < 544 := t.isLt
  have hw : nuW m = BitVec.ofNat 32 (nuN m) := by simp [nuN]
  obtain ⟨h1, h2⟩ := hR
  unfold k0_cond1
  rw [coord, hw]
  simp only [Scalar.cmpi, IntOp.cmpi, Scalar.extui]
  rw [slt_small _ _ (by omega) (by omega)]
  by_cases h : t.val < nuN m
  · simp [h]
  · simp [h]

/-- The smaller of a small number and a word less one. -/
theorem min_word (v : BitVec 32) (n t : ℕ) (hn : v.toNat = n) (h1 : 1 ≤ n) (h2 : n ≤ 2147483647) (ht : t < 544) :
    (Scalar.minsi (BitVec.ofNat 32 t) (Scalar.subi v 1#32)).toNat = min t (n - 1) := by
  have hw : v = BitVec.ofNat 32 n := by rw [← hn]; simp
  have e : v - 1#32 = BitVec.ofNat 32 (n - 1) := by
    apply BitVec.eq_of_toNat_eq
    rw [hw, BitVec.toNat_sub, BitVec.toNat_ofNat, BitVec.toNat_ofNat, BitVec.toNat_ofNat]
    omega
  rw [show Scalar.subi v 1#32 = v - 1#32 from rfl, e]
  show (if (BitVec.ofNat 32 t).slt (BitVec.ofNat 32 (n - 1)) = true then BitVec.ofNat 32 t else BitVec.ofNat 32 (n - 1)).toNat = _
  by_cases h : t < n - 1
  · rw [if_pos (by rw [slt_small _ _ (by omega) (by omega)]; simpa using h), BitVec.toNat_ofNat]; omega
  · rw [if_neg (by rw [slt_small _ _ (by omega) (by omega)]; simpa using h), BitVec.toNat_ofNat]; omega

/-- The tile's block: past the last used tile it stays at that tile. -/
theorem transform7 (hR : InRange m) (t : Fin grid0.N) :
    cc0_transform_7 inb_S1_S1_0 numel1_S1 (tbl m) (grid0.coords t) = ![min t.val (nuN m - 1), 0] := by
  have ht : t.val < 544 := t.isLt
  have k := min_word (nuW m) (nuN m) t.val rfl hR.1 hR.2 ht
  refine (show cc0_transform_7 inb_S1_S1_0 numel1_S1 (tbl m) (grid0.coords t)
    = ![(Scalar.minsi (BitVec.ofNat 32 (grid0.coords t 0).val) (Scalar.subi (nuW m) 1#32)).toNat, 0] from rfl).trans ?_
  rw [coord, k]

end Cert.Kernel5Ideal.Run

end
-- ==== Proof.ExpPre.lean ====
/- The experts' precondition: its side conditions, the bounds it puts on the two tables, and what follows for the
   pipeline that reads them. -/
module

public import proofs.«01_k».proof.Pre_tiles_in_range
public import proofs.«01_k».proof.Proof.Pre
public import proofs.«01_k».proof.Proof.ExpPoints

@[expose] public section

set_option maxRecDepth 16384

noncomputable section

namespace Cert.Pre_tiles_in_range.Val
open Cert.Pre_tiles_in_range Cert.Pre_finite_inputs.Val Idealize.ShloMosaic

instance facts : Facts where
  bcast_S_S544 := by decide
  reducesTo_S544_S_d0 := by decide
  h_S_ := by decide
  bcast_S_S1 := by decide
  reducesTo_S1_S_d0 := by decide

theorem bool_one {b : Bool} (h : BitVec.ofBool b = 1#1) : b = true := by
  revert h; revert b; decide

/-- A signed word between two bounds that are not negative lies between them as a number. -/
theorem toNat_of_cmp (w lo hi : BitVec 32) (hlo : lo.toNat < 2 ^ 31) (hhi : hi.toNat < 2 ^ 31)
    (h1 : IntOp.cmpi .sge w lo = 1#1) (h2 : w.toInt ≤ hi.toInt) : lo.toNat ≤ w.toNat ∧ w.toNat ≤ hi.toNat := by
  have e : lo.sle w = true := bool_one h1
  rw [BitVec.sle_eq_decide, decide_eq_true_eq, BitVec.toInt_eq_toNat_of_lt (by omega)] at e
  rw [BitVec.toInt_eq_toNat_of_lt (x := hi) (by omega)] at h2
  have hw := w.isLt
  simp only [BitVec.toInt_eq_toNat_cond] at e h2
  split at e <;> omega

theorem bounds {F : FTy → Type} [FloatOps F] (x0 : FVec F S544x512x1024 .f32) (x1 : IVec S544 32) (x2 : IVec S1 32)
    (x3 : FVec F S32x1024x1024 .f32) (x4 : FVec F S32x1024 .f32) (x5 : FVec F S32x1024x1024 .f32) (x6 : FVec F S32x1024 .f32)
    (x7 : FVec F S32x1024x1024 .f32) (x8 : FVec F S32x1024 .f32)
    (h : fn (F := F) x0 x1 x2 x3 x4 x5 x6 x7 x8 = fun _ => 1#1) :
    (∀ i, (x1 i).toNat < 32) ∧ (∀ i, 1 ≤ (x2 i).toNat ∧ (x2 i).toNat ≤ 2147483647) := by
  have h0 := congrFun h (fun i => i.elim0)
  unfold fn at h0
  obtain ⟨h1, e2⟩ := and_one h0
  obtain ⟨e0, e1⟩ := and_one h1
  constructor
  · intro i
    have a := Host.reduce_andi_all _ _ _ _ _ e0 i
    have b := Host.reduce_andi_all _ _ _ _ _ e1 i
    have b' : (x1 i).slt 32#32 = true := bool_one b
    rw [BitVec.slt_eq_decide, decide_eq_true_eq] at b'
    have := toNat_of_cmp (x1 i) 0#32 31#32 (by decide) (by decide) a (by
      have : (32#32 : BitVec 32).toInt = 32 := by decide
      have : (31#32 : BitVec 32).toInt = 31 := by decide
      omega)
    have e : (31#32 : BitVec 32).toNat = 31 := by decide
    omega
  · intro i
    have a := Host.reduce_andi_all _ _ _ _ _ e2 i
    exact toNat_of_cmp (x2 i) 1#32 2147483647#32 (by decide) (by decide) a (by
      have e : (2147483647#32 : BitVec 32).toInt = 2147483647 := by decide
      have := (x2 i).isLt
      rw [e, BitVec.toInt_eq_toNat_cond]
      split <;> omega)

end Cert.Pre_tiles_in_range.Val

namespace Cert.Kernel5Ideal.Run

open Cert.Kernel5Ideal Cert.Kernel5Ideal.Gen
open Idealize.ShloMosaic Idealize.ShloMosaic.TcCoe

variable {F : FTy → Type} [FloatOps F]
variable (m : (ℓ : Loc nD τ sig) → Buf (Elt F) ℓ)

/-- The experts the tiles name, and the number of used tiles, as launched. -/
abbrev te : IVec S544 32 := m (((0 : Dev nD) : Thread nD τ).loc main_arg1)
abbrev nu : IVec S1 32 := m (((0 : Dev nD) : Thread nD τ).loc main_arg2)

theorem tbl0 : tbl m 0 = te m := V_kept m 0 main_arg1 (by decide)
theorem tbl1 : tbl m 1 = nu m := V_kept m 0 main_arg2 (by decide)

theorem inRange (h : ∀ i, 1 ≤ (nu m i).toNat ∧ (nu m i).toNat ≤ 2147483647) : InRange m := by
  have k : ∀ i, 1 ≤ (tbl m 1 i : BitVec 32).toNat ∧ (tbl m 1 i : BitVec 32).toNat ≤ 2147483647 := by rw [tbl1]; exact h
  exact k _

/-- A word of the first table, at any offset the index maps read. -/
theorem at_lt (h : ∀ i, (te m i).toNat < 32) (i : grid0.Coords) :
    ((tbl m).at 0 (Rect.unit (s := S544) (k0_off1 i) S1.size (k0_off1_inb i)) numel1_S1 : BitVec 32).toNat < 32 := by
  have k : ∀ i, (tbl m 0 i : BitVec 32).toNat < 32 := by rw [tbl0]; exact h
  exact k _

theorem blocks3 (n s0 : ℕ) (hn : n < 32) (size : Fin 3 → ℕ) (hs : size = ![1, s0, 1024]) :
    ∀ a : Fin 3, ((![n, 0, 0] : Fin 3 → ℕ) a + 1) * size a ≤ (![32, s0, 1024] : Fin 3 → ℕ) a := by
  subst hs
  intro a; fin_cases a <;> simp <;> omega

theorem blocks2 (n : ℕ) (hn : n < 544) : ∀ a, ((![n, 0] : Fin 2 → ℕ) a + 1) * S4096x128.size a ≤ S2228224x128.size a := by
  intro a; fin_cases a <;> simp <;> omega

/-- A tile's weights are whole words whichever expert they are. -/
theorem words (ix : Fin 3 → ℕ) (n : ℕ) (e : ix = ![n, 0, 0]) (h : ∀ a, (ix a + 1) * S1x1024x1024.size a ≤ S32x1024x1024.size a) :
    (Rect.block (s := S32x1024x1024) S1x1024x1024.size ix h).WholeWords (EltTy.packing .bf16) := by
  subst e
  refine .inr ⟨by decide, rfl, ?_, rfl⟩
  exact Nat.zero_mul _

theorem coords_eq (i : grid0.Coords) : ∃ t : Fin grid0.N, grid0.coords t = i := by
  have hi : (i 0).val < 544 := (i 0).isLt
  refine ⟨⟨(i 0).val, hi⟩, ?_⟩
  funext a
  obtain rfl : a = 0 := Subsingleton.elim _ _
  exact Fin.ext (coord ⟨(i 0).val, hi⟩)

/-- Under the precondition every window's block lies inside its array. -/
theorem ok (h : ∀ i, (te m i).toNat < 32) (hR : InRange m) : Ok m := by
  have k7 : ∀ i : grid0.Coords, ∃ n, n < 544 ∧ cc0_transform_7 inb_S1_S1_0 numel1_S1 (tbl m) i = ![n, 0] := fun i => by
    obtain ⟨t, rfl⟩ := coords_eq i
    have := hR.2
    have ht : t.val < 544 := t.isLt
    exact ⟨min t.val (nuN m - 1), by omega, transform7 m hR t⟩
  have p7 : ∀ i : grid0.Coords, ∀ a, (cc0_transform_7 inb_S1_S1_0 numel1_S1 (tbl m) i a + 1) * S4096x128.size a ≤ S2228224x128.size a := fun i => by
    obtain ⟨n, hn, e⟩ := k7 i
    rw [e]; exact blocks2 n hn
  have b := at_lt m h
  refine ⟨fun i => ⟨p7 i, .inl rfl⟩, fun i => ⟨blocks3 _ 1024 (b i) _ rfl, .inr (words _ _ rfl _)⟩, fun i => ⟨blocks3 _ 1 (b i) _ rfl, .inl rfl⟩,
    fun i => ⟨blocks3 _ 1024 (b i) _ rfl, .inr (words _ _ rfl _)⟩, fun i => ⟨blocks3 _ 1 (b i) _ rfl, .inl rfl⟩,
    fun i => ⟨blocks3 _ 1024 (b i) _ rfl, .inr (words _ _ rfl _)⟩, fun i => ⟨blocks3 _ 1 (b i) _ rfl, .inl rfl⟩,
    fun i => ⟨p7 i, .inl rfl⟩⟩

end Cert.Kernel5Ideal.Run

end
-- ==== Proof.ExpHost.lean ====
module
public import proofs.«01_k».proof.Proof.ExpPre
public import Idealize.ShloMosaic.Lib.Pointwise
public import Idealize.ShloMosaic.Lib.Pipeline.ValueKit
public import Idealize.ShloMosaic.Lib.Claim
public import Idealize.ShloMosaic.Lib.StableHlo.RunRead
@[expose] public section
set_option maxRecDepth 16384
noncomputable section
/-! The arrays that the host lines before the experts' region prepare. -/
namespace Cert.Kernel5Ideal.Val
open Cert.Kernel5Ideal Cert.Kernel5Ideal.Gen Cert.Kernel5Ideal.Run Idealize.ShloMosaic Idealize.ShloMosaic.TcCoe Idealize.SL.Sem
variable (m : (ℓ : Loc nD τ sig) → Buf (Elt Ideal) ℓ) (c : Dev nD)

abbrev in0 : FVec Ideal S544x512x1024 .f32 := m ((c : Thread nD τ).loc main_arg0)
abbrev in1 : IVec S544 32 := m ((c : Thread nD τ).loc main_arg1)
abbrev in2 : IVec S1 32 := m ((c : Thread nD τ).loc main_arg2)
abbrev in3 : FVec Ideal S32x1024x1024 .f32 := m ((c : Thread nD τ).loc main_arg3)
abbrev in4 : FVec Ideal S32x1024 .f32 := m ((c : Thread nD τ).loc main_arg4)
abbrev in5 : FVec Ideal S32x1024x1024 .f32 := m ((c : Thread nD τ).loc main_arg5)
abbrev in6 : FVec Ideal S32x1024 .f32 := m ((c : Thread nD τ).loc main_arg6)
abbrev in7 : FVec Ideal S32x1024x1024 .f32 := m ((c : Thread nD τ).loc main_arg7)
abbrev in8 : FVec Ideal S32x1024 .f32 := m ((c : Thread nD τ).loc main_arg8)

theorem wg_host (e : Fin 32) (d k : Fin 1024) : (show FVec Ideal S32x1024x1024 .bf16 from V m c main_v0) (ix3 e d k) = in3 m c (ix3 e d k) := by
  show (StableHlo.after hostOps0 _ _) _ = _
  after_reads_simp
  pointwise []
theorem wu_host (e : Fin 32) (d k : Fin 1024) : (show FVec Ideal S32x1024x1024 .bf16 from V m c main_v2) (ix3 e d k) = in5 m c (ix3 e d k) := by
  show (StableHlo.after hostOps0 _ _) _ = _
  after_reads_simp
  pointwise []
theorem wd_host (e : Fin 32) (d k : Fin 1024) : (show FVec Ideal S32x1024x1024 .bf16 from V m c main_v4) (ix3 e d k) = in7 m c (ix3 e d k) := by
  show (StableHlo.after hostOps0 _ _) _ = _
  after_reads_simp
  pointwise []
theorem bg_host (e : Fin 32) (k : Fin 1024) : (show FVec Ideal S32x1x1024 .f32 from V m c main_v1) (ix3 e 0 k) = in4 m c (ix2 e k) := by
  show (StableHlo.after hostOps0 _ _) _ = _
  after_reads_simp
  pointwise []
theorem bu_host (e : Fin 32) (k : Fin 1024) : (show FVec Ideal S32x1x1024 .f32 from V m c main_v3) (ix3 e 0 k) = in6 m c (ix2 e k) := by
  show (StableHlo.after hostOps0 _ _) _ = _
  after_reads_simp
  pointwise []
theorem bd_host (e : Fin 32) (k : Fin 1024) : (show FVec Ideal S32x1x1024 .f32 from V m c main_v5) (ix3 e 0 k) = in8 m c (ix2 e k) := by
  show (StableHlo.after hostOps0 _ _) _ = _
  after_reads_simp
  pointwise []

theorem mask_host (t : Fin 544) (R : Fin 4096) (l : Fin 128) :
    (show IVec S544x4096x128 1 from V m c main_v11) (ix3 t R l) = IntOp.cmpi .slt (BitVec.ofNat 32 t.val) (in2 m c (ix1 0)) := by
  show (StableHlo.after hostOps0 _ _) _ = _
  after_reads_simp
  pointwise []

theorem x_host (t : Fin 544) (r : Fin 512) (d : Fin 1024) (R : Fin 2228224) (l : Fin 128) (h : R.val * 128 + l.val = (t.val * 512 + r.val) * 1024 + d.val) :
    (show FVec Ideal S2228224x128 .f32 from V m c main_v12) (ix2 R l) = in0 m c (ix3 t r d) := by
  show (StableHlo.after hostOps0 _ _) _ = _
  after_reads_simp
  refine shapeCast_apply _ _ _ _ ?_
  show (S544x512x1024.rowMajor (ix3 t r d)).val = (S2228224x128.rowMajor (ix2 R l)).val
  rewrite [Shape.rowMajor_val_three, Shape.rowMajor_val_two]
  exact h.symm

end Cert.Kernel5Ideal.Val
-- ==== Proof.ExpTraj.lean ====
/- The experts' run: the pipeline's proof data, and what the body finds at every point of the grid. -/
module

public import proofs.«01_k».proof.Proof.ExpPoints
public import Idealize.ShloMosaic.Lib.WholeRead
public import Idealize.ShloMosaic.Lib.Pipeline.ValueKit

@[expose] public section

set_option maxRecDepth 16384

noncomputable section

namespace Cert.Kernel5Ideal.Run

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tile's result from its blocks. -/
def outAt (hO : Ok m) (c : Dev nD) (t : Fin (cfgM m hO).N) : Vec F S4096x128 .f32 :=
  stored (iblk m hO c 0 t) (iblk m hO c 1 t) (iblk m hO c 2 t) (iblk m hO c 3 t) (iblk m hO c 4 t) (iblk m hO c 5 t) (iblk m hO c 6 t)

/-- The point whose result the output's buffer holds after point `t`: past the last used tile it is that tile. -/
def lastUsed (hO : Ok m) (t : Fin (cfgM m hO).N) : Fin (cfgM m hO).N :=
  ⟨min t.val (nuN m - 1), lt_of_le_of_lt (min_le_left _ _) t.isLt⟩

/-- The pipeline's proof data on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outAt m hO c (lastUsed m hO t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = iblk m hO c 6 t := by dsimp only [dats]; try rfl
theorem after_7 (hO : Ok m) (c : Dev nD) (t : Fin (cfgM m hO).N) : (dats m hO 0 c).after 7 t = outAt m hO c (lastUsed m hO t) := by dsimp only [dats]; try rfl

/-! ## What the body finds -/

theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (hO : Ok m) (c : Dev nD) (t : Fin (cfgM m hO).N) (d) : (dats m hO 0 c).before 6 t d = iblk m hO c 6 t :=
  ((dats m hO 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-- The output is written back after each used tile but the last one, and after the last point. -/
theorem flush_7 (hO : Ok m) (hR : InRange m) (t : Fin (cfgM m hO).N) :
    ((cfgM m hO).win 7).flush t = decide (t.val + 1 = 544 ∨ t.val + 1 < nuN m) := by
  have ht : t.val < 544 := t.isLt
  obtain ⟨h1, h2⟩ := hR
  have ix : ∀ t : Fin (cfgM m hO).N, ((cfgM m hO).win 7).index t = ![min t.val (nuN m - 1), 0] := fun t => transform7 m ⟨h1, h2⟩ t
  have e : ((cfgM m hO).win 7).flush t = decide (t.val + 1 = 544 ∨ ∃ h : t.val + 1 < 544, ((cfgM m hO).win 7).index ⟨t.val + 1, h⟩ ≠ ((cfgM m hO).win 7).index t) := by
    unfold Window.flush
    rw [show ((cfgM m hO).win 7).isOut = true from rfl, Bool.true_and, ← Bool.decide_or]
    rfl
  rw [e]
  refine decide_eq_decide.mpr (or_congr_right' fun h => ⟨fun ⟨hh, hne⟩ => ?_, fun hlt => ⟨by omega, ?_⟩⟩)
  · by_contra hc
    refine hne ?_
    rw [ix, ix]
    show ![min (t.val + 1) (nuN m - 1), 0] = _
    rw [show min (t.val + 1) (nuN m - 1) = min t.val (nuN m - 1) by omega]
  · rw [ix, ix]
    intro hc
    have := congrFun hc 0
    have h' : min (t.val + 1) (nuN m - 1) = min t.val (nuN m - 1) := this
    omega

/-- Where the output is left alone, as the body's condition says it. -/
theorem idle_fun (a : (pcfg0 (F := F)).Adm) : (cfg0 a).idle = idle0 a.1 := rfl
theorem idle_out (pf : pre0.Contents (Elt F)) : idle0 pf 7 = fun i => !(k0_cond1 i (pf.atD 1 ![0]) == 1#1) := rfl

/-- It is left alone at the points past the last used tile. -/
theorem idle_7 (hO : Ok m) (hR : InRange m) (t : Fin (cfgM m hO).N) :
    (cfgM m hO).idle 7 ((cfgM m hO).grid.coords t) = decide (nuN m ≤ t.val) := by
  have e : (cfgM m hO).idle 7 = fun i => !(k0_cond1 i (nuW m) == 1#1) :=
    (congrFun (idle_fun (adm m hO)) 7).trans ((idle_out (tbl m)).trans (by rw [atD_eq]))
  refine (congrFun e _).trans ?_
  have h2 := cond_iff m hR t
  generalize hb : k0_cond1 (grid0.coords t) (nuW m) = b at h2
  refine Eq.trans (b := !(b == 1#1)) (by rw [← hb]) ?_
  by_cases h : t.val < nuN m
  · rw [h2.mpr h]; simp; exact h
  · have hne : (b == 1#1) = false := beq_false_of_ne fun e => h (h2.mp e)
    rw [hne, decide_eq_true (Nat.le_of_not_lt h)]
    rfl

/-- After the first tile and before the last write-back the buffer holds a tile's result wherever no write-back has just been made. -/
theorem fresh_7 (hO : Ok m) (hR : InRange m) : ∀ n, n ≤ (cfgM m hO).N → (cfgM m hO).fresh 7 n = decide (n < nuN m ∨ n = 544) := by
  refine Pipeline.Cfg.fresh_tab _ 7 (fun n => decide (n < nuN m ∨ n = 544)) ?_ ?_
  · have := hR.1; simp; omega
  · intro t
    rw [flush_7 m hO hR, idle_7 m hO hR]
    have ht : t.val < 544 := t.isLt
    have h1 := hR.1
    have h2 := hR.2
    by_cases h : nuN m ≤ t.val <;> by_cases h' : t.val + 1 < nuN m <;> by_cases h'' : t.val + 1 = 544 <;> simp [h, h', h''] <;> omega

/-- At a point past the last used tile the body finds that tile's result. -/
theorem before_7 (hO : Ok m) (hR : InRange m) (c : Dev nD) (t : Fin (cfgM m hO).N) (h : nuN m ≤ t.val) (d) :
    (dats m hO 0 c).before 7 t d = (dats m hO 0 c).after 7 t := by
  have ht : t.val < 544 := t.isLt
  have h1 := hR.1
  have carry : ∀ (t : Fin (cfgM m hO).N) (_ : t.val ≠ 0), nuN m ≤ t.val → (dats m hO 0 c).after 7 t = (dats m hO 0 c).after 7 ⟨t.val - 1, by omega⟩ := by
    intro t _ h
    rw [after_7, after_7]
    refine congrArg (outAt m hO c) (Fin.ext ?_)
    show min t.val (nuN m - 1) = min (t.val - 1) (nuN m - 1)
    omega
  rw [(dats m hO 0 c).before_out_traj 7 rfl (fun _ _ => rfl) (fun t ht0 hi _ => carry t ht0 (by rw [idle_7 m hO hR] at hi; simpa using hi)) t.val t rfl d,
    fresh_7 m hO hR t.val (le_of_lt t.isLt), if_neg (by simp; omega)]
  exact (carry t (by omega) h).symm

end Cert.Kernel5Ideal.Run

end
-- ==== Proof.ExpBlocks.lean ====
module
public import proofs.«01_k».proof.Proof.ExpPre
public import proofs.«01_k».proof.Proof.ExpTraj
public import Idealize.ShloMosaic.Lib.Pointwise
public import Idealize.ShloMosaic.Lib.Pipeline.ValueKit
@[expose] public section
set_option maxRecDepth 16384
noncomputable section
/-! The blocks of a point of the experts' grid. -/
namespace Cert.Kernel5Ideal.Val
open Cert.Kernel5Ideal Cert.Kernel5Ideal.Gen Cert.Kernel5Ideal.Run Idealize.ShloMosaic Idealize.ShloMosaic.TcCoe Idealize.SL.Sem
variable (m : (ℓ : Loc nD τ sig) → Buf (Elt Ideal) ℓ) (hO : Ok m) (hR : InRange m) (c : Dev nD) (t : Fin (cfgM m hO).N)

theorem pt_lt : t.val < 544 := t.isLt

/-- The word of the table of experts that point `t` reads. -/
theorem word_at (t : Fin grid0.N) (h : t.val < 544) :
    (tbl m).at 0 (Rect.unit (s := S544) (k0_off1 (grid0.coords t)) S1.size (k0_off1_inb _)) numel1_S1 = te m (ix1 ⟨t.val, h⟩) := by
  refine Eq.trans (b := tbl m 0 (ix1 ⟨t.val, h⟩)) ?_ (congrFun (tbl0 m) _)
  refine congrArg (tbl m 0) (funext fun (a : Fin 1) => Fin.ext ?_)
  obtain rfl : a = 0 := Subsingleton.elim _ _
  show (BitVec.ofNat 32 (grid0.coords t 0).val).toNat + 1 * 0 = t.val
  rw [coord, BitVec.toNat_ofNat]
  omega

/-- The index of the weights' windows. -/
def wix : Fin 3 → ℕ := ![(te m (ix1 ⟨t.val, pt_lt m hO t⟩)).toNat, 0, 0]

theorem idx1 : ((cfgM m hO).win 1).index t = wix m hO t := congrArg (fun v : BitVec 32 => ![v.toNat, 0, 0]) (word_at m t t.isLt)
theorem idx2 : ((cfgM m hO).win 2).index t = wix m hO t := congrArg (fun v : BitVec 32 => ![v.toNat, 0, 0]) (word_at m t t.isLt)
theorem idx3 : ((cfgM m hO).win 3).index t = wix m hO t := congrArg (fun v : BitVec 32 => ![v.toNat, 0, 0]) (word_at m t t.isLt)
theorem idx4 : ((cfgM m hO).win 4).index t = wix m hO t := congrArg (fun v : BitVec 32 => ![v.toNat, 0, 0]) (word_at m t t.isLt)
theorem idx5 : ((cfgM m hO).win 5).index t = wix m hO t := congrArg (fun v : BitVec 32 => ![v.toNat, 0, 0]) (word_at m t t.isLt)
theorem idx6 : ((cfgM m hO).win 6).index t = wix m hO t := congrArg (fun v : BitVec 32 => ![v.toNat, 0, 0]) (word_at m t t.isLt)
include hR in
theorem idx7 : ((cfgM m hO).win 7).index t = ![min t.val (nuN m - 1), 0] := transform7 m hR t
include hR in
theorem idx0 : ((cfgM m hO).win 0).index t = ![min t.val (nuN m - 1), 0] := transform7 m hR t

variable (he : ∀ i, (te m i).toNat < 32)
/-- The expert of point `t`. -/
def exK : Fin 32 := ⟨(te m (ix1 ⟨t.val, pt_lt m hO t⟩)).toNat, he _⟩

theorem blk_wg (d k : Fin 1024) :
    (show FVec Ideal S1x1024x1024 .bf16 from iblk m hO c 1 t) (ix3 0 d k) = (show FVec Ideal S32x1024x1024 .bf16 from V m c main_v0) (ix3 (exK m hO t he) d k) := by
  refine congrArg (V m c main_v0) (funext fun (a : Fin 3) => Fin.ext ?_)
  have hv : ∀ a : Fin 3, ((((cfgM m hO).win 1).blk t).view.emb (ix3 0 d k) a).val = ((cfgM m hO).win 1).index t a * S1x1024x1024.size a + 1 * (ix3 (n0 := 1) 0 d k a).val := fun a => rfl
  refine (hv a).trans ?_
  rw [idx1]
  have ha : a = 0 ∨ a = 1 ∨ a = 2 := by revert a; decide
  rcases ha with rfl | rfl | rfl
  · show (te m _).toNat * 1 + 1 * 0 = (te m _).toNat; omega
  · show 0 * 1024 + 1 * d.val = d.val; omega
  · show 0 * 1024 + 1 * k.val = k.val; omega

theorem blk_wu (d k : Fin 1024) :
    (show FVec Ideal S1x1024x1024 .bf16 from iblk m hO c 3 t) (ix3 0 d k) = (show FVec Ideal S32x1024x1024 .bf16 from V m c main_v2) (ix3 (exK m hO t he) d k) := by
  refine congrArg (V m c main_v2) (funext fun (a : Fin 3) => Fin.ext ?_)
  have hv : ∀ a : Fin 3, ((((cfgM m hO).win 3).blk t).view.emb (ix3 0 d k) a).val = ((cfgM m hO).win 3).index t a * S1x1024x1024.size a + 1 * (ix3 (n0 := 1) 0 d k a).val := fun a => rfl
  refine (hv a).trans ?_
  rw [idx3]
  have ha : a = 0 ∨ a = 1 ∨ a = 2 := by revert a; decide
  rcases ha with rfl | rfl | rfl
  · show (te m _).toNat * 1 + 1 * 0 = (te m _).toNat; omega
  · show 0 * 1024 + 1 * d.val = d.val; omega
  · show 0 * 1024 + 1 * k.val = k.val; omega

theorem blk_wd (d k : Fin 1024) :
    (show FVec Ideal S1x1024x1024 .bf16 from iblk m hO c 5 t) (ix3 0 d k) = (show FVec Ideal S32x1024x1024 .bf16 from V m c main_v4) (ix3 (exK m hO t he) d k) := by
  refine congrArg (V m c main_v4) (funext fun (a : Fin 3) => Fin.ext ?_)
  have hv : ∀ a : Fin 3, ((((cfgM m hO).win 5).blk t).view.emb (ix3 0 d k) a).val = ((cfgM m hO).win 5).index t a * S1x1024x1024.size a + 1 * (ix3 (n0 := 1) 0 d k a).val := fun a => rfl
  refine (hv a).trans ?_
  rw [idx5]
  have ha : a = 0 ∨ a = 1 ∨ a = 2 := by revert a; decide
  rcases ha with rfl | rfl | rfl
  · show (te m _).toNat * 1 + 1 * 0 = (te m _).toNat; omega
  · show 0 * 1024 + 1 * d.val = d.val; omega
  · show 0 * 1024 + 1 * k.val = k.val; omega

theorem blk_bg (k : Fin 1024) :
    (show FVec Ideal S1x1x1024 .f32 from iblk m hO c 2 t) (ix3 0 0 k) = (show FVec Ideal S32x1x1024 .f32 from V m c main_v1) (ix3 (exK m hO t he) 0 k) := by
  refine congrArg (V m c main_v1) (funext fun (a : Fin 3) => Fin.ext ?_)
  have hv : ∀ a : Fin 3, ((((cfgM m hO).win 2).blk t).view.emb (ix3 0 0 k) a).val = ((cfgM m hO).win 2).index t a * S1x1x1024.size a + 1 * (ix3 (n0 := 1) (n1 := 1) 0 0 k a).val := fun a => rfl
  refine (hv a).trans ?_
  rw [idx2]
  have ha : a = 0 ∨ a = 1 ∨ a = 2 := by revert a; decide
  rcases ha with rfl | rfl | rfl
  · show (te m _).toNat * 1 + 1 * 0 = (te m _).toNat; omega
  · show 0 * 1 + 1 * 0 = 0; omega
  · show 0 * 1024 + 1 * k.val = k.val; omega

theorem blk_bu (k : Fin 1024) :
    (show FVec Ideal S1x1x1024 .f32 from iblk m hO c 4 t) (ix3 0 0 k) = (show FVec Ideal S32x1x1024 .f32 from V m c main_v3) (ix3 (exK m hO t he) 0 k) := by
  refine congrArg (V m c main_v3) (funext fun (a : Fin 3) => Fin.ext ?_)
  have hv : ∀ a : Fin 3, ((((cfgM m hO).win 4).blk t).view.emb (ix3 0 0 k) a).val = ((cfgM m hO).win 4).index t a * S1x1x1024.size a + 1 * (ix3 (n0 := 1) (n1 := 1) 0 0 k a).val := fun a => rfl
  refine (hv a).trans ?_
  rw [idx4]
  have ha : a = 0 ∨ a = 1 ∨ a = 2 := by revert a; decide
  rcases ha with rfl | rfl | rfl
  · show (te m _).toNat * 1 + 1 * 0 = (te m _).toNat; omega
  · show 0 * 1 + 1 * 0 = 0; omega
  · show 0 * 1024 + 1 * k.val = k.val; omega

theorem blk_bd (k : Fin 1024) :
    (show FVec Ideal S1x1x1024 .f32 from iblk m hO c 6 t) (ix3 0 0 k) = (show FVec Ideal S32x1x1024 .f32 from V m c main_v5) (ix3 (exK m hO t he) 0 k) := by
  refine congrArg (V m c main_v5) (funext fun (a : Fin 3) => Fin.ext ?_)
  have hv : ∀ a : Fin 3, ((((cfgM m hO).win 6).blk t).view.emb (ix3 0 0 k) a).val = ((cfgM m hO).win 6).index t a * S1x1x1024.size a + 1 * (ix3 (n0 := 1) (n1 := 1) 0 0 k a).val := fun a => rfl
  refine (hv a).trans ?_
  rw [idx6]
  have ha : a = 0 ∨ a = 1 ∨ a = 2 := by revert a; decide
  rcases ha with rfl | rfl | rfl
  · show (te m _).toNat * 1 + 1 * 0 = (te m _).toNat; omega
  · show 0 * 1 + 1 * 0 = 0; omega
  · show 0 * 1024 + 1 * k.val = k.val; omega

/-- The tile whose rows point `t` reads. -/
def tile (hR : InRange m) : Fin 544 := ⟨min t.val (nuN m - 1), by have := pt_lt m hO t; omega⟩

include hR in
theorem blk_x (R : Fin 4096) (l : Fin 128) (Q : Fin 2228224) (hQ : Q.val = 4096 * min t.val (nuN m - 1) + R.val) :
    (show FVec Ideal S4096x128 .f32 from iblk m hO c 0 t) (ix2 R l) = (show FVec Ideal S2228224x128 .f32 from V m c main_v12) (ix2 Q l) := by
  refine congrArg (V m c main_v12) (funext fun (a : Fin 2) => Fin.ext ?_)
  have hv : ∀ a : Fin 2, ((((cfgM m hO).win 0).blk t).view.emb (ix2 R l) a).val = ((cfgM m hO).win 0).index t a * S4096x128.size a + 1 * (ix2 R l a).val := fun a => rfl
  refine (hv a).trans ?_
  rw [idx0 m hO hR]
  have ha : a = 0 ∨ a = 1 := by revert a; decide
  rcases ha with rfl | rfl
  · show min t.val (nuN m - 1) * 4096 + 1 * R.val = Q.val; omega
  · show 0 * 128 + 1 * l.val = l.val; omega

/-- Where the output's block at point `t` lies. -/
theorem out_emb (y : S4096x128.Idx) (a : Fin 2) :
    ((((cfgM m hO).win 7).blk t).view.emb y a).val = ((cfgM m hO).win 7).index t a * S4096x128.size a + 1 * (y a).val := rfl

end Cert.Kernel5Ideal.Val
-- ==== Proof.ExpRef.lean ====
module
public import proofs.«01_k».proof.Proof.ExpSpec
public import Idealize.ShloMosaic.Lib.Pointwise
public import proofs.«01_k».proof.Proof.Gen.Reference5Ideal.Run
public import proofs.«01_k».proof.Proof.Gen.Reference5Ideal.Read
@[expose] public section
set_option maxRecDepth 16384
noncomputable section
/-! The reference of the experts: each gather takes its tile's expert, and the result is that expert's for the row. -/
namespace Cert.Reference5Ideal.Val
open Cert.Reference5Ideal Cert.Reference5Ideal.Gen Cert.Reference5Ideal.Read Cert.Layer Idealize.ShloMosaic

/-- A number under 32, read signed and held under 32, is itself. -/
theorem held (v : BitVec 32) (h : v.toNat < 32) : min v.toInt.toNat (32 - 1) = v.toNat := by
  have : v.toInt = (v.toNat : Int) := BitVec.toInt_eq_toNat_of_lt (by omega)
  rw [this, Int.toNat_natCast]; omega

/-- The weights' gather at a tile: the matrix of the tile's expert. -/
theorem take3 (x : FVec Ideal S32x1024x1024 .f32) (v : IVec S544x1 32) (t : Fin 544) (d k : Fin 1024) (h : (v (ix2 t 0)).toNat < 32) :
    Host.gather gather_S32x1024x1024_S544x1_S544x1024x1024_12_0_n_n_0_1_110241024 x v (ix3 t d k) = x (ix3 ⟨(v (ix2 t 0)).toNat, h⟩ d k) := by
  unfold Host.gather
  congr 1
  funext a
  refine Fin.ext ?_
  show gather_S32x1024x1024_S544x1_S544x1024x1024_12_0_n_n_0_1_110241024.start (ix3 t d k) v a + gather_S32x1024x1024_S544x1_S544x1024x1024_12_0_n_n_0_1_110241024.batchCoord (ix3 t d k) a + gather_S32x1024x1024_S544x1_S544x1024x1024_12_0_n_n_0_1_110241024.offCoord (ix3 t d k) a = _
  rw [GatherDims.batchCoord_eq_zero _ _ _ List.not_mem_nil, Nat.add_zero]
  have ha : a = 0 ∨ a = 1 ∨ a = 2 := by revert a; decide
  rcases ha with rfl | rfl | rfl
  · have hm : (0 : Fin 3) ∈ gather_S32x1024x1024_S544x1_S544x1024x1024_12_0_n_n_0_1_110241024.startIndexMap := by decide
    have hk : (0 : Fin 3) ∉ gather_S32x1024x1024_S544x1_S544x1024x1024_12_0_n_n_0_1_110241024.sKept := by decide +kernel
    have hs : gather_S32x1024x1024_S544x1_S544x1024x1024_12_0_n_n_0_1_110241024.siIdx (ix3 t d k) ⟨gather_S32x1024x1024_S544x1_S544x1024x1024_12_0_n_n_0_1_110241024.startIndexMap.idxOf 0, List.idxOf_lt_length_iff.2 hm⟩ = ix2 t 0 := by
      funext b; refine Fin.ext ?_
      match b with
      | ⟨0, _⟩ => rfl
      | ⟨1, _⟩ => rfl
    rw [GatherDims.offCoord_eq_zero _ _ _ hk, Nat.add_zero]
    unfold GatherDims.start
    rw [dif_pos hm, hs]
    exact held _ h
  · have hm : (1 : Fin 3) ∉ gather_S32x1024x1024_S544x1_S544x1024x1024_12_0_n_n_0_1_110241024.startIndexMap := by decide
    have hk : (1 : Fin 3) ∈ gather_S32x1024x1024_S544x1_S544x1024x1024_12_0_n_n_0_1_110241024.sKept := by decide +kernel
    have hi : gather_S32x1024x1024_S544x1_S544x1024x1024_12_0_n_n_0_1_110241024.sKept.idxOf (1 : Fin 3) = 0 := by decide +kernel
    unfold GatherDims.start GatherDims.offCoord
    rw [dif_neg hm, dif_pos hk]
    simp only [hi, Nat.zero_add]
    rfl
  · have hm : (2 : Fin 3) ∉ gather_S32x1024x1024_S544x1_S544x1024x1024_12_0_n_n_0_1_110241024.startIndexMap := by decide
    have hk : (2 : Fin 3) ∈ gather_S32x1024x1024_S544x1_S544x1024x1024_12_0_n_n_0_1_110241024.sKept := by decide +kernel
    have hi : gather_S32x1024x1024_S544x1_S544x1024x1024_12_0_n_n_0_1_110241024.sKept.idxOf (2 : Fin 3) = 1 := by decide +kernel
    unfold GatherDims.start GatherDims.offCoord
    rw [dif_neg hm, dif_pos hk]
    simp only [hi, Nat.zero_add]
    rfl

/-- The biases' gather at a tile: the row of the tile's expert. -/
theorem take2 (x : FVec Ideal S32x1024 .f32) (v : IVec S544x1 32) (t : Fin 544) (k : Fin 1024) (h : (v (ix2 t 0)).toNat < 32) :
    Host.gather gather_S32x1024_S544x1_S544x1024_1_0_n_n_0_1_11024 x v (ix2 t k) = x (ix2 ⟨(v (ix2 t 0)).toNat, h⟩ k) := by
  unfold Host.gather
  congr 1
  funext a
  refine Fin.ext ?_
  show gather_S32x1024_S544x1_S544x1024_1_0_n_n_0_1_11024.start (ix2 t k) v a + gather_S32x1024_S544x1_S544x1024_1_0_n_n_0_1_11024.batchCoord (ix2 t k) a + gather_S32x1024_S544x1_S544x1024_1_0_n_n_0_1_11024.offCoord (ix2 t k) a = _
  rw [GatherDims.batchCoord_eq_zero _ _ _ List.not_mem_nil, Nat.add_zero]
  have ha : a = 0 ∨ a = 1 := by revert a; decide
  rcases ha with rfl | rfl
  · have hm : (0 : Fin 2) ∈ gather_S32x1024_S544x1_S544x1024_1_0_n_n_0_1_11024.startIndexMap := by decide
    have hk : (0 : Fin 2) ∉ gather_S32x1024_S544x1_S544x1024_1_0_n_n_0_1_11024.sKept := by decide +kernel
    have hs : gather_S32x1024_S544x1_S544x1024_1_0_n_n_0_1_11024.siIdx (ix2 t k) ⟨gather_S32x1024_S544x1_S544x1024_1_0_n_n_0_1_11024.startIndexMap.idxOf 0, List.idxOf_lt_length_iff.2 hm⟩ = ix2 t 0 := by
      funext b; refine Fin.ext ?_
      match b with
      | ⟨0, _⟩ => rfl
      | ⟨1, _⟩ => rfl
    rw [GatherDims.offCoord_eq_zero _ _ _ hk, Nat.add_zero]
    unfold GatherDims.start
    rw [dif_pos hm, hs]
    exact held _ h
  · have hm : (1 : Fin 2) ∉ gather_S32x1024_S544x1_S544x1024_1_0_n_n_0_1_11024.startIndexMap := by decide
    have hk : (1 : Fin 2) ∈ gather_S32x1024_S544x1_S544x1024_1_0_n_n_0_1_11024.sKept := by decide +kernel
    have hi : gather_S32x1024_S544x1_S544x1024_1_0_n_n_0_1_11024.sKept.idxOf (1 : Fin 2) = 0 := by decide +kernel
    unfold GatherDims.start GatherDims.offCoord
    rw [dif_neg hm, dif_pos hk]
    simp only [hi, Nat.zero_add]
    rfl

variable (x0 : FVec Ideal S544x512x1024 .f32) (x1 : IVec S544 32) (x2 : IVec S1 32) (x3 : FVec Ideal S32x1024x1024 .f32) (x4 : FVec Ideal S32x1024 .f32)
  (x5 : FVec Ideal S32x1024x1024 .f32) (x6 : FVec Ideal S32x1024 .f32) (x7 : FVec Ideal S32x1024x1024 .f32) (x8 : FVec Ideal S32x1024 .f32)
  (h1 : ∀ i, (x1 i).toNat < 32)

/-- A number under 32 is not negative, so it is kept. -/
theorem kept (v : BitVec 32) (h : v.toNat < 32) : Scalar.select (IntOp.cmpi .slt v 0#32) (IntOp.addi v 32#32) v = v := by
  have : v.slt 0#32 = false := by
    rw [BitVec.slt_eq_decide, BitVec.toInt_eq_toNat_of_lt (by omega)]
    simp
  show Scalar.select (BitVec.ofBool (v.slt 0#32)) _ v = v
  rw [this]; rfl

include h1
theorem v5_at (t : Fin 544) : val_main_v5 (F := Ideal) x1 (ix2 t 0) = x1 (ix1 t) := by
  refine Eq.trans ?_ (kept (x1 (ix1 t)) (h1 _))
  pointwise [val_main_v5, val_main_v4, val_main_v3, val_main_v2, val_main_v1, val_main_v0, val_main_c, val_main_c_0]
theorem v13_at (t : Fin 544) : val_main_v13 (F := Ideal) x1 (ix2 t 0) = x1 (ix1 t) := by
  refine Eq.trans ?_ (kept (x1 (ix1 t)) (h1 _))
  pointwise [val_main_v13, val_main_v12, val_main_v11, val_main_v10, val_main_v9, val_main_v8, val_main_c_1, val_main_c_2]
theorem v25_at (t : Fin 544) : val_main_v25 (F := Ideal) x1 (ix2 t 0) = x1 (ix1 t) := by
  refine Eq.trans ?_ (kept (x1 (ix1 t)) (h1 _))
  pointwise [val_main_v25, val_main_v24, val_main_v23, val_main_v22, val_main_v21, val_main_v20, val_main_c_3, val_main_c_4]
theorem v33_at (t : Fin 544) : val_main_v33 (F := Ideal) x1 (ix2 t 0) = x1 (ix1 t) := by
  refine Eq.trans ?_ (kept (x1 (ix1 t)) (h1 _))
  pointwise [val_main_v33, val_main_v32, val_main_v31, val_main_v30, val_main_v29, val_main_v28, val_main_c_5, val_main_c_6]
theorem v56_at (t : Fin 544) : val_main_v56 (F := Ideal) x1 (ix2 t 0) = x1 (ix1 t) := by
  refine Eq.trans ?_ (kept (x1 (ix1 t)) (h1 _))
  pointwise [val_main_v56, val_main_v55, val_main_v54, val_main_v53, val_main_v52, val_main_v51, val_main_c_13, val_main_c_14]
theorem v64_at (t : Fin 544) : val_main_v64 (F := Ideal) x1 (ix2 t 0) = x1 (ix1 t) := by
  refine Eq.trans ?_ (kept (x1 (ix1 t)) (h1 _))
  pointwise [val_main_v64, val_main_v63, val_main_v62, val_main_v61, val_main_v60, val_main_v59, val_main_c_15, val_main_c_16]

/-- The expert of tile `t`. -/
def ex (t : Fin 544) : Fin 32 := ⟨(x1 (ix1 t)).toNat, h1 _⟩

/-- What the reference computes at column `c` of row `r` of tile `t`, before the unused tiles are cleared. -/
def row (t : Fin 544) (r : Fin 512) (c : Fin 1024) : EReal :=
  swRow (fun d => x0 (ix3 t r d)) (fun d k => x3 (ix3 (ex x1 h1 t) d k)) (fun k => x4 (ix2 (ex x1 h1 t) k)) (fun d k => x5 (ix3 (ex x1 h1 t) d k))
    (fun k => x6 (ix2 (ex x1 h1 t) k)) (fun d k => x7 (ix3 (ex x1 h1 t) d k)) (fun k => x8 (ix2 (ex x1 h1 t) k)) c

theorem at3 (x : FVec Ideal S32x1024x1024 .f32) (v : IVec S544x1 32) (t : Fin 544) (d k : Fin 1024) (h : v (ix2 t 0) = x1 (ix1 t)) :
    Host.gather gather_S32x1024x1024_S544x1_S544x1024x1024_12_0_n_n_0_1_110241024 x v (ix3 t d k) = x (ix3 (ex x1 h1 t) d k) :=
  (take3 x v t d k (by rw [h]; exact h1 _)).trans (congrArg (fun e => x (ix3 e d k)) (Fin.ext (show (v (ix2 t 0)).toNat = (x1 (ix1 t)).toNat by rw [h])))

theorem at2 (x : FVec Ideal S32x1024 .f32) (v : IVec S544x1 32) (t : Fin 544) (k : Fin 1024) (h : v (ix2 t 0) = x1 (ix1 t)) :
    Host.gather gather_S32x1024_S544x1_S544x1024_1_0_n_n_0_1_11024 x v (ix2 t k) = x (ix2 (ex x1 h1 t) k) :=
  (take2 x v t k (by rw [h]; exact h1 _)).trans (congrArg (fun e => x (ix2 e k)) (Fin.ext (show (v (ix2 t 0)).toNat = (x1 (ix1 t)).toNat by rw [h])))

theorem v6_at (t : Fin 544) (d k : Fin 1024) : val_main_v6 (F := Ideal) x1 x3 (ix3 t d k) = x3 (ix3 (ex x1 h1 t) d k) := at3 x1 h1 x3 _ t d k (v5_at x1 h1 t)
theorem v26_at (t : Fin 544) (d k : Fin 1024) : val_main_v26 (F := Ideal) x1 x5 (ix3 t d k) = x5 (ix3 (ex x1 h1 t) d k) := at3 x1 h1 x5 _ t d k (v25_at x1 h1 t)
theorem v57_at (t : Fin 544) (d k : Fin 1024) : val_main_v57 (F := Ideal) x1 x7 (ix3 t d k) = x7 (ix3 (ex x1 h1 t) d k) := at3 x1 h1 x7 _ t d k (v56_at x1 h1 t)
theorem v14_at (t : Fin 544) (k : Fin 1024) : val_main_v14 (F := Ideal) x1 x4 (ix2 t k) = x4 (ix2 (ex x1 h1 t) k) := at2 x1 h1 x4 _ t k (v13_at x1 h1 t)
theorem v34_at (t : Fin 544) (k : Fin 1024) : val_main_v34 (F := Ideal) x1 x6 (ix2 t k) = x6 (ix2 (ex x1 h1 t) k) := at2 x1 h1 x6 _ t k (v33_at x1 h1 t)
theorem v65_at (t : Fin 544) (k : Fin 1024) : val_main_v65 (F := Ideal) x1 x8 (ix2 t k) = x8 (ix2 (ex x1 h1 t) k) := at2 x1 h1 x8 _ t k (v64_at x1 h1 t)

/-- The gate's entries. -/
theorem v19_at (t : Fin 544) (r : Fin 512) (k : Fin 1024) :
    val_main_v19 (F := Ideal) x0 x1 x3 x4 (ix3 t r k)
      = swGate (∑ d : Fin 1024, x0 (ix3 t r d) * x3 (ix3 (ex x1 h1 t) d k)) (x4 (ix2 (ex x1 h1 t) k)) := by
  pointwise [val_main_v19, val_main_v18, val_main_v17, val_main_v16, val_main_v15, val_main_v7, val_main_cst, v6_at x1 x3 h1, v14_at x1 x4 h1, swGate]

/-- The up entries. -/
theorem v40_at (t : Fin 544) (r : Fin 512) (k : Fin 1024) :
    val_main_v40 (F := Ideal) x0 x1 x5 x6 (ix3 t r k)
      = swUp (∑ d : Fin 1024, x0 (ix3 t r d) * x5 (ix3 (ex x1 h1 t) d k)) (x6 (ix2 (ex x1 h1 t) k)) := by
  pointwise [val_main_v40, val_main_v39, val_main_v38, val_main_cst_8, val_main_call0_v3, val_main_call0_v4, val_main_cst_7, val_main_call0_v0, val_main_call0_v1, val_main_call0_v2, val_main_cst_9, val_main_v37, val_main_v36, val_main_v35, val_main_v27, v26_at x1 x5 h1, v34_at x1 x6 h1, swUp]
  rfl

/-- The hidden entries. -/
theorem v50_at (t : Fin 544) (r : Fin 512) (k : Fin 1024) :
    val_main_v50 (F := Ideal) x0 x1 x3 x4 x5 x6 (ix3 t r k)
      = swAct (swGate (∑ d : Fin 1024, x0 (ix3 t r d) * x3 (ix3 (ex x1 h1 t) d k)) (x4 (ix2 (ex x1 h1 t) k)))
          (swUp (∑ d : Fin 1024, x0 (ix3 t r d) * x5 (ix3 (ex x1 h1 t) d k)) (x6 (ix2 (ex x1 h1 t) k))) := by
  rw [← v19_at x0 x1 x3 x4 h1, ← v40_at x0 x1 x5 x6 h1]
  pointwise [val_main_v50, val_main_v49, val_main_v48, val_main_v47, val_main_v46, val_main_v45, val_main_v44, val_main_v43, val_main_v42, val_main_v41, val_main_cst_12, val_main_cst_11, val_main_cst_10, swAct]

theorem v68_at (t : Fin 544) (r : Fin 512) (c : Fin 1024) :
    val_main_v68 (F := Ideal) x0 x1 x3 x4 x5 x6 x7 x8 (ix3 t r c) = row x0 x1 x3 x4 x5 x6 x7 x8 h1 t r c := by
  pointwise [val_main_v68, val_main_v67, val_main_v66, val_main_v58, v57_at x1 x7 h1, v65_at x1 x8 h1, v50_at x0 x1 x3 x4 x5 x6 h1, row, swRow, swHid]

/-- Whether tile `t` is one of the used ones. -/
def used (x2 : IVec S1 32) (t : Fin 544) : BitVec 1 := IntOp.cmpi .slt (BitVec.ofNat 32 t.val) (x2 (ix1 0))

omit h1 in
theorem mask_at (t : Fin 544) (r : Fin 512) (c : Fin 1024) : val_main_call1_v1 (F := Ideal) x2 (ix3 t r c) = used x2 t := by
  pointwise [val_main_call1_v1, val_main_v73, val_main_v72, val_main_v71, val_main_v70, val_main_v69, used]

/-- The reference's result. -/
theorem v75_at (t : Fin 544) (R : Fin 4096) (l : Fin 128) :
    val_main_v75 (F := Ideal) x0 x1 x2 x3 x4 x5 x6 x7 x8 (ix3 t R l)
      = Scalar.select (used x2 t) (row x0 x1 x3 x4 x5 x6 x7 x8 h1 t ⟨R.val / 8, by omega⟩ ⟨128 * (R.val % 8) + l.val, by omega⟩) 0 := by
  rw [val_main_v75_apply, val_main_v74_apply]
  have hi : idx_main_v75 (ix3 t R l) = ix3 t ⟨R.val / 8, by omega⟩ ⟨128 * (R.val % 8) + l.val, by omega⟩ := by
    funext a
    refine Fin.ext ?_
    have ha : a = 0 ∨ a = 1 ∨ a = 2 := by revert a; decide
    rcases ha with rfl | rfl | rfl
    · show ((t.val * 4096 + R.val) * 128 + l.val) / 524288 = t.val; omega
    · show ((t.val * 4096 + R.val) * 128 + l.val) / 1024 % 512 = R.val / 8; omega
    · show ((t.val * 4096 + R.val) * 128 + l.val) % 1024 = 128 * (R.val % 8) + l.val; omega
  rw [hi, mask_at, v68_at x0 x1 x3 x4 x5 x6 x7 x8 h1]
  refine congrArg (Scalar.select _ _) ?_
  show Ideal.ofBits .f32 0#32 = 0
  simp [Ideal.ofBits, Ideal.ieee]

end Cert.Reference5Ideal.Val
-- ==== Proof.ExpOut.lean ====
module
public import proofs.«01_k».proof.Proof.ExpTile
public import proofs.«01_k».proof.Proof.ExpHost
public import proofs.«01_k».proof.Proof.ExpBlocks
public import proofs.«01_k».proof.Proof.ExpRef
public import Idealize.ShloMosaic.Lib.Pointwise
public import Idealize.ShloMosaic.Lib.Pipeline.Value
public import Idealize.ShloMosaic.Lib.Pipeline.ValueKit
@[expose] public section
set_option maxRecDepth 16384
noncomputable section
/-! The experts' output array after all points of the grid: each used tile holds its expert's results. -/
namespace Cert.Kernel5Ideal.Val
open Cert.Kernel5Ideal Cert.Kernel5Ideal.Gen Cert.Kernel5Ideal.Run Cert.Layer Idealize.ShloMosaic Idealize.ShloMosaic.TcCoe Idealize.SL.Sem
open Idealize.ShloMosaic.Pipeline (Dat)
variable (m : (ℓ : Loc nD τ sig) → Buf (Elt Ideal) ℓ) (hO : Ok m) (hR : InRange m) (he : ∀ i, (te m i).toNat < 32)

/-- The reference's result for a row of a tile. -/
def rowK (t : Fin 544) (r : Fin 512) (k : Fin 1024) : EReal :=
  Cert.Reference5Ideal.Val.row (in0 m 0) (te m) (in3 m 0) (in4 m 0) (in5 m 0) (in6 m 0) (in7 m 0) (in8 m 0) he t r k

/-- The same as the output array keeps it, tile after tile in rows of 128 lanes. -/
def outK : FVec Ideal S2228224x128 .f32 := fun i =>
  rowK m he ⟨(i 0).val / 4096, by have := (i 0).isLt; have h : S2228224x128.size 0 = 2228224 := rfl; omega⟩ ⟨(i 0).val % 4096 / 8, by omega⟩
    ⟨128 * ((i 0).val % 8) + (i 1).val, by have := (i 1).isLt; have h : S2228224x128.size 1 = 128 := rfl; omega⟩

include hR in
/-- A used tile's rows, as its point reads them. -/
theorem entry_eq (t : Fin (cfgM m hO).N) (ht : t.val < nuN m) (r : Fin 512) (d : Fin 1024) :
    entry (iblk m hO 0 0 t) r d = in0 m 0 (ix3 ⟨t.val, pt_lt m hO t⟩ r d) := by
  have hT := pt_lt m hO t
  unfold entry
  refine (blk_x m hO hR 0 t _ _ ⟨4096 * t.val + (8 * r.val + d.val / 128), by omega⟩ ?_).trans (x_host m 0 ⟨t.val, pt_lt m hO t⟩ r d _ _ ?_)
  · show 4096 * t.val + (8 * r.val + d.val / 128) = 4096 * min t.val (nuN m - 1) + (8 * r.val + d.val / 128)
    have : min t.val (nuN m - 1) = t.val := by omega
    rw [this]
  · show (4096 * t.val + (8 * r.val + d.val / 128)) * 128 + d.val % 128 = (t.val * 512 + r.val) * 1024 + d.val
    omega

include hR in
/-- A used tile's result is the reference's. -/
theorem full_eq (t : Fin (cfgM m hO).N) (ht : t.val < nuN m) (r : Fin 512) (k : Fin 1024) :
    full (F := Ideal) (iblk m hO 0 0 t) (iblk m hO 0 1 t) (iblk m hO 0 2 t) (iblk m hO 0 3 t) (iblk m hO 0 4 t) (iblk m hO 0 5 t) (iblk m hO 0 6 t) (ix2 r k)
      = rowK m he ⟨t.val, pt_lt m hO t⟩ r k := by
  refine (full_at _ _ _ _ _ _ _ r k).trans ?_
  unfold rowK Cert.Reference5Ideal.Val.row
  have e0 : entry (iblk m hO 0 0 t) r = fun d => in0 m 0 (ix3 ⟨t.val, pt_lt m hO t⟩ r d) := funext fun d => entry_eq m hO hR t ht r d
  have e1 : (fun d k => (show FVec Ideal S1x1024x1024 .bf16 from iblk m hO 0 1 t) (ix3 0 d k)) = fun d k => in3 m 0 (ix3 (exK m hO t he) d k) :=
    funext fun d => funext fun k => (blk_wg m hO 0 t he d k).trans (wg_host m 0 _ d k)
  have e2 : (fun k => (show FVec Ideal S1x1x1024 .f32 from iblk m hO 0 2 t) (ix3 0 0 k)) = fun k => in4 m 0 (ix2 (exK m hO t he) k) :=
    funext fun k => (blk_bg m hO 0 t he k).trans (bg_host m 0 _ k)
  have e3 : (fun d k => (show FVec Ideal S1x1024x1024 .bf16 from iblk m hO 0 3 t) (ix3 0 d k)) = fun d k => in5 m 0 (ix3 (exK m hO t he) d k) :=
    funext fun d => funext fun k => (blk_wu m hO 0 t he d k).trans (wu_host m 0 _ d k)
  have e4 : (fun k => (show FVec Ideal S1x1x1024 .f32 from iblk m hO 0 4 t) (ix3 0 0 k)) = fun k => in6 m 0 (ix2 (exK m hO t he) k) :=
    funext fun k => (blk_bu m hO 0 t he k).trans (bu_host m 0 _ k)
  have e5 : (fun d k => (show FVec Ideal S1x1024x1024 .bf16 from iblk m hO 0 5 t) (ix3 0 d k)) = fun d k => in7 m 0 (ix3 (exK m hO t he) d k) :=
    funext fun d => funext fun k => (blk_wd m hO 0 t he d k).trans (wd_host m 0 _ d k)
  have e6 : (fun k => (show FVec Ideal S1x1x1024 .f32 from iblk m hO 0 6 t) (ix3 0 0 k)) = fun k => in8 m 0 (ix2 (exK m hO t he) k) :=
    funext fun k => (blk_bd m hO 0 t he k).trans (bd_host m 0 _ k)
  exact congrFun (congr (congr (congr (congr (congr (congr (congrArg swRow e0) e1) e2) e3) e4) e5) e6) k

include hR in
/-- What point `t` writes back is its block of the output array. -/
theorem flushed_eq (t : Fin (cfgM m hO).N) :
    (dats m hO 0 0).flushed 7 t = (((cfgM m hO).win 7).blk t).view.read (Elt Ideal) (outK m he) := by
  have h1 := hR.1
  have hT := pt_lt m hO t
  have hl : (lastUsed m hO t).val = min t.val (nuN m - 1) := rfl
  have hlt := pt_lt m hO (lastUsed m hO t)
  funext y
  show (dats m hO 0 0).after 7 t y = outK m he ((((cfgM m hO).win 7).blk t).view.emb y)
  refine (congrFun (after_7 m hO 0 t) y).trans ?_
  have hy0 : (y (0 : Fin 2)).val < 4096 := (y (0 : Fin 2)).isLt
  have hy1 : (y (1 : Fin 2)).val < 128 := (y (1 : Fin 2)).isLt
  refine (full_eq m hO hR he (lastUsed m hO t) (by omega) ⟨(y (0 : Fin 2)).val / 8, by omega⟩ ⟨128 * ((y (0 : Fin 2)).val % 8) + (y (1 : Fin 2)).val, by omega⟩).trans ?_
  have g0 : ((((cfgM m hO).win 7).blk t).view.emb y (0 : Fin 2)).val = min t.val (nuN m - 1) * 4096 + 1 * (y (0 : Fin 2)).val := by
    refine (out_emb m hO t y 0).trans ?_
    rw [idx7 m hO hR]; rfl
  have g1 : ((((cfgM m hO).win 7).blk t).view.emb y (1 : Fin 2)).val = 0 * 128 + 1 * (y (1 : Fin 2)).val := by
    refine (out_emb m hO t y 1).trans ?_
    rw [idx7 m hO hR]; rfl
  unfold outK
  refine congr (congr (congrArg (rowK m he) (Fin.ext ?_)) (Fin.ext ?_)) (Fin.ext ?_)
  · show (lastUsed m hO t).val = ((((cfgM m hO).win 7).blk t).view.emb y (0 : Fin 2)).val / 4096
    rw [g0]; omega
  · show (y (0 : Fin 2)).val / 8 = ((((cfgM m hO).win 7).blk t).view.emb y (0 : Fin 2)).val % 4096 / 8
    rw [g0]; omega
  · show 128 * ((y (0 : Fin 2)).val % 8) + (y (1 : Fin 2)).val = 128 * (((((cfgM m hO).win 7).blk t).view.emb y (0 : Fin 2)).val % 8) + ((((cfgM m hO).win 7).blk t).view.emb y (1 : Fin 2)).val
    rw [g0, g1]; omega

include hR in
/-- After all points a used tile's rows hold its expert's results. -/
theorem out_eq (t : Fin 544) (ht : t.val < nuN m) (R : Fin 4096) (l : Fin 128) (Q : Fin 2228224) (hQ : Q.val = t.val * 4096 + R.val) :
    (dats m hO 0 0).arrAt 7 (cfgM m hO).N (ix2 (n0 := 2228224) (n1 := 128) Q l) = rowK m he t ⟨R.val / 8, by omega⟩ ⟨128 * (R.val % 8) + l.val, by omega⟩ := by
  have h2 := hR.2
  have hp : ∃ s : Fin (cfgM m hO).N, min s.val (nuN m - 1) = t.val ∧ ((cfgM m hO).win 7).flush s = true := by
    by_cases h : t.val + 1 < nuN m
    · refine ⟨⟨t.val, t.isLt⟩, by show min t.val _ = _; omega, ?_⟩
      rw [flush_7 m hO hR]; exact decide_eq_true (Or.inr h)
    · refine ⟨⟨543, (by decide : 543 < 544)⟩, by show min 543 _ = _; omega, ?_⟩
      rw [flush_7 m hO hR]; exact decide_eq_true (Or.inl rfl)
  obtain ⟨s, hs, hf⟩ := hp
  have hi : (((cfgM m hO).win 7).blk s).view.emb (ix2 (n0 := 4096) (n1 := 128) R l) = ix2 (n0 := 2228224) (n1 := 128) Q l := by
    refine funext fun (a : Fin 2) => Fin.ext ?_
    refine (out_emb m hO s _ a).trans ?_
    rw [idx7 m hO hR]
    have ha : a = 0 ∨ a = 1 := by revert a; decide
    rcases ha with rfl | rfl
    · show min s.val (nuN m - 1) * 4096 + 1 * R.val = Q.val; omega
    · show 0 * 128 + 1 * l.val = l.val; omega
  refine ((dats m hO 0 0).arrAt_apply_of_mem 7 (outK m he) (fun t _ => flushed_eq m hO hR he t) (cfgM m hO).N s _ s.isLt hf
    (hi ▸ View.emb_mem_set _ _)).trans ?_
  unfold outK
  refine congr (congr (congrArg (rowK m he) (Fin.ext ?_)) (Fin.ext ?_)) (Fin.ext ?_)
  · show Q.val / 4096 = t.val; omega
  · show Q.val % 4096 / 8 = R.val / 8; omega
  · show 128 * (Q.val % 8) + l.val = 128 * (R.val % 8) + l.val; omega

end Cert.Kernel5Ideal.Val
-- ==== Proof.ExpBody.lean ====
/- The experts' run: the body at a point of the grid, used or not. -/
module

public import proofs.«01_k».proof.Proof.ExpTraj
public import Idealize.ShloMosaic.Lib.WholeRead
public import Idealize.ShloMosaic.Lib.Pipeline.ValueKit

@[expose] public section

set_option maxRecDepth 16384

noncomputable section

namespace Cert.Kernel5Ideal.Run

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d))
    ∗ (∃ d, owns (c : Thread nD τ) (ms7 m hO t) fullShare ((dats m hO 0 c).before 7 t d)))

/-- What it leaves, the output's buffer in the state `X`. -/
def bodyPost (hO : Ok m) (c : Dev nD) (t : Fin (cfgM m hO).N) (X : sProp 𝕄) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t)
    ∗ owns (c : Thread nD τ) (ms6 m hO t) fullShare ((dats m hO 0 c).after 6 t)
    ∗ X)

/-- The body at a point, on what the pipeline calls it with. -/
abbrev bodyAt (a : (pcfg0 (F := F)).Adm) (t : Fin (cfg0 a).N) : Prog (TpuEff nD τ sig (Elt F) Λ₀ .tc) PUnit :=
  cc0_moe_experts (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

set_option maxHeartbeats 800000 in
theorem sound_used (hO : Ok m) (hR : InRange m) (c : Dev nD) (t : Fin (cfgM m hO).N) (h : t.val < nuN m) :
    bodyPre m hO c t ⊢ wp frame (wpE (defs₀ (F := F)) Variants.none c none) Set.univ (bodyAt (adm m hO) t) (fun _ => bodyPost m hO c t (owns (c : Thread nD τ) (ms7 m hO t) fullShare ((dats m hO 0 c).after 7 t))) := by
  have hp : (dats m hO 0 c).after 7 t = outAt m hO c t := by
    rw [after_7, show lastUsed m hO t = t from Fin.ext (by show min t.val (nuN m - 1) = t.val; omega)]
  have hc : k0_cond1 (grid0.coords t) (word c (tbl m 1)) = 1#1 := (cond_iff m hR t).mpr h
  unfold bodyPre bodyPost bodyAt
  rw [hp]
  simp only [before_0, before_1, before_2, before_3, before_4, before_5, before_6]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5, after_6]
  rw [show (dats m hO 0 c).Φ t.castSucc = iprop(Pipeline.ΦA spec0 c ∗ Pipeline.ΦT pre0 (tbl m) c) from rfl, tables_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_used c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 1) hc Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HT1]; · iexact HT1
  iintro ⟨H0, H1, H2, H3, H4, H5, H6, H7, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 800000 in
theorem sound_unused (hO : Ok m) (hR : InRange m) (c : Dev nD) (t : Fin (cfgM m hO).N) (h : ¬ t.val < nuN m) (X : sProp 𝕄)
    (hp : owns (c : Thread nD τ) (ms7 m hO t) fullShare ((dats m hO 0 c).after 7 t) ⊢ X) :
    bodyPre m hO c t ⊢ wp frame (wpE (defs₀ (F := F)) Variants.none c none) Set.univ (bodyAt (adm m hO) t) (fun _ => bodyPost m hO c t X) := by
  have hb := before_7 m hO hR c t (by omega)
  have hc : ¬ k0_cond1 (grid0.coords t) (word c (tbl m 1)) = 1#1 := fun e => h ((cond_iff m hR t).mp e)
  unfold bodyPre bodyPost bodyAt
  simp only [before_0, before_1, before_2, before_3, before_4, before_5, before_6, hb]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5, after_6]
  rw [show (dats m hO 0 c).Φ t.castSucc = iprop(Pipeline.ΦA spec0 c ∗ Pipeline.ΦT pre0 (tbl m) c) from rfl, tables_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_unused c (grid0.coords t) _ _ _ _ _ _ _ _ _ _ _ _ _ _ _ _ (tbl m 1) hc Set.univ _)
  isplitl [HT1]; · iexact HT1
  iintro HT1
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply hp
  iexact H7

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

end Cert.Kernel5Ideal.Run

end
-- ==== Proof.ExpFrame.lean ====
/- The experts' run: the body's obligation at every point of the grid, and the frame. -/
module

public import proofs.«01_k».proof.Proof.ExpBody
public import Idealize.ShloMosaic.Lib.WholeRead
public import Idealize.ShloMosaic.Lib.Pipeline.ValueKit

@[expose] public section

set_option maxRecDepth 16384

noncomputable section

namespace Cert.Kernel5Ideal.Run

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
theorem body_obligation (hO : Ok m) (hR : InRange m) (c : Dev nD) : BodyObligation (dats (F := F) m hO 0 c) (defs₀ (F := F)) Variants.none () Set.univ := fun t => by
  rw [bigSep_W0, bigSep_W0, defs₀_row m hO]
  by_cases h : t.val < nuN m
  · rw [idle_7 m hO hR, decide_eq_false (by omega)]
    exact triple_restated (sound_used m hO hR c t h) rfl .rfl fun _ => .rfl
  · rw [idle_7 m hO hR, decide_eq_true (by omega)]
    have hb := before_7 m hO hR c t (by omega)
    have hq : (owns (c : Thread nD τ) (ms7 m hO t) fullShare ((dats m hO 0 c).after 7 t) : sProp 𝕄)
        ⊢ iprop(∃ d, owns (c : Thread nD τ) (ms7 m hO t) fullShare ((dats m hO 0 c).before 7 t d)) := by
      have k : (owns (c : Thread nD τ) (ms7 m hO t) fullShare ((dats m hO 0 c).after 7 t) : sProp 𝕄)
          = owns (c : Thread nD τ) (ms7 m hO t) fullShare ((dats m hO 0 c).before 7 t (outAt m hO c t)) :=
        congrArg (fun X => (owns (c : Thread nD τ) (ms7 m hO t) fullShare X : sProp 𝕄)) (hb (outAt m hO c t)).symm
      refine k ▸ ?_
      iintro H
      iexists (outAt m hO c t)
      iexact H
    refine triple_restated (sound_unused m hO hR c t h _ ?_) rfl .rfl fun _ => .rfl
    dsimp only
    split
    · exact hq
    · exact .rfl

/-! ## The run and the frame -/

set_option backward.isDefEq.respectTransparency.types false in
set_option maxHeartbeats 800000 in
/-- Every run ends, with the arrays at what the proof data say and every counter at zero. -/
theorem run_quiescent (hO : Ok m) (hR : InRange m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around (Q' := _) pcfgs (fun _ => adm m hO) (dats m hO) (0 : Fin 1) launch0 defs₀ Variants.none m ρ main
    (hbody := fun c => (body_obligation m hO hR c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

theorem run_main (hO : Ok m) (hR : InRange m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_quiescent m ρ hO hR)

/-- The arguments end unchanged, the counters at zero. -/
theorem unchanged (hO : Ok m) (hR : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ hO (dats m hO) (run_main m ρ hO hR)) ((θ_run defs _ _).mono (fun _ h => h.2) (run_quiescent m ρ hO hR))

end Cert.Kernel5Ideal.Run

end
-- ==== Proof.Experts.lean ====
module
public import proofs.«01_k».proof.Defs
public import proofs.«01_k».proof.Proof.ExpOut
public import proofs.«01_k».proof.Proof.ExpFrame
public import proofs.«01_k».proof.Proof.Gen.Reference5Ideal.Run
public import Idealize.ShloMosaic.Lib.Pointwise
public import Idealize.ShloMosaic.Lib.Claim
public import Idealize.ShloMosaic.Lib.StableHlo.RunRead
public import Idealize.ShloMosaic.Lib.Pipeline.ValueKit
@[expose] public section
set_option maxRecDepth 16384
noncomputable section
/-! The routed experts: the kernel's masked tiles are the reference's. -/
namespace Cert.Kernel5Ideal.Val
open Cert.Kernel5Ideal Cert.Kernel5Ideal.Gen Cert.Kernel5Ideal.Run Cert.Layer Idealize.ShloMosaic Idealize.ShloMosaic.TcCoe Idealize.SL.Sem
open Idealize.ShloMosaic.Pipeline (Dat)

/-- What the host lines after the call leave: the call's array tile by tile, zero in an unused tile. -/
theorem tail_at (W : Valuation τ sig (Elt Ideal)) (t : Fin 544) (R : Fin 4096) (l : Fin 128) :
    (show FVec Ideal S544x4096x128 .f32 from StableHlo.after hostOps1 W (Proc.devRef .tc main_v16)) (ix3 t R l)
      = Scalar.select ((show IVec S544x4096x128 1 from W (Proc.devRef .tc main_v11)) (ix3 t R l))
          ((show FVec Ideal S2228224x128 .f32 from W (Proc.devRef .tc main_v13)) (ix2 ⟨t.val * 4096 + R.val, by omega⟩ l)) (0 : EReal) := by
  show (StableHlo.after hostOps1 _ _) _ = _
  after_reads_simp
  refine congrArg₂ (Scalar.select _) ?_ ?_
  · refine shapeCast_apply _ _ _ _ ?_
    show (S2228224x128.rowMajor (ix2 _ l)).val = (S544x4096x128.rowMajor (ix3 t R l)).val
    rewrite [Shape.rowMajor_val_three, Shape.rowMajor_val_two]
    show (t.val * 4096 + R.val) * 128 + l.val = (t.val * 4096 + R.val) * 128 + l.val
    rfl
  · show Ideal.ofBits .f32 0#32 = 0
    simp [Ideal.ofBits, Ideal.ieee]

theorem sel_off (a b : EReal) : Scalar.select (BitVec.ofBool false) a b = b := rfl

variable (m : (ℓ : Loc nD τ sig) → Buf (Elt Ideal) ℓ) (hO : Ok m) (hR : InRange m) (he : ∀ i, (te m i).toNat < 32)

/-- The reference's result of the launch contents. -/
abbrev refK : FVec Ideal S544x4096x128 .f32 :=
  Cert.Reference5Ideal.Read.val_main_v75 (F := Ideal) (in0 m 0) (in1 m 0) (in2 m 0) (in3 m 0) (in4 m 0) (in5 m 0) (in6 m 0) (in7 m 0) (in8 m 0)

theorem nu_word : in2 m 0 (ix1 0) = BitVec.ofNat 32 (nuN m) := by
  have h : nuW m = nu m (ix1 0) := by
    refine (congrFun (tbl1 m) _).trans (congrArg (nu m) (funext fun (a : Fin 1) => ?_))
    obtain rfl : a = 0 := Subsingleton.elim _ _
    exact Subsingleton.elim (α := Fin 1) _ _
  show nu m (ix1 0) = BitVec.ofNat 32 (nuW m).toNat
  rw [BitVec.ofNat_toNat, h]; simp

include hR in
/-- A tile is used when its number is below the count of used tiles. -/
theorem used_eq (t : Fin 544) : Cert.Reference5Ideal.Val.used (in2 m 0) t = BitVec.ofBool (decide (t.val < nuN m)) := by
  have h2 := hR.2
  unfold Cert.Reference5Ideal.Val.used
  rw [nu_word]
  show BitVec.ofBool ((BitVec.ofNat 32 t.val).slt (BitVec.ofNat 32 (nuN m))) = _
  rw [slt_small _ _ (by omega) (by omega)]

/-- The buffers when the call is over. -/
abbrev W1 : Valuation τ sig (Elt Ideal) :=
  Pipeline.withArrays spec0 0 (V0 m 0) (fun w => (dats m hO 0 0).arrAt w (cfgM m hO).N)

theorem W1_mask (t : Fin 544) (R : Fin 4096) (l : Fin 128) :
    (show IVec S544x4096x128 1 from W1 m hO (Proc.devRef .tc main_v11)) (ix3 t R l) = Cert.Reference5Ideal.Val.used (in2 m 0) t :=
  (congrFun (Pipeline.withArrays_of_ne spec0 0 (V0 m 0) _ main_v11 (by decide)) _).trans (mask_host m 0 t R l)

theorem W1_out : (show FVec Ideal S2228224x128 .f32 from W1 m hO (Proc.devRef .tc main_v13)) = (dats m hO 0 0).arrAt 7 (cfgM m hO).N :=
  Pipeline.withArrays_arr_shared spec0 0 (V0 m 0) (fun w => (dats m hO 0 0).arrAt w (cfgM m hO).N)
    (fun w w' hne e => absurd e (by revert w w'; decide)) 7

include hR in
/-- An entry of the kernel's result. -/
theorem tail_ix (t : Fin 544) (R : Fin 4096) (l : Fin 128) :
    (show FVec Ideal S544x4096x128 .f32 from StableHlo.after hostOps1 (W1 m hO) (Proc.devRef .tc main_v16)) (ix3 t R l)
      = Scalar.select (Cert.Reference5Ideal.Val.used (in2 m 0) t) (rowK m he t ⟨R.val / 8, by omega⟩ ⟨128 * (R.val % 8) + l.val, by omega⟩) (0 : EReal) := by
  refine (tail_at _ t R l).trans ?_
  rw [W1_mask, W1_out, used_eq m hR]
  by_cases h : t.val < nuN m
  · rw [out_eq m hO hR he t h R l _ rfl]
  · rw [decide_eq_false h]; exact (sel_off _ _).trans (sel_off _ _).symm

include hR he in
/-- The kernel's result is the reference's. -/
theorem tail_eq : (show FVec Ideal S544x4096x128 .f32 from StableHlo.after hostOps1 (W1 m hO) (Proc.devRef .tc main_v16)) = refK m := by
  funext i
  have hi : i = ix3 (n0 := 544) (n1 := 4096) (n2 := 128) (i 0) (i 1) (i 2) := by blk_ext []
  rw [hi]
  exact (tail_ix m hO hR he (i 0) (i 1) (i 2)).trans (Cert.Reference5Ideal.Val.v75_at _ _ _ _ _ _ _ _ _ he (i 0) (i 1) (i 2)).symm

include hO hR he in
/-- The kernel's run: its result is the reference's of the launch contents, its arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v16) = refK m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (θ_run_and (run_main m ρ hO hR) (frame_of m ρ hO (dats m hO) (run_main m ρ hO hR)))
  obtain rfl : c = 0 := Subsingleton.elim _ _
  exact ⟨((h.1 0).2 main_v16 (by show main_v16 ∈ Pipeline.restRefs sig spec0; decide)).trans (tail_eq m hO hR he), h.2 0⟩

end Cert.Kernel5Ideal.Val

namespace Cert.Layer
open Idealize.ShloMosaic Idealize.ShloMosaic.TcCoe Idealize.SL.Sem

/-- The experts' tiles are the reference's. -/
theorem experts : Cert.algebraic_Kernel5Ideal_Reference5Ideal := by
  pair_intro
  have hb := Cert.Pre_tiles_in_range.Val.bounds _ _ _ _ _ _ _ _ _ (hpre 0)
  have hR := Cert.Kernel5Ideal.Run.inRange m hb.2
  · run_from Cert.Kernel5Ideal.Val.run m (Cert.Kernel5Ideal.Run.ok m hb.1 hR) hR hb.1 g
  · run_from Cert.Reference5Ideal.Value.run m' g'
    rw [Cert.Reference5Ideal.Read.val_main_v75_eq]
    obtain ⟨h0, h1, h2, h3, h4, h5, h6, h7, h8⟩ := hagree c
    rw [h0, h1, h2, h3, h4, h5, h6, h7, h8]
    obtain rfl : c = 0 := Subsingleton.elim _ _
    rfl

end Cert.Layer
-- ==== Proof.ExpSame.lean ====
module
public import proofs.«01_k».proof.Defs
public import proofs.«01_k».proof.Proof.ExpFrame
public import proofs.«01_k».proof.Proof.ExpPre
public import proofs.«01_k».proof.Proof.Gen.Kernel5
public import proofs.«01_k».proof.Proof.Gen.Kernel5.Launch
public import proofs.«01_k».proof.Proof.Gen.Kernel5.Skeleton
@[expose] public section
noncomputable section
/-! The experts' kernel over the machine's floats is the text the run is written for, so its frame is that run's. -/
namespace Cert.Layer
open Idealize.ShloMosaic Idealize.ShloMosaic.TcCoe Idealize.SL.Sem

theorem same_bodies : Cert.Kernel5.defs₀ (F := Bits) = Cert.Kernel5Ideal.defs₀ (F := Bits) :=
  congrArg Defs.onTc (funext fun (l : Fin 1) => by
    obtain rfl : l = 0 := Subsingleton.elim _ _
    exact funext fun ⟨t, s⟩ => rfl)

theorem same_defs : Cert.Kernel5.defs (F := Bits) = Cert.Kernel5Ideal.defs (F := Bits) :=
  congrArg (Pipeline.defs (Cert.Kernel5Ideal.pcfgs (F := Bits))) same_bodies

theorem same_before : Cert.Kernel5.Gen.hostOps0 (F := Bits) = Cert.Kernel5Ideal.Gen.hostOps0 (F := Bits) := rfl
theorem same_after : Cert.Kernel5.Gen.hostOps1 (F := Bits) = Cert.Kernel5Ideal.Gen.hostOps1 (F := Bits) := rfl

/-- What a host stretch or the call is a program of, in either text. -/
abbrev Step := Prog (TpuEff Cert.Kernel5.nD Cert.Kernel5.τ Cert.Kernel5.sig (Elt Bits) (Pipeline.Sig Cert.Kernel5.Λ₀ (Fin 1) fun p => (Cert.Kernel5.pcfgs (F := Bits) p).Adm) .tc) PUnit
abbrev Step' := Prog (TpuEff Cert.Kernel5Ideal.nD Cert.Kernel5Ideal.τ Cert.Kernel5Ideal.sig (Elt Bits) (Pipeline.Sig Cert.Kernel5Ideal.Λ₀ (Fin 1) fun p => (Cert.Kernel5Ideal.pcfgs (F := Bits) p).Adm) .tc) PUnit
theorem same_stretch0 : (StableHlo.seq Cert.Kernel5.Gen.hostOps0 : Step) = (StableHlo.seq Cert.Kernel5Ideal.Gen.hostOps0 : Step') := congrArg StableHlo.seq same_before
theorem same_stretch1 : (StableHlo.seq Cert.Kernel5.Gen.hostOps1 : Step) = (StableHlo.seq Cert.Kernel5Ideal.Gen.hostOps1 : Step') := congrArg StableHlo.seq same_after
theorem same_call : (Prog.lift (.customCall (Pipeline.entry 0) ()) : Step) = (Prog.lift (.customCall (Pipeline.entry 0) ()) : Step') := rfl
theorem chain_congr {x x' y y' z z' : Step'} (h1 : x = x') (h2 : y = y') (h3 : z = z') :
    (Pipeline.chain [x, y, z] : Step') = Pipeline.chain [x', y', z'] := by subst h1 h2 h3; rfl

set_option maxHeartbeats 1600000 in
theorem chain_same : (Pipeline.chain [StableHlo.seq Cert.Kernel5.Gen.hostOps0, Prog.lift (.customCall (Pipeline.entry 0) ()), StableHlo.seq Cert.Kernel5.Gen.hostOps1] : Step)
    = (Pipeline.chain [StableHlo.seq Cert.Kernel5Ideal.Gen.hostOps0, Prog.lift (.customCall (Pipeline.entry 0) ()), StableHlo.seq Cert.Kernel5Ideal.Gen.hostOps1] : Step') :=
  chain_congr same_stretch0 same_call same_stretch1

set_option maxHeartbeats 1600000 in
theorem same_main : Cert.Kernel5.main (F := Bits) = Cert.Kernel5Ideal.main (F := Bits) :=
  funext fun c => (Cert.Kernel5.Gen.main_chain c).trans (chain_same.trans (Cert.Kernel5Ideal.Gen.main_chain c).symm)

/-- The kernel over the machine's floats runs and leaves its arguments. -/
theorem frame_kernel5 : Cert.quiescent_Kernel5 := by
  intro m ρ h
  have hb := Cert.Pre_tiles_in_range.Val.bounds _ _ _ _ _ _ _ _ _ (h 0)
  have hR := Cert.Kernel5Ideal.Run.inRange (F := Bits) m hb.2
  exact (congrArg₂ (fun D M => θ_run D (onTc (τ := Cert.Kernel5Ideal.τ) M) ⟨m, fun _ => 0, ρ⟩ _) same_defs same_main).mpr
    (Cert.Kernel5Ideal.Run.unchanged (F := Bits) m ρ (Cert.Kernel5Ideal.Run.ok (F := Bits) m hb.1 hR) hR)

end Cert.Layer
-- ==== Proof.lean ====
/- The claims of `Cert.Claim`: the frames come from the generated runs, the named constant is stated once, and the value
   claim is proved in its own module. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Reference5Ideal.Run
public import proofs.«01_k».proof.Proof.Gen.Reference5Ideal.Read
public import proofs.«01_k».proof.Proof.Attention
public import proofs.«01_k».proof.Proof.MixHead
public import proofs.«01_k».proof.Proof.Memory
public import proofs.«01_k».proof.Proof.XAttention
public import proofs.«01_k».proof.Proof.Experts
public import proofs.«01_k».proof.Proof.ExpSame
public import Idealize.ShloMosaic.Adequacy
public import Idealize.ShloMosaic.Init

@[expose] public section

noncomputable section

namespace Cert.Proof

open Idealize.ShloMosaic Idealize.SL.Sem

/-- The reference runs and leaves its arguments; it has no semaphores, so their counters stay at zero. -/
theorem frame_ref : Cert.quiescent_ReferenceIdeal := by
  intro m g _
  exact (θ_run Cert.ReferenceIdeal.defs _ _).mono
    (fun r h => ⟨fun c => (h c).2, sem_eq_zero_of_no_sems (by decide) r.2⟩)
    (Cert.ReferenceIdeal.Value.run m g)

/-- The mixing's reference runs and leaves its arguments. -/
theorem frame_ref2 : Cert.quiescent_Reference2Ideal := by
  intro m g _
  exact (θ_run Cert.Reference2Ideal.defs _ _).mono
    (fun r h => ⟨fun c => (h c).2.2.2.2.2, sem_eq_zero_of_no_sems (by decide) r.2⟩)
    (Cert.Reference2Ideal.Value.run m g)

/-- The memory's reference runs and leaves its arguments. -/
theorem frame_ref3 : Cert.quiescent_Reference3Ideal := by
  intro m g _
  exact (θ_run Cert.Reference3Ideal.defs _ _).mono
    (fun r h => ⟨fun c => (h c).2.2, sem_eq_zero_of_no_sems (by decide) r.2⟩)
    (Cert.Reference3Ideal.Value.run m g)

/-- The reference of the attention to the memory runs and leaves its arguments. -/
theorem frame_ref4 : Cert.quiescent_Reference4Ideal := by
  intro m g _
  exact (θ_run Cert.Reference4Ideal.defs _ _).mono
    (fun r h => ⟨fun c => (h c).2, sem_eq_zero_of_no_sems (by decide) r.2⟩)
    (Cert.Reference4Ideal.Value.run m g)

/-- The experts' reference runs and leaves its arguments. -/
theorem frame_ref5 : Cert.quiescent_Reference5Ideal := by
  intro m g _
  exact (θ_run Cert.Reference5Ideal.defs _ _).mono
    (fun r h => ⟨fun c => (h c).2, sem_eq_zero_of_no_sems (by decide) r.2⟩)
    (Cert.Reference5Ideal.Value.run m g)

/-- The experts' kernel over the extended reals runs and leaves its arguments. -/
theorem frame_kernel5Ideal : Cert.quiescent_Kernel5Ideal := fun m ρ h =>
  have hb := Cert.Pre_tiles_in_range.Val.bounds _ _ _ _ _ _ _ _ _ (h 0)
  have hR := Cert.Kernel5Ideal.Run.inRange m hb.2
  Cert.Kernel5Ideal.Run.unchanged m ρ (Cert.Kernel5Ideal.Run.ok m hb.1 hR) hR

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite_inputs.Val.facts, Cert.Pre_finite_memory.Val.facts, Cert.Pre_tiles_in_range.Val.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  fun m ρ _ => Cert.Kernel2.Gen.frame m ρ, fun m ρ _ => Cert.Kernel2Ideal.Gen.frame m ρ, frame_ref2,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, fun m ρ _ => Cert.Kernel4Ideal.Gen.frame m ρ,
  frame_ref4, fun m ρ _ => frame_ref4 m ρ trivial,
  Cert.Layer.frame_kernel5, frame_kernel5Ideal, frame_ref5, fun m ρ _ => frame_ref5 m ρ trivial,
  IdealRules.named_const.statement Cert.KernelIdeal.κ "mask" .f32 0xF149F2CA#32 _ rfl,
  Cert.Attn.algebraic,
  trivial, Cert.Layer.mixing,
  trivial, Cert.Layer.memory,
  trivial, Cert.Layer.attention,
  trivial, Cert.Layer.experts⟩

end Cert.Proof

end
